-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v31_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S10x3072x20x96 : Shape := ⟨4, ![10, 3072, 20, 96]⟩
abbrev S10x3072x20x3 : Shape := ⟨4, ![10, 3072, 20, 3]⟩
abbrev S10x3072x20x128 : Shape := ⟨4, ![10, 3072, 20, 128]⟩
abbrev S10x3072x20 : Shape := ⟨3, ![10, 3072, 20]⟩
abbrev S10x20x96x128 : Shape := ⟨4, ![10, 20, 96, 128]⟩
abbrev S_ : Shape := ⟨0, ![]⟩

class Facts : Prop where
  bcast_S_S10x3072x20x96 : S_.BroadcastsInDim S10x3072x20x96 (![] : Fin 0 → Fin S10x3072x20x96.rank)
  reducesTo_S10x3072x20x96_S_d0_1_2_3 : S10x3072x20x96.ReducesTo [0, 1, 2, 3] S_
  h_S_ : 0 < S_.numel
  bcast_S_S10x3072x20x3 : S_.BroadcastsInDim S10x3072x20x3 (![] : Fin 0 → Fin S10x3072x20x3.rank)
  reducesTo_S10x3072x20x3_S_d0_1_2_3 : S10x3072x20x3.ReducesTo [0, 1, 2, 3] S_
  bcast_S_S10x3072x20x128 : S_.BroadcastsInDim S10x3072x20x128 (![] : Fin 0 → Fin S10x3072x20x128.rank)
  reducesTo_S10x3072x20x128_S_d0_1_2_3 : S10x3072x20x128.ReducesTo [0, 1, 2, 3] S_
  bcast_S_S10x3072x20 : S_.BroadcastsInDim S10x3072x20 (![] : Fin 0 → Fin S10x3072x20.rank)
  reducesTo_S10x3072x20_S_d0_1_2 : S10x3072x20.ReducesTo [0, 1, 2] S_
  bcast_S_S10x20x96x128 : S_.BroadcastsInDim S10x20x96x128 (![] : Fin 0 → Fin S10x20x96x128.rank)
  reducesTo_S10x20x96x128_S_d0_1_2_3 : S10x20x96x128.ReducesTo [0, 1, 2, 3] S_

variable [Facts]

def fn_part2 {F : FTy → Type} [FloatOps F] (main_arg7 : FVec F S10x20x96x128 .f32) (main_v32 : IVec S_ 1) (main_v33 : FVec F S10x3072x20 .f32) : IVec S_ 1 :=
  let main_cst_12 : FVec F S_ .f32 := constant S_ .f32 0x7F800000#32
  let main_v34 : FVec F S10x3072x20 .f32 := broadcastInDim S10x3072x20 ![] bcast_S_S10x3072x20 main_cst_12
  let main_v35 : IVec S10x3072x20 1 := cmpf .olt main_v33 main_v34
  let main_c_13 : IVec S_ 1 := constantI S_ 1 1#1
  let main_v36 : IVec S_ 1 := (fun x v => Host.reduce IntOp.andi x v reducesTo_S10x3072x20_S_d0_1_2 h_S_) main_v35 main_c_13
  let main_v37 : IVec S_ 1 := andi main_v32 main_v36
  let main_v38 : FVec F S10x20x96x128 .f32 := Host.absf main_arg7
  let main_cst_14 : FVec F S_ .f32 := constant S_ .f32 0x7F800000#32
  let main_v39 : FVec F S10x20x96x128 .f32 := broadcastInDim S10x20x96x128 ![] bcast_S_S10x20x96x128 main_cst_14
  let main_v40 : IVec S10x20x96x128 1 := cmpf .olt main_v38 main_v39
  let main_c_15 : IVec S_ 1 := constantI S_ 1 1#1
  let main_v41 : IVec S_ 1 := (fun x v => Host.reduce IntOp.andi x v reducesTo_S10x20x96x128_S_d0_1_2_3 h_S_) main_v40 main_c_15
  let main_v42 : IVec S_ 1 := andi main_v37 main_v41
  main_v42

def fn_part1 {F : FTy → Type} [FloatOps F] (main_arg3 : IVec S10x3072x20x3 8) (main_arg4 : FVec F S10x3072x20x128 .bf16) (main_arg5 : FVec F S10x3072x20x96 .f32) (main_arg6 : FVec F S10x3072x20 .f32) (main_arg7 : FVec F S10x20x96x128 .f32) (main_v15 : IVec S_ 1) (main_c_5 : IVec S_ 8) : IVec S_ 1 :=
  let main_v16 : IVec S10x3072x20x3 8 := broadcastInDim S10x3072x20x3 ![] bcast_S_S10x3072x20x3 main_c_5
  let main_v17 : IVec S10x3072x20x3 1 := cmpi .uge main_arg3 main_v16
  let main_c_6 : IVec S_ 8 := constantI S_ 8 254#8
  let main_v18 : IVec S10x3072x20x3 8 := broadcastInDim S10x3072x20x3 ![] bcast_S_S10x3072x20x3 main_c_6
  let main_v19 : IVec S10x3072x20x3 1 := cmpi .ule main_arg3 main_v18
  let main_v20 : IVec S10x3072x20x3 1 := andi main_v17 main_v19
  let main_c_7 : IVec S_ 1 := constantI S_ 1 1#1
  let main_v21 : IVec S_ 1 := (fun x v => Host.reduce IntOp.andi x v reducesTo_S10x3072x20x3_S_d0_1_2_3 h_S_) main_v20 main_c_7
  let main_v22 : IVec S_ 1 := andi main_v15 main_v21
  let main_v23 : FVec F S10x3072x20x128 .bf16 := Host.absf main_arg4
  let main_cst_8 : FVec F S_ .bf16 := constant S_ .bf16 0x7F80#16
  let main_v24 : FVec F S10x3072x20x128 .bf16 := broadcastInDim S10x3072x20x128 ![] bcast_S_S10x3072x20x128 main_cst_8
  let main_v25 : IVec S10x3072x20x128 1 := cmpf .olt main_v23 main_v24
  let main_c_9 : IVec S_ 1 := constantI S_ 1 1#1
  let main_v26 : IVec S_ 1 := (fun x v => Host.reduce IntOp.andi x v reducesTo_S10x3072x20x128_S_d0_1_2_3 h_S_) main_v25 main_c_9
  let main_v27 : IVec S_ 1 := andi main_v22 main_v26
  let main_v28 : FVec F S10x3072x20x96 .f32 := Host.absf main_arg5
  let main_cst_10 : FVec F S_ .f32 := constant S_ .f32 0x7F800000#32
  let main_v29 : FVec F S10x3072x20x96 .f32 := broadcastInDim S10x3072x20x96 ![] bcast_S_S10x3072x20x96 main_cst_10
  let main_v30 : IVec S10x3072x20x96 1 := cmpf .olt main_v28 main_v29
  let main_c_11 : IVec S_ 1 := constantI S_ 1 1#1
  let main_v31 : IVec S_ 1 := (fun x v => Host.reduce IntOp.andi x v reducesTo_S10x3072x20x96_S_d0_1_2_3 h_S_) main_v30 main_c_11
  let main_v32 : IVec S_ 1 := andi main_v27 main_v31
  let main_v33 : FVec F S10x3072x20 .f32 := Host.absf main_arg6
  fn_part2 (F := F) main_arg7 main_v32 main_v33

def fn {F : FTy → Type} [FloatOps F] (main_arg0 : FVec F S10x3072x20x96 .f32) (main_arg1 : IVec S10x3072x20x3 8) (main_arg2 : FVec F S10x3072x20x96 .f32) (main_arg3 : IVec S10x3072x20x3 8) (main_arg4 : FVec F S10x3072x20x128 .bf16) (main_arg5 : FVec F S10x3072x20x96 .f32) (main_arg6 : FVec F S10x3072x20 .f32) (main_arg7 : FVec F S10x20x96x128 .f32) : IVec S_ 1 :=
  let main_v0 : FVec F S10x3072x20x96 .f32 := Host.absf main_arg0
  let main_cst : FVec F S_ .f32 := constant S_ .f32 0x7F800000#32
  let main_v1 : FVec F S10x3072x20x96 .f32 := broadcastInDim S10x3072x20x96 ![] bcast_S_S10x3072x20x96 main_cst
  let main_v2 : IVec S10x3072x20x96 1 := cmpf .olt main_v0 main_v1
  let main_c : IVec S_ 1 := constantI S_ 1 1#1
  let main_v3 : IVec S_ 1 := (fun x v => Host.reduce IntOp.andi x v reducesTo_S10x3072x20x96_S_d0_1_2_3 h_S_) main_v2 main_c
  let main_c_0 : IVec S_ 8 := constantI S_ 8 1#8
  let main_v4 : IVec S10x3072x20x3 8 := broadcastInDim S10x3072x20x3 ![] bcast_S_S10x3072x20x3 main_c_0
  let main_v5 : IVec S10x3072x20x3 1 := cmpi .uge main_arg1 main_v4
  let main_c_1 : IVec S_ 8 := constantI S_ 8 254#8
  let main_v6 : IVec S10x3072x20x3 8 := broadcastInDim S10x3072x20x3 ![] bcast_S_S10x3072x20x3 main_c_1
  let main_v7 : IVec S10x3072x20x3 1 := cmpi .ule main_arg1 main_v6
  let main_v8 : IVec S10x3072x20x3 1 := andi main_v5 main_v7
  let main_c_2 : IVec S_ 1 := constantI S_ 1 1#1
  let main_v9 : IVec S_ 1 := (fun x v => Host.reduce IntOp.andi x v reducesTo_S10x3072x20x3_S_d0_1_2_3 h_S_) main_v8 main_c_2
  let main_v10 : IVec S_ 1 := andi main_v3 main_v9
  let main_v11 : FVec F S10x3072x20x96 .f32 := Host.absf main_arg2
  let main_cst_3 : FVec F S_ .f32 := constant S_ .f32 0x7F800000#32
  let main_v12 : FVec F S10x3072x20x96 .f32 := broadcastInDim S10x3072x20x96 ![] bcast_S_S10x3072x20x96 main_cst_3
  let main_v13 : IVec S10x3072x20x96 1 := cmpf .olt main_v11 main_v12
  let main_c_4 : IVec S_ 1 := constantI S_ 1 1#1
  let main_v14 : IVec S_ 1 := (fun x v => Host.reduce IntOp.andi x v reducesTo_S10x3072x20x96_S_d0_1_2_3 h_S_) main_v13 main_c_4
  let main_v15 : IVec S_ 1 := andi main_v10 main_v14
  let main_c_5 : IVec S_ 8 := constantI S_ 8 1#8
  fn_part1 (F := F) main_arg3 main_arg4 main_arg5 main_arg6 main_arg7 main_v15 main_c_5
-- ==== Kernel.lean ====
abbrev S10x3072x20x96 : Shape := ⟨4, ![10, 3072, 20, 96]⟩
abbrev S10x3072x20x3 : Shape := ⟨4, ![10, 3072, 20, 3]⟩
abbrev S10x3072x20x128 : Shape := ⟨4, ![10, 3072, 20, 128]⟩
abbrev S10x3072x20 : Shape := ⟨3, ![10, 3072, 20]⟩
abbrev S10x20x96x128 : Shape := ⟨4, ![10, 20, 96, 128]⟩
abbrev S10x20x96x3072 : Shape := ⟨4, ![10, 20, 96, 3072]⟩
abbrev S10x20x3072x128 : Shape := ⟨4, ![10, 20, 3072, 128]⟩
abbrev S10x20x3072 : Shape := ⟨3, ![10, 20, 3072]⟩
abbrev S10x2x10x3072 : Shape := ⟨4, ![10, 2, 10, 3072]⟩
abbrev S10x3x20x3072 : Shape := ⟨4, ![10, 3, 20, 3072]⟩
abbrev S10x3x2x10x3072 : Shape := ⟨5, ![10, 3, 2, 10, 3072]⟩
abbrev S10x2x3x10x3072 : Shape := ⟨5, ![10, 2, 3, 10, 3072]⟩
abbrev S128x128 : Shape := ⟨2, ![128, 128]⟩
abbrev S_ : Shape := ⟨0, ![]⟩
abbrev S128x256 : Shape := ⟨2, ![128, 256]⟩
abbrev S384x256 : Shape := ⟨2, ![384, 256]⟩
abbrev S10x3072x2560 : Shape := ⟨3, ![10, 3072, 2560]⟩
abbrev S1x10x96x128 : Shape := ⟨4, ![1, 10, 96, 128]⟩
abbrev S1x1x3x10x128 : Shape := ⟨5, ![1, 1, 3, 10, 128]⟩
abbrev S1x1x10x128 : Shape := ⟨4, ![1, 1, 10, 128]⟩
abbrev S1x10x128x128 : Shape := ⟨4, ![1, 10, 128, 128]⟩
abbrev S1x128x1280 : Shape := ⟨3, ![1, 128, 1280]⟩
abbrev S10x2x128x128 : Shape := ⟨4, ![10, 2, 128, 128]⟩
abbrev S10x2x3x64x128 : Shape := ⟨5, ![10, 2, 3, 64, 128]⟩
abbrev S10x2x2x96x128 : Shape := ⟨5, ![10, 2, 2, 96, 128]⟩
abbrev S10x2x96x128 : Shape := ⟨4, ![10, 2, 96, 128]⟩
abbrev S1x1x1x10x128 : Shape := ⟨5, ![1, 1, 1, 10, 128]⟩
abbrev S10x128 : Shape := ⟨2, ![10, 128]⟩
abbrev S128x10 : Shape := ⟨2, ![128, 10]⟩
abbrev S64x128 : Shape := ⟨2, ![64, 128]⟩
abbrev S1x1x96x128 : Shape := ⟨4, ![1, 1, 96, 128]⟩
abbrev S96x128 : Shape := ⟨2, ![96, 128]⟩
abbrev S1x1x128x128 : Shape := ⟨4, ![1, 1, 128, 128]⟩
abbrev S32x128 : Shape := ⟨2, ![32, 128]⟩
abbrev S256x128 : Shape := ⟨2, ![256, 128]⟩
abbrev S256x256 : Shape := ⟨2, ![256, 256]⟩
abbrev S1x1x64x128 : Shape := ⟨4, ![1, 1, 64, 128]⟩
abbrev S1x1x1x64x128 : Shape := ⟨5, ![1, 1, 1, 64, 128]⟩
abbrev S64x256 : Shape := ⟨2, ![64, 256]⟩
abbrev S64x1 : Shape := ⟨2, ![64, 1]⟩
abbrev S1x1x1x96x128 : Shape := ⟨5, ![1, 1, 1, 96, 128]⟩
abbrev S96x256 : Shape := ⟨2, ![96, 256]⟩
abbrev S224x256 : Shape := ⟨2, ![224, 256]⟩
abbrev S224x128 : Shape := ⟨2, ![224, 128]⟩
abbrev S1x64x128 : Shape := ⟨3, ![1, 64, 128]⟩
abbrev S1x128 : Shape := ⟨2, ![1, 128]⟩
abbrev S96x384 : Shape := ⟨2, ![96, 384]⟩
abbrev S96x1 : Shape := ⟨2, ![96, 1]⟩
abbrev S1x1x1x128 : Shape := ⟨4, ![1, 1, 1, 128]⟩
abbrev S8x128 : Shape := ⟨2, ![8, 128]⟩
abbrev S8x128x1 : Shape := ⟨3, ![8, 128, 1]⟩
abbrev S32x256 : Shape := ⟨2, ![32, 256]⟩

abbrev nBuf : Space → Nat
  | .hbm => 70
  | .vmem => 28
  | .smem => 0
  | _ => 0

abbrev bufTy : (tb : Table) → Fin (tcTables nBuf tb) → BufTy
  | .hbm, ⟨0, _⟩ => ⟨S10x3072x20x96, .f32⟩
  | .hbm, ⟨1, _⟩ => ⟨S10x3072x20x3, .i8⟩
  | .hbm, ⟨2, _⟩ => ⟨S10x3072x20x96, .f32⟩
  | .hbm, ⟨3, _⟩ => ⟨S10x3072x20x3, .i8⟩
  | .hbm, ⟨4, _⟩ => ⟨S10x3072x20x128, .bf16⟩
  | .hbm, ⟨5, _⟩ => ⟨S10x3072x20x96, .f32⟩
  | .hbm, ⟨6, _⟩ => ⟨S10x3072x20, .f32⟩
  | .hbm, ⟨7, _⟩ => ⟨S10x20x96x128, .f32⟩
  | .hbm, ⟨8, _⟩ => ⟨S10x3072x20x96, .fp8e4m3⟩
  | .hbm, ⟨9, _⟩ => ⟨S10x3072x20x96, .fp8e4m3⟩
  | .hbm, ⟨10, _⟩ => ⟨S10x20x96x3072, .fp8e4m3⟩
  | .hbm, ⟨11, _⟩ => ⟨S10x20x96x3072, .fp8e4m3⟩
  | .hbm, ⟨12, _⟩ => ⟨S10x20x96x3072, .f32⟩
  | .hbm, ⟨13, _⟩ => ⟨S10x20x3072x128, .bf16⟩
  | .hbm, ⟨14, _⟩ => ⟨S10x20x3072, .f32⟩
  | .hbm, ⟨15, _⟩ => ⟨S10x2x10x3072, .f32⟩
  | .hbm, ⟨16, _⟩ => ⟨S10x3x20x3072, .i8⟩
  | .hbm, ⟨17, _⟩ => ⟨S10x3x2x10x3072, .i8⟩
  | .hbm, ⟨18, _⟩ => ⟨S10x2x3x10x3072, .i8⟩
  | .hbm, ⟨19, _⟩ => ⟨S10x3x20x3072, .i8⟩
  | .hbm, ⟨20, _⟩ => ⟨S10x3x2x10x3072, .i8⟩
  | .hbm, ⟨21, _⟩ => ⟨S10x2x3x10x3072, .i8⟩
  | .hbm, ⟨22, _⟩ => ⟨S128x128, .i32⟩
  | .hbm, ⟨23, _⟩ => ⟨S128x128, .i32⟩
  | .hbm, ⟨24, _⟩ => ⟨S_, .i32⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S_, .i32⟩
  | .hbm, ⟨30, _⟩ => ⟨S128x128, .i32⟩
  | .hbm, ⟨31, _⟩ => ⟨S128x128, .i1⟩
  | .hbm, ⟨32, _⟩ => ⟨S128x128, .i32⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i1⟩
  | .hbm, ⟨37, _⟩ => ⟨S128x128, .i1⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S_, .i32⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i1⟩
  | .hbm, ⟨50, _⟩ => ⟨S128x128, .i32⟩
  | .hbm, ⟨51, _⟩ => ⟨S128x128, .i32⟩
  | .hbm, ⟨52, _⟩ => ⟨S_, .i32⟩
  | .hbm, ⟨53, _⟩ => ⟨S128x128, .i32⟩
  | .hbm, ⟨54, _⟩ => ⟨S128x128, .i1⟩
  | .hbm, ⟨55, _⟩ => ⟨S128x128, .i1⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S128x128, .i1⟩
  | .hbm, ⟨62, _⟩ => ⟨S128x128, .i1⟩
  | .hbm, ⟨63, _⟩ => ⟨S128x128, .i1⟩
  | .hbm, ⟨64, _⟩ => ⟨S128x128, .i1⟩
  | .hbm, ⟨65, _⟩ => ⟨S128x256, .i1⟩
  | .hbm, ⟨66, _⟩ => ⟨S128x256, .bf16⟩
  | .hbm, ⟨67, _⟩ => ⟨S384x256, .bf16⟩
  | .hbm, ⟨68, _⟩ => ⟨S10x3072x2560, .bf16⟩
  | .hbm, ⟨69, _⟩ => ⟨S10x20x96x128, .f32⟩
  | .local _ .vmem, ⟨0, _⟩ => ⟨S1x10x96x128, .fp8e4m3⟩
  | .local _ .vmem, ⟨1, _⟩ => ⟨S1x10x96x128, .fp8e4m3⟩
  | .local _ .vmem, ⟨2, _⟩ => ⟨S1x1x3x10x128, .i8⟩
  | .local _ .vmem, ⟨3, _⟩ => ⟨S1x1x3x10x128, .i8⟩
  | .local _ .vmem, ⟨4, _⟩ => ⟨S1x10x96x128, .fp8e4m3⟩
  | .local _ .vmem, ⟨5, _⟩ => ⟨S1x10x96x128, .fp8e4m3⟩
  | .local _ .vmem, ⟨6, _⟩ => ⟨S1x1x3x10x128, .i8⟩
  | .local _ .vmem, ⟨7, _⟩ => ⟨S1x1x3x10x128, .i8⟩
  | .local _ .vmem, ⟨8, _⟩ => ⟨S1x10x96x128, .f32⟩
  | .local _ .vmem, ⟨9, _⟩ => ⟨S1x10x96x128, .f32⟩
  | .local _ .vmem, ⟨10, _⟩ => ⟨S1x1x10x128, .f32⟩
  | .local _ .vmem, ⟨11, _⟩ => ⟨S1x1x10x128, .f32⟩
  | .local _ .vmem, ⟨12, _⟩ => ⟨S384x256, .bf16⟩
  | .local _ .vmem, ⟨13, _⟩ => ⟨S1x10x128x128, .bf16⟩
  | .local _ .vmem, ⟨14, _⟩ => ⟨S1x10x128x128, .bf16⟩
  | .local _ .vmem, ⟨15, _⟩ => ⟨S1x1x10x128, .f32⟩
  | .local _ .vmem, ⟨16, _⟩ => ⟨S1x1x10x128, .f32⟩
  | .local _ .vmem, ⟨17, _⟩ => ⟨S1x10x96x128, .f32⟩
  | .local _ .vmem, ⟨18, _⟩ => ⟨S1x10x96x128, .f32⟩
  | .local _ .vmem, ⟨19, _⟩ => ⟨S1x128x1280, .bf16⟩
  | .local _ .vmem, ⟨20, _⟩ => ⟨S1x128x1280, .bf16⟩
  | .local _ .vmem, ⟨21, _⟩ => ⟨S1x10x96x128, .f32⟩
  | .local _ .vmem, ⟨22, _⟩ => ⟨S1x10x96x128, .f32⟩
  | .local _ .vmem, ⟨23, _⟩ => ⟨S10x2x128x128, .bf16⟩
  | .local _ .vmem, ⟨24, _⟩ => ⟨S10x2x3x64x128, .bf16⟩
  | .local _ .vmem, ⟨25, _⟩ => ⟨S10x2x3x64x128, .bf16⟩
  | .local _ .vmem, ⟨26, _⟩ => ⟨S10x2x2x96x128, .bf16⟩
  | .local _ .vmem, ⟨27, _⟩ => ⟨S10x2x96x128, .f32⟩
  | _, _ => ⟨S10x3072x20x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v16 : Ref sig .tc := ⟨.hbm, 41, rfl⟩
abbrev main_c_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26_0 : Ref sig .tc := ⟨.hbm, 68, rfl⟩
abbrev main_v26_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![481], ![false]⟩

def cc0_transform_0 (i : grid0.Coords) : Fin 4 → Nat :=
  let arg0 : BitVec 32 := BitVec.ofNat 32 (i 0).val
  let c479_i32 : BitVec 32 := 479#32
  let v0 : BitVec 32 := Scalar.minsi arg0 c479_i32
  let c48_i32 : BitVec 32 := 48#32
  let v1 : BitVec 32 := Scalar.divsi v0 c48_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c48_i32 c0_i32_1
  let v8 : BitVec 32 := Scalar.extui v7
  let c0_i32_2 : BitVec 32 := 0#32
  let v9 : BitVec 1 := Scalar.cmpi .slt c48_i32 c0_i32_2
  let v10 : BitVec 32 := Scalar.extui v9
  let v11 : BitVec 32 := Scalar.subi v8 v10
  let v12 : BitVec 1 := Scalar.cmpi .ne v6 v11
  let v13 : BitVec 32 := Scalar.remsi v0 c48_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32 : BitVec 32 := 24#32
  let v18 : BitVec 32 := Scalar.divsi v0 c24_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c24_i32 c0_i32_6
  let v25 : BitVec 32 := Scalar.extui v24
  let c0_i32_7 : BitVec 32 := 0#32
  let v26 : BitVec 1 := Scalar.cmpi .slt c24_i32 c0_i32_7
  let v27 : BitVec 32 := Scalar.extui v26
  let v28 : BitVec 32 := Scalar.subi v25 v27
  let v29 : BitVec 1 := Scalar.cmpi .ne v23 v28
  let v30 : BitVec 32 := Scalar.remsi v0 c24_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c24_i32_15 : BitVec 32 := 24#32
  let c0_i32_16 : BitVec 32 := 0#32
  let v45 : BitVec 1 := Scalar.cmpi .eq c24_i32_15 c0_i32_16
  let c1_i32_17 : BitVec 32 := 1#32
  let v46 : BitVec 32 := Scalar.select v45 c1_i32_17 c24_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  ![v17.toNat, v44.toNat, c0_i32_21.toNat, v54.toNat]

def cc0_transform_1 (i : grid0.Coords) : Fin 5 → Nat :=
  let arg0 : BitVec 32 := BitVec.ofNat 32 (i 0).val
  let c479_i32 : BitVec 32 := 479#32
  let v0 : BitVec 32 := Scalar.minsi arg0 c479_i32
  let c48_i32 : BitVec 32 := 48#32
  let v1 : BitVec 32 := Scalar.divsi v0 c48_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c48_i32 c0_i32_1
  let v8 : BitVec 32 := Scalar.extui v7
  let c0_i32_2 : BitVec 32 := 0#32
  let v9 : BitVec 1 := Scalar.cmpi .slt c48_i32 c0_i32_2
  let v10 : BitVec 32 := Scalar.extui v9
  let v11 : BitVec 32 := Scalar.subi v8 v10
  let v12 : BitVec 1 := Scalar.cmpi .ne v6 v11
  let v13 : BitVec 32 := Scalar.remsi v0 c48_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32 : BitVec 32 := 24#32
  let v18 : BitVec 32 := Scalar.divsi v0 c24_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c24_i32 c0_i32_6
  let v25 : BitVec 32 := Scalar.extui v24
  let c0_i32_7 : BitVec 32 := 0#32
  let v26 : BitVec 1 := Scalar.cmpi .slt c24_i32 c0_i32_7
  let v27 : BitVec 32 := Scalar.extui v26
  let v28 : BitVec 32 := Scalar.subi v25 v27
  let v29 : BitVec 1 := Scalar.cmpi .ne v23 v28
  let v30 : BitVec 32 := Scalar.remsi v0 c24_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c24_i32_15 : BitVec 32 := 24#32
  let c0_i32_16 : BitVec 32 := 0#32
  let v45 : BitVec 1 := Scalar.cmpi .eq c24_i32_15 c0_i32_16
  let c1_i32_17 : BitVec 32 := 1#32
  let v46 : BitVec 32 := Scalar.select v45 c1_i32_17 c24_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  let c0_i32_23 : BitVec 32 := 0#32
  ![v17.toNat, v44.toNat, c0_i32_21.toNat, c0_i32_22.toNat, v54.toNat]

def cc0_transform_2 (i : grid0.Coords) : Fin 4 → Nat :=
  let arg0 : BitVec 32 := BitVec.ofNat 32 (i 0).val
  let c479_i32 : BitVec 32 := 479#32
  let v0 : BitVec 32 := Scalar.minsi arg0 c479_i32
  let c48_i32 : BitVec 32 := 48#32
  let v1 : BitVec 32 := Scalar.divsi v0 c48_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c48_i32 c0_i32_1
  let v8 : BitVec 32 := Scalar.extui v7
  let c0_i32_2 : BitVec 32 := 0#32
  let v9 : BitVec 1 := Scalar.cmpi .slt c48_i32 c0_i32_2
  let v10 : BitVec 32 := Scalar.extui v9
  let v11 : BitVec 32 := Scalar.subi v8 v10
  let v12 : BitVec 1 := Scalar.cmpi .ne v6 v11
  let v13 : BitVec 32 := Scalar.remsi v0 c48_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32 : BitVec 32 := 24#32
  let v18 : BitVec 32 := Scalar.divsi v0 c24_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c24_i32 c0_i32_6
  let v25 : BitVec 32 := Scalar.extui v24
  let c0_i32_7 : BitVec 32 := 0#32
  let v26 : BitVec 1 := Scalar.cmpi .slt c24_i32 c0_i32_7
  let v27 : BitVec 32 := Scalar.extui v26
  let v28 : BitVec 32 := Scalar.subi v25 v27
  let v29 : BitVec 1 := Scalar.cmpi .ne v23 v28
  let v30 : BitVec 32 := Scalar.remsi v0 c24_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c24_i32_15 : BitVec 32 := 24#32
  let c0_i32_16 : BitVec 32 := 0#32
  let v45 : BitVec 1 := Scalar.cmpi .eq c24_i32_15 c0_i32_16
  let c1_i32_17 : BitVec 32 := 1#32
  let v46 : BitVec 32 := Scalar.select v45 c1_i32_17 c24_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  ![v17.toNat, v44.toNat, c0_i32_21.toNat, v54.toNat]

def cc0_transform_3 (i : grid0.Coords) : Fin 5 → Nat :=
  let arg0 : BitVec 32 := BitVec.ofNat 32 (i 0).val
  let c479_i32 : BitVec 32 := 479#32
  let v0 : BitVec 32 := Scalar.minsi arg0 c479_i32
  let c48_i32 : BitVec 32 := 48#32
  let v1 : BitVec 32 := Scalar.divsi v0 c48_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c48_i32 c0_i32_1
  let v8 : BitVec 32 := Scalar.extui v7
  let c0_i32_2 : BitVec 32 := 0#32
  let v9 : BitVec 1 := Scalar.cmpi .slt c48_i32 c0_i32_2
  let v10 : BitVec 32 := Scalar.extui v9
  let v11 : BitVec 32 := Scalar.subi v8 v10
  let v12 : BitVec 1 := Scalar.cmpi .ne v6 v11
  let v13 : BitVec 32 := Scalar.remsi v0 c48_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32 : BitVec 32 := 24#32
  let v18 : BitVec 32 := Scalar.divsi v0 c24_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c24_i32 c0_i32_6
  let v25 : BitVec 32 := Scalar.extui v24
  let c0_i32_7 : BitVec 32 := 0#32
  let v26 : BitVec 1 := Scalar.cmpi .slt c24_i32 c0_i32_7
  let v27 : BitVec 32 := Scalar.extui v26
  let v28 : BitVec 32 := Scalar.subi v25 v27
  let v29 : BitVec 1 := Scalar.cmpi .ne v23 v28
  let v30 : BitVec 32 := Scalar.remsi v0 c24_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c24_i32_15 : BitVec 32 := 24#32
  let c0_i32_16 : BitVec 32 := 0#32
  let v45 : BitVec 1 := Scalar.cmpi .eq c24_i32_15 c0_i32_16
  let c1_i32_17 : BitVec 32 := 1#32
  let v46 : BitVec 32 := Scalar.select v45 c1_i32_17 c24_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  let c0_i32_23 : BitVec 32 := 0#32
  ![v17.toNat, v44.toNat, c0_i32_21.toNat, c0_i32_22.toNat, v54.toNat]

def cc0_transform_4 (i : grid0.Coords) : Fin 4 → Nat :=
  let arg0 : BitVec 32 := BitVec.ofNat 32 (i 0).val
  let c479_i32 : BitVec 32 := 479#32
  let v0 : BitVec 32 := Scalar.minsi arg0 c479_i32
  let c48_i32 : BitVec 32 := 48#32
  let v1 : BitVec 32 := Scalar.divsi v0 c48_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c48_i32 c0_i32_1
  let v8 : BitVec 32 := Scalar.extui v7
  let c0_i32_2 : BitVec 32 := 0#32
  let v9 : BitVec 1 := Scalar.cmpi .slt c48_i32 c0_i32_2
  let v10 : BitVec 32 := Scalar.extui v9
  let v11 : BitVec 32 := Scalar.subi v8 v10
  let v12 : BitVec 1 := Scalar.cmpi .ne v6 v11
  let v13 : BitVec 32 := Scalar.remsi v0 c48_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32 : BitVec 32 := 24#32
  let v18 : BitVec 32 := Scalar.divsi v0 c24_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c24_i32 c0_i32_6
  let v25 : BitVec 32 := Scalar.extui v24
  let c0_i32_7 : BitVec 32 := 0#32
  let v26 : BitVec 1 := Scalar.cmpi .slt c24_i32 c0_i32_7
  let v27 : BitVec 32 := Scalar.extui v26
  let v28 : BitVec 32 := Scalar.subi v25 v27
  let v29 : BitVec 1 := Scalar.cmpi .ne v23 v28
  let v30 : BitVec 32 := Scalar.remsi v0 c24_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c24_i32_15 : BitVec 32 := 24#32
  let c0_i32_16 : BitVec 32 := 0#32
  let v45 : BitVec 1 := Scalar.cmpi .eq c24_i32_15 c0_i32_16
  let c1_i32_17 : BitVec 32 := 1#32
  let v46 : BitVec 32 := Scalar.select v45 c1_i32_17 c24_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  ![v17.toNat, v44.toNat, c0_i32_21.toNat, v54.toNat]

def cc0_transform_5 (i : grid0.Coords) : Fin 4 → Nat :=
  let arg0 : BitVec 32 := BitVec.ofNat 32 (i 0).val
  let c479_i32 : BitVec 32 := 479#32
  let v0 : BitVec 32 := Scalar.minsi arg0 c479_i32
  let c48_i32 : BitVec 32 := 48#32
  let v1 : BitVec 32 := Scalar.divsi v0 c48_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c48_i32 c0_i32_1
  let v8 : BitVec 32 := Scalar.extui v7
  let c0_i32_2 : BitVec 32 := 0#32
  let v9 : BitVec 1 := Scalar.cmpi .slt c48_i32 c0_i32_2
  let v10 : BitVec 32 := Scalar.extui v9
  let v11 : BitVec 32 := Scalar.subi v8 v10
  let v12 : BitVec 1 := Scalar.cmpi .ne v6 v11
  let v13 : BitVec 32 := Scalar.remsi v0 c48_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32 : BitVec 32 := 24#32
  let v18 : BitVec 32 := Scalar.divsi v0 c24_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c24_i32 c0_i32_6
  let v25 : BitVec 32 := Scalar.extui v24
  let c0_i32_7 : BitVec 32 := 0#32
  let v26 : BitVec 1 := Scalar.cmpi .slt c24_i32 c0_i32_7
  let v27 : BitVec 32 := Scalar.extui v26
  let v28 : BitVec 32 := Scalar.subi v25 v27
  let v29 : BitVec 1 := Scalar.cmpi .ne v23 v28
  let v30 : BitVec 32 := Scalar.remsi v0 c24_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c2_i32 : BitVec 32 := 2#32
  let c0_i32_10 : BitVec 32 := 0#32
  let v35 : BitVec 1 := Scalar.cmpi .eq c2_i32 c0_i32_10
  let c1_i32_11 : BitVec 32 := 1#32
  let v36 : BitVec 32 := Scalar.select v35 c1_i32_11 c2_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c24_i32_15 : BitVec 32 := 24#32
  let c0_i32_16 : BitVec 32 := 0#32
  let v45 : BitVec 1 := Scalar.cmpi .eq c24_i32_15 c0_i32_16
  let c1_i32_17 : BitVec 32 := 1#32
  let v46 : BitVec 32 := Scalar.select v45 c1_i32_17 c24_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  ![v17.toNat, v44.toNat, c0_i32_21.toNat, v54.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let v2 : BitVec 32 := Scalar.divsi v1 c48_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c48_i32 c0_i32_2
  let v9 : BitVec 32 := Scalar.extui v8
  let c0_i32_3 : BitVec 32 := 0#32
  let v10 : BitVec 1 := Scalar.cmpi .slt c48_i32 c0_i32_3
  let v11 : BitVec 32 := Scalar.extui v10
  let v12 : BitVec 32 := Scalar.subi v9 v11
  let v13 : BitVec 1 := Scalar.cmpi .ne v7 v12
  let v14 : BitVec 32 := Scalar.remsi v1 c48_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c24_i32 : BitVec 32 := 24#32
  let v19 : BitVec 32 := Scalar.divsi v1 c24_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c24_i32 c0_i32_8
  let v26 : BitVec 32 := Scalar.extui v25
  let c0_i32_9 : BitVec 32 := 0#32
  let v27 : BitVec 1 := Scalar.cmpi .slt c24_i32 c0_i32_9
  let v28 : BitVec 32 := Scalar.extui v27
  let v29 : BitVec 32 := Scalar.subi v26 v28
  let v30 : BitVec 1 := Scalar.cmpi .ne v24 v29
  let v31 : BitVec 32 := Scalar.remsi v1 c24_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c2_i32 : BitVec 32 := 2#32
  let c0_i32_12 : BitVec 32 := 0#32
  let v36 : BitVec 1 := Scalar.cmpi .eq c2_i32 c0_i32_12
  let c1_i32_13 : BitVec 32 := 1#32
  let v37 : BitVec 32 := Scalar.select v36 c1_i32_13 c2_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c24_i32_17 : BitVec 32 := 24#32
  let c0_i32_18 : BitVec 32 := 0#32
  let v46 : BitVec 1 := Scalar.cmpi .eq c24_i32_17 c0_i32_18
  let c1_i32_19 : BitVec 32 := 1#32
  let v47 : BitVec 32 := Scalar.select v46 c1_i32_19 c24_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  ![v18.toNat, v45.toNat, v55.toNat, c0_i32_23.toNat]

def cc0_transform_8 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let v2 : BitVec 32 := Scalar.divsi v1 c48_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c48_i32 c0_i32_2
  let v9 : BitVec 32 := Scalar.extui v8
  let c0_i32_3 : BitVec 32 := 0#32
  let v10 : BitVec 1 := Scalar.cmpi .slt c48_i32 c0_i32_3
  let v11 : BitVec 32 := Scalar.extui v10
  let v12 : BitVec 32 := Scalar.subi v9 v11
  let v13 : BitVec 1 := Scalar.cmpi .ne v7 v12
  let v14 : BitVec 32 := Scalar.remsi v1 c48_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c24_i32 : BitVec 32 := 24#32
  let v19 : BitVec 32 := Scalar.divsi v1 c24_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c24_i32 c0_i32_8
  let v26 : BitVec 32 := Scalar.extui v25
  let c0_i32_9 : BitVec 32 := 0#32
  let v27 : BitVec 1 := Scalar.cmpi .slt c24_i32 c0_i32_9
  let v28 : BitVec 32 := Scalar.extui v27
  let v29 : BitVec 32 := Scalar.subi v26 v28
  let v30 : BitVec 1 := Scalar.cmpi .ne v24 v29
  let v31 : BitVec 32 := Scalar.remsi v1 c24_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c2_i32 : BitVec 32 := 2#32
  let c0_i32_12 : BitVec 32 := 0#32
  let v36 : BitVec 1 := Scalar.cmpi .eq c2_i32 c0_i32_12
  let c1_i32_13 : BitVec 32 := 1#32
  let v37 : BitVec 32 := Scalar.select v36 c1_i32_13 c2_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c24_i32_17 : BitVec 32 := 24#32
  let c0_i32_18 : BitVec 32 := 0#32
  let v46 : BitVec 1 := Scalar.cmpi .eq c24_i32_17 c0_i32_18
  let c1_i32_19 : BitVec 32 := 1#32
  let v47 : BitVec 32 := Scalar.select v46 c1_i32_19 c24_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  ![v18.toNat, v45.toNat, c0_i32_23.toNat, v55.toNat]

def cc0_transform_9 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let v2 : BitVec 32 := Scalar.divsi v1 c48_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c48_i32 c0_i32_2
  let v9 : BitVec 32 := Scalar.extui v8
  let c0_i32_3 : BitVec 32 := 0#32
  let v10 : BitVec 1 := Scalar.cmpi .slt c48_i32 c0_i32_3
  let v11 : BitVec 32 := Scalar.extui v10
  let v12 : BitVec 32 := Scalar.subi v9 v11
  let v13 : BitVec 1 := Scalar.cmpi .ne v7 v12
  let v14 : BitVec 32 := Scalar.remsi v1 c48_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c24_i32 : BitVec 32 := 24#32
  let v19 : BitVec 32 := Scalar.divsi v1 c24_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c24_i32 c0_i32_8
  let v26 : BitVec 32 := Scalar.extui v25
  let c0_i32_9 : BitVec 32 := 0#32
  let v27 : BitVec 1 := Scalar.cmpi .slt c24_i32 c0_i32_9
  let v28 : BitVec 32 := Scalar.extui v27
  let v29 : BitVec 32 := Scalar.subi v26 v28
  let v30 : BitVec 1 := Scalar.cmpi .ne v24 v29
  let v31 : BitVec 32 := Scalar.remsi v1 c24_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c2_i32 : BitVec 32 := 2#32
  let c0_i32_12 : BitVec 32 := 0#32
  let v36 : BitVec 1 := Scalar.cmpi .eq c2_i32 c0_i32_12
  let c1_i32_13 : BitVec 32 := 1#32
  let v37 : BitVec 32 := Scalar.select v36 c1_i32_13 c2_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c24_i32_17 : BitVec 32 := 24#32
  let c0_i32_18 : BitVec 32 := 0#32
  let v46 : BitVec 1 := Scalar.cmpi .eq c24_i32_17 c0_i32_18
  let c1_i32_19 : BitVec 32 := 1#32
  let v47 : BitVec 32 := Scalar.select v46 c1_i32_19 c24_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  let c0_i32_25 : BitVec 32 := 0#32
  ![v18.toNat, v45.toNat, c0_i32_23.toNat, c0_i32_24.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let v2 : BitVec 32 := Scalar.divsi v1 c48_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c48_i32 c0_i32_2
  let v9 : BitVec 32 := Scalar.extui v8
  let c0_i32_3 : BitVec 32 := 0#32
  let v10 : BitVec 1 := Scalar.cmpi .slt c48_i32 c0_i32_3
  let v11 : BitVec 32 := Scalar.extui v10
  let v12 : BitVec 32 := Scalar.subi v9 v11
  let v13 : BitVec 1 := Scalar.cmpi .ne v7 v12
  let v14 : BitVec 32 := Scalar.remsi v1 c48_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c24_i32 : BitVec 32 := 24#32
  let v19 : BitVec 32 := Scalar.divsi v1 c24_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c24_i32 c0_i32_8
  let v26 : BitVec 32 := Scalar.extui v25
  let c0_i32_9 : BitVec 32 := 0#32
  let v27 : BitVec 1 := Scalar.cmpi .slt c24_i32 c0_i32_9
  let v28 : BitVec 32 := Scalar.extui v27
  let v29 : BitVec 32 := Scalar.subi v26 v28
  let v30 : BitVec 1 := Scalar.cmpi .ne v24 v29
  let v31 : BitVec 32 := Scalar.remsi v1 c24_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c2_i32 : BitVec 32 := 2#32
  let c0_i32_12 : BitVec 32 := 0#32
  let v36 : BitVec 1 := Scalar.cmpi .eq c2_i32 c0_i32_12
  let c1_i32_13 : BitVec 32 := 1#32
  let v37 : BitVec 32 := Scalar.select v36 c1_i32_13 c2_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c24_i32_17 : BitVec 32 := 24#32
  let c0_i32_18 : BitVec 32 := 0#32
  let v46 : BitVec 1 := Scalar.cmpi .eq c24_i32_17 c0_i32_18
  let c1_i32_19 : BitVec 32 := 1#32
  let v47 : BitVec 32 := Scalar.select v46 c1_i32_19 c24_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v18.toNat, v55.toNat, v45.toNat]

def cc0_transform_11 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let v2 : BitVec 32 := Scalar.divsi v1 c48_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c48_i32 c0_i32_2
  let v9 : BitVec 32 := Scalar.extui v8
  let c0_i32_3 : BitVec 32 := 0#32
  let v10 : BitVec 1 := Scalar.cmpi .slt c48_i32 c0_i32_3
  let v11 : BitVec 32 := Scalar.extui v10
  let v12 : BitVec 32 := Scalar.subi v9 v11
  let v13 : BitVec 1 := Scalar.cmpi .ne v7 v12
  let v14 : BitVec 32 := Scalar.remsi v1 c48_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c24_i32 : BitVec 32 := 24#32
  let v19 : BitVec 32 := Scalar.divsi v1 c24_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c24_i32 c0_i32_8
  let v26 : BitVec 32 := Scalar.extui v25
  let c0_i32_9 : BitVec 32 := 0#32
  let v27 : BitVec 1 := Scalar.cmpi .slt c24_i32 c0_i32_9
  let v28 : BitVec 32 := Scalar.extui v27
  let v29 : BitVec 32 := Scalar.subi v26 v28
  let v30 : BitVec 1 := Scalar.cmpi .ne v24 v29
  let v31 : BitVec 32 := Scalar.remsi v1 c24_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c2_i32 : BitVec 32 := 2#32
  let c0_i32_12 : BitVec 32 := 0#32
  let v36 : BitVec 1 := Scalar.cmpi .eq c2_i32 c0_i32_12
  let c1_i32_13 : BitVec 32 := 1#32
  let v37 : BitVec 32 := Scalar.select v36 c1_i32_13 c2_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c24_i32_17 : BitVec 32 := 24#32
  let c0_i32_18 : BitVec 32 := 0#32
  let v46 : BitVec 1 := Scalar.cmpi .eq c24_i32_17 c0_i32_18
  let c1_i32_19 : BitVec 32 := 1#32
  let v47 : BitVec 32 := Scalar.select v46 c1_i32_19 c24_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  let c0_i32_25 : BitVec 32 := 0#32
  ![v18.toNat, v45.toNat, c0_i32_23.toNat, c0_i32_24.toNat]

abbrev stage0_0 : Fin 2 → Memref sig .tc .vmem S1x10x96x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3x10x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x10x96x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3x10x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x10x96x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x10x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S384x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x10x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x10x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x10x96x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x10x96x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S10x3072x20x96 : Shape := ⟨4, ![10, 3072, 20, 96]⟩
abbrev S10x3072x20x3 : Shape := ⟨4, ![10, 3072, 20, 3]⟩
abbrev S10x3072x20x128 : Shape := ⟨4, ![10, 3072, 20, 128]⟩
abbrev S10x3072x20 : Shape := ⟨3, ![10, 3072, 20]⟩
abbrev S10x20x96x128 : Shape := ⟨4, ![10, 20, 96, 128]⟩
abbrev S_ : Shape := ⟨0, ![]⟩
abbrev S10x3072x20x3x32 : Shape := ⟨5, ![10, 3072, 20, 3, 32]⟩
abbrev S3072x10x20x96 : Shape := ⟨4, ![3072, 10, 20, 96]⟩
abbrev S3072x10x20x128 : Shape := ⟨4, ![3072, 10, 20, 128]⟩
abbrev S3072x10x20 : Shape := ⟨3, ![3072, 10, 20]⟩
abbrev S1x10x20x96 : Shape := ⟨4, ![1, 10, 20, 96]⟩
abbrev S10x20x96 : Shape := ⟨3, ![10, 20, 96]⟩
abbrev S1x10x20x128 : Shape := ⟨4, ![1, 10, 20, 128]⟩
abbrev S10x20x128 : Shape := ⟨3, ![10, 20, 128]⟩
abbrev S1x10x20 : Shape := ⟨3, ![1, 10, 20]⟩
abbrev S10x20 : Shape := ⟨2, ![10, 20]⟩
abbrev S10x20x96x1 : Shape := ⟨4, ![10, 20, 96, 1]⟩
abbrev S10x20x1 : Shape := ⟨3, ![10, 20, 1]⟩
abbrev S10x20x1x128 : Shape := ⟨4, ![10, 20, 1, 128]⟩
abbrev S10x3072x2560 : Shape := ⟨3, ![10, 3072, 2560]⟩

abbrev nBuf : Space → Nat
  | .hbm => 108
  | .vmem => 0
  | .smem => 0
  | _ => 0

abbrev bufTy : (tb : Table) → Fin (tcTables nBuf tb) → BufTy
  | .hbm, ⟨0, _⟩ => ⟨S10x3072x20x96, .f32⟩
  | .hbm, ⟨1, _⟩ => ⟨S10x3072x20x3, .i8⟩
  | .hbm, ⟨2, _⟩ => ⟨S10x3072x20x96, .f32⟩
  | .hbm, ⟨3, _⟩ => ⟨S10x3072x20x3, .i8⟩
  | .hbm, ⟨4, _⟩ => ⟨S10x3072x20x128, .bf16⟩
  | .hbm, ⟨5, _⟩ => ⟨S10x3072x20x96, .f32⟩
  | .hbm, ⟨6, _⟩ => ⟨S10x3072x20, .f32⟩
  | .hbm, ⟨7, _⟩ => ⟨S10x20x96x128, .f32⟩
  | .hbm, ⟨8, _⟩ => ⟨S10x3072x20x96, .bf16⟩
  | .hbm, ⟨9, _⟩ => ⟨S10x3072x20x3, .i32⟩
  | .hbm, ⟨10, _⟩ => ⟨S_, .i32⟩
  | .hbm, ⟨11, _⟩ => ⟨S10x3072x20x3, .i32⟩
  | .hbm, ⟨12, _⟩ => ⟨S10x3072x20x3, .i32⟩
  | .hbm, ⟨13, _⟩ => ⟨S10x3072x20x3, .f32⟩
  | .hbm, ⟨14, _⟩ => ⟨S_, .f32⟩
  | .hbm, ⟨15, _⟩ => ⟨S10x3072x20x3, .f32⟩
  | .hbm, ⟨16, _⟩ => ⟨S10x3072x20x3, .f32⟩
  | .hbm, ⟨17, _⟩ => ⟨S10x3072x20x3, .bf16⟩
  | .hbm, ⟨18, _⟩ => ⟨S10x3072x20x3x32, .bf16⟩
  | .hbm, ⟨19, _⟩ => ⟨S10x3072x20x96, .bf16⟩
  | .hbm, ⟨20, _⟩ => ⟨S10x3072x20x96, .bf16⟩
  | .hbm, ⟨21, _⟩ => ⟨S10x3072x20x96, .f32⟩
  | .hbm, ⟨22, _⟩ => ⟨S10x3072x20x96, .bf16⟩
  | .hbm, ⟨23, _⟩ => ⟨S10x3072x20x3, .i32⟩
  | .hbm, ⟨24, _⟩ => ⟨S_, .i32⟩
  | .hbm, ⟨25, _⟩ => ⟨S10x3072x20x3, .i32⟩
  | .hbm, ⟨26, _⟩ => ⟨S10x3072x20x3, .i32⟩
  | .hbm, ⟨27, _⟩ => ⟨S10x3072x20x3, .f32⟩
  | .hbm, ⟨28, _⟩ => ⟨S_, .f32⟩
  | .hbm, ⟨29, _⟩ => ⟨S10x3072x20x3, .f32⟩
  | .hbm, ⟨30, _⟩ => ⟨S10x3072x20x3, .f32⟩
  | .hbm, ⟨31, _⟩ => ⟨S10x3072x20x3, .bf16⟩
  | .hbm, ⟨32, _⟩ => ⟨S10x3072x20x3x32, .bf16⟩
  | .hbm, ⟨33, _⟩ => ⟨S10x3072x20x96, .bf16⟩
  | .hbm, ⟨34, _⟩ => ⟨S10x3072x20x96, .bf16⟩
  | .hbm, ⟨35, _⟩ => ⟨S10x3072x20x96, .f32⟩
  | .hbm, ⟨36, _⟩ => ⟨S10x3072x20x128, .f32⟩
  | .hbm, ⟨37, _⟩ => ⟨S3072x10x20x96, .f32⟩
  | .hbm, ⟨38, _⟩ => ⟨S3072x10x20x96, .f32⟩
  | .hbm, ⟨39, _⟩ => ⟨S3072x10x20x128, .f32⟩
  | .hbm, ⟨40, _⟩ => ⟨S3072x10x20x96, .f32⟩
  | .hbm, ⟨41, _⟩ => ⟨S3072x10x20, .f32⟩
  | .hbm, ⟨42, _⟩ => ⟨S_, .f32⟩
  | .hbm, ⟨43, _⟩ => ⟨S3072x10x20x128, .f32⟩
  | .hbm, ⟨44, _⟩ => ⟨S_, .i32⟩
  | .hbm, ⟨45, _⟩ => ⟨S3072x10x20x96, .f32⟩
  | .hbm, ⟨46, _⟩ => ⟨S3072x10x20x96, .f32⟩
  | .hbm, ⟨47, _⟩ => ⟨S3072x10x20x128, .f32⟩
  | .hbm, ⟨48, _⟩ => ⟨S3072x10x20x96, .f32⟩
  | .hbm, ⟨49, _⟩ => ⟨S3072x10x20, .f32⟩
  | .hbm, ⟨50, _⟩ => ⟨S_, .i32⟩
  | .hbm, ⟨51, _⟩ => ⟨S10x20x96x128, .f32⟩
  | .hbm, ⟨52, _⟩ => ⟨S3072x10x20x128, .f32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x10x20x96, .f32⟩
  | .hbm, ⟨59, _⟩ => ⟨S10x20x96, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x10x20x96, .f32⟩
  | .hbm, ⟨64, _⟩ => ⟨S10x20x96, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x10x20x128, .f32⟩
  | .hbm, ⟨69, _⟩ => ⟨S10x20x128, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x10x20x96, .f32⟩
  | .hbm, ⟨74, _⟩ => ⟨S10x20x96, .f32⟩
  | .hbm, ⟨75, _⟩ => ⟨S_, .i32⟩
  | .hbm, ⟨76, _⟩ => ⟨S_, .i32⟩
  | .hbm, ⟨77, _⟩ => ⟨S1x10x20, .f32⟩
  | .hbm, ⟨78, _⟩ => ⟨S10x20, .f32⟩
  | .hbm, ⟨79, _⟩ => ⟨S10x20x96, .f32⟩
  | .hbm, ⟨80, _⟩ => ⟨S10x20x96x1, .f32⟩
  | .hbm, ⟨81, _⟩ => ⟨S10x20x96x128, .f32⟩
  | .hbm, ⟨82, _⟩ => ⟨S10x20x96x128, .f32⟩
  | .hbm, ⟨83, _⟩ => ⟨S10x20x1, .f32⟩
  | .hbm, ⟨84, _⟩ => ⟨S10x20x128, .f32⟩
  | .hbm, ⟨85, _⟩ => ⟨S10x20x128, .f32⟩
  | .hbm, ⟨86, _⟩ => ⟨S10x20x128, .f32⟩
  | .hbm, ⟨87, _⟩ => ⟨S10x20x128, .f32⟩
  | .hbm, ⟨88, _⟩ => ⟨S10x20x96x1, .f32⟩
  | .hbm, ⟨89, _⟩ => ⟨S10x20x1x128, .f32⟩
  | .hbm, ⟨90, _⟩ => ⟨S10x20x96x128, .f32⟩
  | .hbm, ⟨91, _⟩ => ⟨S10x20x96x128, .f32⟩
  | .hbm, ⟨92, _⟩ => ⟨S10x20x96x128, .f32⟩
  | .hbm, ⟨93, _⟩ => ⟨S10x20x96x128, .f32⟩
  | .hbm, ⟨94, _⟩ => ⟨S10x20x128, .f32⟩
  | .hbm, ⟨95, _⟩ => ⟨S_, .f32⟩
  | .hbm, ⟨96, _⟩ => ⟨S10x20x128, .f32⟩
  | .hbm, ⟨97, _⟩ => ⟨S10x20x128, .f32⟩
  | .hbm, ⟨98, _⟩ => ⟨S1x10x20x128, .f32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S3072x10x20x128, .f32⟩
  | .hbm, ⟨103, _⟩ => ⟨S_, .i32⟩
  | .hbm, ⟨104, _⟩ => ⟨S_, .i32⟩
  | .hbm, ⟨105, _⟩ => ⟨S10x3072x20x128, .f32⟩
  | .hbm, ⟨106, _⟩ => ⟨S10x3072x2560, .f32⟩
  | .hbm, ⟨107, _⟩ => ⟨S10x3072x2560, .bf16⟩
  | _, _ => ⟨S10x3072x20x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_c_3 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v31_3 : Ref sig .tc := ⟨.hbm, 48, rfl⟩
abbrev main_v31_4 : Ref sig .tc := ⟨.hbm, 49, rfl⟩
abbrev main_v31_5 : Ref sig .tc := ⟨.hbm, 50, rfl⟩
abbrev main_v31_6 : Ref sig .tc := ⟨.hbm, 51, rfl⟩
abbrev main_v31_7 : Ref sig .tc := ⟨.hbm, 52, rfl⟩
abbrev main_while0c_c_11 : Ref sig .tc := ⟨.hbm, 53, rfl⟩
abbrev main_while0c_v35 : Ref sig .tc := ⟨.hbm, 54, rfl⟩
abbrev main_while0b_call0_c : Ref sig .tc := ⟨.hbm, 55, rfl⟩
abbrev main_while0b_call0_c_0 : Ref sig .tc := ⟨.hbm, 56, rfl⟩
abbrev main_while0b_call0_c_1 : Ref sig .tc := ⟨.hbm, 57, rfl⟩
abbrev main_while0b_call0_v0 : Ref sig .tc := ⟨.hbm, 58, rfl⟩
abbrev main_while0b_v35 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_v0 : Ref sig .tc := ⟨.hbm, 63, rfl⟩
abbrev main_while0b_v36 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_v0 : Ref sig .tc := ⟨.hbm, 68, rfl⟩
abbrev main_while0b_v37 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_v0 : Ref sig .tc := ⟨.hbm, 73, rfl⟩
abbrev main_while0b_v38 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_v0 : Ref sig .tc := ⟨.hbm, 77, rfl⟩
abbrev main_while0b_v39 : Ref sig .tc := ⟨.hbm, 78, rfl⟩
abbrev main_while0b_v40 : Ref sig .tc := ⟨.hbm, 79, rfl⟩
abbrev main_while0b_v41 : Ref sig .tc := ⟨.hbm, 80, rfl⟩
abbrev main_while0b_v42 : Ref sig .tc := ⟨.hbm, 81, rfl⟩
abbrev main_while0b_v43 : Ref sig .tc := ⟨.hbm, 82, rfl⟩
abbrev main_while0b_v44 : Ref sig .tc := ⟨.hbm, 83, rfl⟩
abbrev main_while0b_v45 : Ref sig .tc := ⟨.hbm, 84, rfl⟩
abbrev main_while0b_v46 : Ref sig .tc := ⟨.hbm, 85, rfl⟩
abbrev main_while0b_v47 : Ref sig .tc := ⟨.hbm, 86, rfl⟩
abbrev main_while0b_v48 : Ref sig .tc := ⟨.hbm, 87, rfl⟩
abbrev main_while0b_v49 : Ref sig .tc := ⟨.hbm, 88, rfl⟩
abbrev main_while0b_v50 : Ref sig .tc := ⟨.hbm, 89, rfl⟩
abbrev main_while0b_v51 : Ref sig .tc := ⟨.hbm, 90, rfl⟩
abbrev main_while0b_v52 : Ref sig .tc := ⟨.hbm, 91, rfl⟩
abbrev main_while0b_v53 : Ref sig .tc := ⟨.hbm, 92, rfl⟩
abbrev main_while0b_v54 : Ref sig .tc := ⟨.hbm, 93, rfl⟩
abbrev main_while0b_v55 : Ref sig .tc := ⟨.hbm, 94, rfl⟩
abbrev main_while0b_cst_11 : Ref sig .tc := ⟨.hbm, 95, rfl⟩
abbrev main_while0b_v56 : Ref sig .tc := ⟨.hbm, 96, rfl⟩
abbrev main_while0b_v57 : Ref sig .tc := ⟨.hbm, 97, rfl⟩
abbrev main_while0b_call5_v0 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_call5_c_1 : Ref sig .tc := ⟨.hbm, 101, rfl⟩
abbrev main_while0b_v58 : Ref sig .tc := ⟨.hbm, 102, rfl⟩
abbrev main_while0b_c_12 : Ref sig .tc := ⟨.hbm, 103, rfl⟩
abbrev main_while0b_v59 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩

abbrev nD : Nat := 1
abbrev τ : Topo := Topo.v7x

variable {F : FTy → Type} [FloatOps F]

abbrev main_while0_count : Scf.Loop 32 := ⟨0#32, 3072#32, 1#32⟩
-- ==== Proof.Kern.Runs.lean ====
/-
  The branch conditions of the kernel body over the grid points, the staging and scratch memrefs, and when
  the final states are written back.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 481 = 0 :=
  (fun t => by
    have ht : t.val < 481 := Nat.lt_of_lt_of_eq t.isLt N_0
    have e0 : (grid0.coords t 0).val = t.val / 1 % 481 := Pipeline.Grid.coords_val t 0 (by decide) rfl
    simp only [cond0_0, e0]
    word_cmp
   : ∀ t : Fin grid0.N, cond0_0 (grid0.coords t) ↔ t.val % 481 = 0)

/-- The condition of the body's `scf.if` 1 (`k0_h2`), from the grid coordinates (the skeleton's scalar
    chain substituted). -/
abbrev cond0_1 (i : grid0.Coords) : Prop := (Scalar.cmpi .ne (Scalar.extui (Scalar.cmpi .eq (Scalar.remsi (Scalar.maxsi (Scalar.subi (BitVec.ofNat 32 (i 0).val) 1#32) 0#32) 24#32) 0#32)) 0#32) = 1#1
/-- It holds at points 0, 1, 25, 49, 73, 97, 121, 145, 169, 193, 217, 241, 265, 289, 313, 337, 361, 385, 409, 433 and 457 only — decided over the grid. -/
theorem hcond0_1 : ∀ t : Fin cfg0.N, cond0_1 (grid0.coords t) ↔ (t.val % 481 = 0 ∨ t.val % 24 = 1) :=
  (by decide +kernel : ∀ t : Fin grid0.N, cond0_1 (grid0.coords t) ↔ (t.val % 481 = 0 ∨ t.val % 24 = 1))

/-! ## The kernel body on any staging memrefs: a subtype the run finds -/

/-- One staging buffer of output window 10, through which its contents are stated (`View.read_writes_of_cover`: the
    choice does not matter). -/
abbrev VO0_10 : View sig .tc .vmem S1x128x1280 .bf16 := (Memref.whole cc0_stg10_0 : Memref sig .tc .vmem S1x128x1280 .bf16).view
/-- One staging buffer of output window 11, through which its contents are stated (`View.read_writes_of_cover`: the
    choice does not matter). -/
abbrev VO0_11 : View sig .tc .vmem S1x10x96x128 .f32 := (Memref.whole cc0_stg11_0 : Memref sig .tc .vmem S1x10x96x128 .f32).view
/-- Each window's current staging memref at point `t`, spelled as the pipeline passes it (`bodyAt0`), and its wholeness. -/
abbrev ms0_0 (t : Fin cfg0.N) : Memref sig .tc .vmem S1x10x96x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x3x10x128 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x10x96x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x3x10x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x10x96x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x10x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S384x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x10x128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x10x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x10x96x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x1280 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x10x96x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S10x2x128x128 .bf16 := Memref.whole cc0_scratch0
abbrev scM0_1 : Memref sig .tc .vmem S10x2x3x64x128 .bf16 := Memref.whole cc0_scratch1
abbrev scM0_2 : Memref sig .tc .vmem S10x2x3x64x128 .bf16 := Memref.whole cc0_scratch2
abbrev scM0_3 : Memref sig .tc .vmem S10x2x2x96x128 .bf16 := Memref.whole cc0_scratch3
abbrev scM0_4 : Memref sig .tc .vmem S10x2x96x128 .f32 := Memref.whole cc0_scratch4
/-- The scratch `arg13` the kernel carries between points, as a view: what it holds is stated through it. -/
abbrev VS0_0 : View sig .tc .vmem S10x2x128x128 .bf16 := scM0_0.view
/-- The scratch `arg14` the kernel carries between points, as a view: what it holds is stated through it. -/
abbrev VS0_1 : View sig .tc .vmem S10x2x3x64x128 .bf16 := scM0_1.view
/-- The scratch `arg15` the kernel carries between points, as a view: what it holds is stated through it. -/
abbrev VS0_2 : View sig .tc .vmem S10x2x3x64x128 .bf16 := scM0_2.view
/-- The scratch `arg16` the kernel carries between points, as a view: what it holds is stated through it. -/
abbrev VS0_3 : View sig .tc .vmem S10x2x2x96x128 .bf16 := scM0_3.view
/-- The scratch `arg17` the kernel carries between points, as a view: what it holds is stated through it. -/
abbrev VS0_4 : View sig .tc .vmem S10x2x96x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The final states' window is written back only at points divisible by 24. -/
theorem flush0_11 : ∀ t : Fin cfg0.N, (cfg0.win 11).flush t = true → t.val % 24 = 0 :=
  (by decide +kernel : ∀ t : Fin grid0.N, win0_11.flush t = true → t.val % 24 = 0)

/-- The point before a point divisible by 24 other than point 0 does write the final states back: the other direction. -/
theorem flush0_11_of : ∀ t : Fin cfg0.N, t.val % 24 = 0 → t.val ≠ 0 → (cfg0.win 11).flush t = true :=
  (by decide +kernel : ∀ t : Fin grid0.N, t.val % 24 = 0 → t.val ≠ 0 → win0_11.flush t = true)

end Cert.KernelIdeal.Gen

end
-- ==== Proof.Kern.RunA.lean ====
/-
  The run of the kernel body in case A: the pieces it stores.
-/
module

public import proofs.«01_k».proof.Proof.Kern.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6864000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : cond0_0 i) (hc1 : cond0_1 i)
    (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32) :
    Σ' (L10 : List (View.Piece (Elt F) S1x128x1280 .bf16)), Σ' (L11 : List (View.Piece (Elt F) S1x10x96x128 .f32)), Σ' (LS0 : List (View.Piece (Elt F) S10x2x128x128 .bf16)), Σ' (LS1 : List (View.Piece (Elt F) S10x2x3x64x128 .bf16)), Σ' (LS2 : List (View.Piece (Elt F) S10x2x3x64x128 .bf16)), Σ' (LS3 : List (View.Piece (Elt F) S10x2x2x96x128 .bf16)), { LS4 : List (View.Piece (Elt F) S10x2x96x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0_kda i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_kda_eq_skeleton]; unfold cc0_kda_skel
    simp only [k0_part331_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part332_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part333_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part334_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part335_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part336_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.Kern.RunB.lean ====
/-
  The run of the kernel body in case B: the pieces it stores.
-/
module

public import proofs.«01_k».proof.Proof.Kern.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6804000 in
/-- What the body's stores leave in each output's staging memref, as pieces (last first) IN CASE B (`scf.if` 0 not taken, `scf.if` 1 taken: points 1, 25, … 457: 20 of 481), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : ¬cond0_0 i) (hc1 : cond0_1 i)
    (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32) (xs0 : Vec F S10x2x128x128 .bf16) (xs1 : Vec F S10x2x3x64x128 .bf16) (xs2 : Vec F S10x2x3x64x128 .bf16) (xs3 : Vec F S10x2x2x96x128 .bf16) (xs4 : Vec F S10x2x96x128 .f32) :
    Σ' (L10 : List (View.Piece (Elt F) S1x128x1280 .bf16)), Σ' (L11 : List (View.Piece (Elt F) S1x10x96x128 .f32)), Σ' (LS0 : List (View.Piece (Elt F) S10x2x128x128 .bf16)), Σ' (LS1 : List (View.Piece (Elt F) S10x2x3x64x128 .bf16)), Σ' (LS2 : List (View.Piece (Elt F) S10x2x3x64x128 .bf16)), Σ' (LS3 : List (View.Piece (Elt F) S10x2x2x96x128 .bf16)), { LS4 : List (View.Piece (Elt F) S10x2x96x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0_kda i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_kda_eq_skeleton]; unfold cc0_kda_skel
    simp only [k0_part331_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part332_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part333_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part334_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part335_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part336_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hfs0; obtain rfl := harg14.eq_unread hfs1; obtain rfl := harg15.eq_unread hfs2; obtain rfl := harg16.eq_unread hfs3; obtain rfl := harg17.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.Kern.RunC.lean ====
/-
  The run of the kernel body in case C: the pieces it stores.
-/
module

public import proofs.«01_k».proof.Proof.Kern.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6792000 in
/-- What the body's stores leave in each output's staging memref, as pieces (last first) IN CASE C (`scf.if` 0 not taken, `scf.if` 1 not taken: points 2, 3, … 480: 460 of 481), WITH the
    proof that on whole staging memrefs — the inputs' at their contents, the outputs it reads before covering (11) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : ¬cond0_0 i) (hc1 : ¬cond0_1 i)
    (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32) (xo11 : Vec F S1x10x96x128 .f32) (xs0 : Vec F S10x2x128x128 .bf16) (xs1 : Vec F S10x2x3x64x128 .bf16) (xs2 : Vec F S10x2x3x64x128 .bf16) (xs3 : Vec F S10x2x2x96x128 .bf16) (xs4 : Vec F S10x2x96x128 .f32) :
    Σ' (L10 : List (View.Piece (Elt F) S1x128x1280 .bf16)), Σ' (L11 : List (View.Piece (Elt F) S1x10x96x128 .f32)), Σ' (LS0 : List (View.Piece (Elt F) S10x2x128x128 .bf16)), Σ' (LS1 : List (View.Piece (Elt F) S10x2x3x64x128 .bf16)), Σ' (LS2 : List (View.Piece (Elt F) S10x2x3x64x128 .bf16)), Σ' (LS3 : List (View.Piece (Elt F) S10x2x2x96x128 .bf16)), { LS4 : List (View.Piece (Elt F) S10x2x96x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xo11 ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4)) -∗ K ⟨⟩))
          ⊢ wp frame (wpE (defs₀ (F := F)) Variants.none c none) E (cc0_kda i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_kda_eq_skeleton]; unfold cc0_kda_skel
    simp only [k0_part331_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part332_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part333_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part334_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part335_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part336_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hfs0; obtain rfl := harg14.eq_unread hfs1; obtain rfl := harg15.eq_unread hfs2; obtain rfl := harg16.eq_unread hfs3; obtain rfl := harg17.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.Kern.Pieces.lean ====
/-
  What each case of the kernel body leaves in the output and scratch buffers.
-/
module

public import proofs.«01_k».proof.Proof.Kern.RunA
public import proofs.«01_k».proof.Proof.Kern.RunB
public import proofs.«01_k».proof.Proof.Kern.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section CaseA
variable (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : cond0_0 i) (hc1 : cond0_1 i)
  (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32)

/-- Case A's pieces for output 10 tile its block (20 stores of `S1x64x128`, checked by the kernel's evaluation: Lib/Ring.lean `Piece.tiledL`, linear in the pieces, through a loop's `@[irreducible]` trip theorem too), so they cover it. -/
theorem cover0_A_10
    (y : S1x128x1280.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1 S1x64x128.size (by sl_kernel_rfl) y

/-- What case A leaves in output 10's staging buffer: its pieces read back over junk. -/
def out0_A_10 : Vec F S1x128x1280 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1)

/-- Case A's pieces for output 11 are of SEVERAL sizes (11 stores of `S1x10x96x128`, `S1x1x96x128`): cut into blocks of `![1, 1, 96, 128]` they tile its block (checked by the kernel's evaluation: Lib/Ring.lean `Piece.tiledBy`), so they cover it. -/
theorem cover0_A_11
    (y : S1x10x96x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1 ![1, 1, 96, 128] (by sl_kernel_rfl) y

/-- What case A leaves in output 11's staging buffer: its pieces read back over junk. -/
def out0_A_11 : Vec F S1x10x96x128 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1)

/-- Case A's pieces for scratch `arg13`, which the kernel carries between points, cover it: one of them a store of the WHOLE buffer (Lib/Ring.lean `sl_whole_mem`). -/
theorem scover0_A_0
    (y : S10x2x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1 (by sl_whole_mem) y

/-- What case A leaves in scratch `arg13`: its pieces read back over junk. -/
def sout0_A_0 : Vec F S10x2x128x128 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1)

/-- Case A's pieces for scratch `arg14`, which the kernel carries between points, cover it: one of them a store of the WHOLE buffer (Lib/Ring.lean `sl_whole_mem`). -/
theorem scover0_A_1
    (y : S10x2x3x64x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1 (by sl_whole_mem) y

/-- What case A leaves in scratch `arg14`: its pieces read back over junk. -/
def sout0_A_1 : Vec F S10x2x3x64x128 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1)

/-- Case A's pieces for scratch `arg15`, which the kernel carries between points, cover it: one of them a store of the WHOLE buffer (Lib/Ring.lean `sl_whole_mem`). -/
theorem scover0_A_2
    (y : S10x2x3x64x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.1 (by sl_whole_mem) y

/-- What case A leaves in scratch `arg15`: its pieces read back over junk. -/
def sout0_A_2 : Vec F S10x2x3x64x128 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.1)

/-- Case A's pieces for scratch `arg16`, which the kernel carries between points, cover it: one of them a store of the WHOLE buffer (Lib/Ring.lean `sl_whole_mem`). -/
theorem scover0_A_3
    (y : S10x2x2x96x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1 (by sl_whole_mem) y

/-- What case A leaves in scratch `arg16`: its pieces read back over junk. -/
def sout0_A_3 : Vec F S10x2x2x96x128 .bf16 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1)

/-- Case A's pieces for scratch `arg17`, which the kernel carries between points, cover it: one of them a store of the WHOLE buffer (Lib/Ring.lean `sl_whole_mem`). -/
theorem scover0_A_4
    (y : S10x2x96x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.2.1 (by sl_whole_mem) y

/-- What case A leaves in scratch `arg17`: its pieces read back over junk. -/
def sout0_A_4 : Vec F S10x2x96x128 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.2.1)

end CaseA

section CaseB
variable (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : ¬cond0_0 i) (hc1 : cond0_1 i)
  (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32) (xs0 : Vec F S10x2x128x128 .bf16) (xs1 : Vec F S10x2x3x64x128 .bf16) (xs2 : Vec F S10x2x3x64x128 .bf16) (xs3 : Vec F S10x2x2x96x128 .bf16) (xs4 : Vec F S10x2x96x128 .f32)

/-- Case B's pieces for output 10 tile its block (20 stores of `S1x64x128`, checked by the kernel's evaluation: Lib/Ring.lean `Piece.tiledL`, linear in the pieces, through a loop's `@[irreducible]` trip theorem too), so they cover it. -/
theorem cover0_B_10
    (y : S1x128x1280.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).1 S1x64x128.size (by sl_kernel_rfl) y

/-- What case B leaves in output 10's staging buffer: its pieces read back over junk. -/
def out0_B_10 : Vec F S1x128x1280 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).1)

/-- Case B's pieces for output 11 are of SEVERAL sizes (11 stores of `S1x10x96x128`, `S1x1x96x128`): cut into blocks of `![1, 1, 96, 128]` they tile its block (checked by the kernel's evaluation: Lib/Ring.lean `Piece.tiledBy`), so they cover it. -/
theorem cover0_B_11
    (y : S1x10x96x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.1 ![1, 1, 96, 128] (by sl_kernel_rfl) y

/-- What case B leaves in output 11's staging buffer: its pieces read back over junk. -/
def out0_B_11 : Vec F S1x10x96x128 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.1)

/-- Case B's pieces for scratch `arg13`, which the kernel carries between points, cover it: 20 pieces of `S1x1x128x128` tiling it (Lib/Ring.lean `Piece.tiledL`). -/
theorem scover0_B_0
    (y : S10x2x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.1 S1x1x128x128.size (by sl_kernel_rfl) y

/-- What case B leaves in scratch `arg13`: its pieces read back over junk. -/
def sout0_B_0 : Vec F S10x2x128x128 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.1)

/-- Case B's pieces for scratch `arg14`, which the kernel carries between points, cover it: 60 pieces of `S1x1x1x64x128` tiling it (Lib/Ring.lean `Piece.tiledL`). -/
theorem scover0_B_1
    (y : S10x2x3x64x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.1 S1x1x1x64x128.size (by sl_kernel_rfl) y

/-- What case B leaves in scratch `arg14`: its pieces read back over junk. -/
def sout0_B_1 : Vec F S10x2x3x64x128 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.1)

/-- Case B's pieces for scratch `arg15`, which the kernel carries between points, cover it: 60 pieces of `S1x1x1x64x128` tiling it (Lib/Ring.lean `Piece.tiledL`). -/
theorem scover0_B_2
    (y : S10x2x3x64x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.1 S1x1x1x64x128.size (by sl_kernel_rfl) y

/-- What case B leaves in scratch `arg15`: its pieces read back over junk. -/
def sout0_B_2 : Vec F S10x2x3x64x128 .bf16 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.1)

/-- Case B's pieces for scratch `arg16`, which the kernel carries between points, cover it: 40 pieces of `S1x1x1x96x128` tiling it (Lib/Ring.lean `Piece.tiledL`). -/
theorem scover0_B_3
    (y : S10x2x2x96x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.2.1 S1x1x1x96x128.size (by sl_kernel_rfl) y

/-- What case B leaves in scratch `arg16`: its pieces read back over junk. -/
def sout0_B_3 : Vec F S10x2x2x96x128 .bf16 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.2.1)

/-- Case B's pieces for scratch `arg17`, which the kernel carries between points, cover it: 20 pieces of `S1x1x96x128` tiling it (Lib/Ring.lean `Piece.tiledL`). -/
theorem scover0_B_4
    (y : S10x2x96x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.2.2.1 S1x1x96x128.size (by sl_kernel_rfl) y

/-- What case B leaves in scratch `arg17`: its pieces read back over junk. -/
def sout0_B_4 : Vec F S10x2x96x128 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.2.2.1)

end CaseB

section CaseC
variable (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : ¬cond0_0 i) (hc1 : ¬cond0_1 i)
  (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32) (xo11 : Vec F S1x10x96x128 .f32) (xs0 : Vec F S10x2x128x128 .bf16) (xs1 : Vec F S10x2x3x64x128 .bf16) (xs2 : Vec F S10x2x3x64x128 .bf16) (xs3 : Vec F S10x2x2x96x128 .bf16) (xs4 : Vec F S10x2x96x128 .f32)

/-- Case C's pieces for output 10 tile its block (20 stores of `S1x64x128`, checked by the kernel's evaluation: Lib/Ring.lean `Piece.tiledL`, linear in the pieces, through a loop's `@[irreducible]` trip theorem too), so they cover it. -/
theorem cover0_C_10
    (y : S1x128x1280.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).1 S1x64x128.size (by sl_kernel_rfl) y

/-- What case C leaves in output 10's staging buffer: its pieces read back over junk. -/
def out0_C_10 : Vec F S1x128x1280 .bf16 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).1)

/-- Case C's pieces for output 11 tile its block (10 stores of `S1x1x96x128`, checked by the kernel's evaluation: Lib/Ring.lean `Piece.tiledL`, linear in the pieces, through a loop's `@[irreducible]` trip theorem too), so they cover it. -/
theorem cover0_C_11
    (y : S1x10x96x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.1 S1x1x96x128.size (by sl_kernel_rfl) y

/-- What case C leaves in output 11's staging buffer: its pieces read back over junk. -/
def out0_C_11 : Vec F S1x10x96x128 .f32 :=
  VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.1)

/-- Case C's pieces for scratch `arg13`, which the kernel carries between points, cover it: 20 pieces of `S1x1x128x128` tiling it (Lib/Ring.lean `Piece.tiledL`). -/
theorem scover0_C_0
    (y : S10x2x128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.1 S1x1x128x128.size (by sl_kernel_rfl) y

/-- What case C leaves in scratch `arg13`: its pieces read back over junk. -/
def sout0_C_0 : Vec F S10x2x128x128 .bf16 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.1)

/-- Case C's pieces for scratch `arg14`, which the kernel carries between points, cover it: 60 pieces of `S1x1x1x64x128` tiling it (Lib/Ring.lean `Piece.tiledL`). -/
theorem scover0_C_1
    (y : S10x2x3x64x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.1 S1x1x1x64x128.size (by sl_kernel_rfl) y

/-- What case C leaves in scratch `arg14`: its pieces read back over junk. -/
def sout0_C_1 : Vec F S10x2x3x64x128 .bf16 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.1)

/-- Case C's pieces for scratch `arg15`, which the kernel carries between points, cover it: 60 pieces of `S1x1x1x64x128` tiling it (Lib/Ring.lean `Piece.tiledL`). -/
theorem scover0_C_2
    (y : S10x2x3x64x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.1 S1x1x1x64x128.size (by sl_kernel_rfl) y

/-- What case C leaves in scratch `arg15`: its pieces read back over junk. -/
def sout0_C_2 : Vec F S10x2x3x64x128 .bf16 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.1)

/-- Case C's pieces for scratch `arg16`, which the kernel carries between points, cover it: 40 pieces of `S1x1x1x96x128` tiling it (Lib/Ring.lean `Piece.tiledL`). -/
theorem scover0_C_3
    (y : S10x2x2x96x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.2.1 S1x1x1x96x128.size (by sl_kernel_rfl) y

/-- What case C leaves in scratch `arg16`: its pieces read back over junk. -/
def sout0_C_3 : Vec F S10x2x2x96x128 .bf16 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.2.1)

/-- Case C's pieces for scratch `arg17`, which the kernel carries between points, cover it: 20 pieces of `S1x1x96x128` tiling it (Lib/Ring.lean `Piece.tiledL`). -/
theorem scover0_C_4
    (y : S10x2x96x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.2.2.1 S1x1x96x128.size (by sl_kernel_rfl) y

/-- What case C leaves in scratch `arg17`: its pieces read back over junk. -/
def sout0_C_4 : Vec F S10x2x96x128 .f32 :=
  VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.2.2.1)

end CaseC

end Cert.KernelIdeal.Gen

end
-- ==== Proof.Kern.Frame.lean ====
/-
  The frame of the idealized kernel, with what every output and scratch buffer holds after every point.
-/
module

public import proofs.«01_k».proof.Proof.Kern.Pieces

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x128x1280 .bf16 × Vec F S1x10x96x128 .f32 × Vec F S10x2x128x128 .bf16 × Vec F S10x2x3x64x128 .bf16 × Vec F S10x2x3x64x128 .bf16 × Vec F S10x2x2x96x128 .bf16 × Vec F S10x2x96x128 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 481 = 0 then
      if h1 : ((n + 1) % 481 = 0 ∨ (n + 1) % 24 = 1) then
        (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
      else
        False.elim (by have hN : n + 1 < 481 := lt_of_lt_of_eq hn (show cfg0.N = 481 from N_0); omega)
    else
      if h1 : ((n + 1) % 481 = 0 ∨ (n + 1) % 24 = 1) then
        (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)
      else
        (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)

/-- `outsAt0` at a point of case A: that case's contents. -/
theorem outsAt0_A (c : Dev nD) (t : Fin cfg0.N) (h0 : t.val % 481 = 0) (h1 : (t.val % 481 = 0 ∨ t.val % 24 = 1)) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 481 = 0) (h1 : (t.val % 481 = 0 ∨ t.val % 24 = 1)) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- `outsAt0` at a point of case C: that case's contents, over what the point before left. -/
theorem outsAt0_C (c : Dev nD) (t : Fin cfg0.N) (h0 : ¬t.val % 481 = 0) (h1 : ¬(t.val % 481 = 0 ∨ t.val % 24 = 1)) :
    outsAt0 m c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2.1) ∗ owns (c : Thread nD τ) scM0_4 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2.1) ∗ owns (c : Thread nD τ) scM0_4 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2.1) ∗ owns (c : Thread nD τ) scM0_4 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- At a point of case C output 11's current staging buffer holds what the body left at the point before: the point is
    not the first, the buffer was not written back between (`flush0_11`), the window is live and uncut (Lib/Pipeline/Frame.lean
    `Dat.before_out_kept`). -/
theorem before0_11_C (c : Dev nD) (t : Fin cfg0.N) (h0 : ¬t.val % 481 = 0) (h1 : ¬(t.val % 481 = 0 ∨ t.val % 24 = 1)) (d) :
    (dats m 0 c).before 11 t d = (outsAt0 m c (t.val - 1) (Nat.lt_of_le_of_lt (Nat.sub_le _ _) t.isLt)).2.1 := by
  have hN : t.val < 481 := lt_of_lt_of_eq t.isLt (show cfg0.N = 481 from N_0)
  rw [Dat.before_out_kept _ 11 rfl t (by omega) (Bool.eq_false_iff.mpr fun h => by have := flush0_11 _ h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 481 := lt_of_lt_of_eq t.isLt (show cfg0.N = 481 from N_0)
  by_cases h0 : t.val % 481 = 0
  · by_cases h1 : (t.val % 481 = 0 ∨ t.val % 24 = 1)
    · by_cases hz : t.val = 0
      · rw [PhiS_castSucc m c t, PhiS_zero m c _ _ hz, PhiA0_eq]
        rw [outsAt0_A m c t h0 h1]
        unfold out0_A_10 out0_A_11 sout0_A_0 sout0_A_1 sout0_A_2 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, ⟨%e10, H10⟩, ⟨%e11, H11⟩, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _)
      · exfalso; have hN : t.val < 481 := lt_of_lt_of_eq t.isLt (show cfg0.N = 481 from N_0); omega
    · exfalso; omega
  · by_cases h1 : (t.val % 481 = 0 ∨ t.val % 24 = 1)
    · by_cases hz : t.val = 0
      · exfalso; have hN : t.val < 481 := lt_of_lt_of_eq t.isLt (show cfg0.N = 481 from N_0); omega
      · rw [PhiS_castSucc m c t, PhiS_pos m c _ _ hz]
        rw [outsAt0_B m c t h0 h1]
        unfold out0_B_10 out0_B_11 sout0_B_0 sout0_B_1 sout0_B_2 sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ _ _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, ⟨%e10, H10⟩, ⟨%e11, H11⟩, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _)
    · by_cases hz : t.val = 0
      · exfalso; have hN : t.val < 481 := lt_of_lt_of_eq t.isLt (show cfg0.N = 481 from N_0); omega
      · rw [PhiS_castSucc m c t, PhiS_pos m c _ _ hz]
        rw [outsAt0_C m c t h0 h1]
        simp only [before0_11_C m c t h0 h1]
        unfold out0_C_10 out0_C_11 sout0_C_0 sout0_C_1 sout0_C_2 sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _ _ _ _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, ⟨%e10, H10⟩, ⟨%e11, H11⟩, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 481 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.Kern.Bits.lean ====
/-
  The frame of the printed kernel.
-/
module

public import proofs.«01_k».proof.Proof.Kern.Frame
public import proofs.«01_k».proof.Proof.Gen.Kernel
public import proofs.«01_k».proof.Defs
public import Idealize.ShloMosaic.Lib.Tactic

@[expose] public section

set_option maxRecDepth 65536

noncomputable section

namespace Cert.Proof

open Idealize.ShloMosaic Idealize.ShloMosaic.TcCoe Idealize.ShloMosaic.Tactic
open Idealize.SL Idealize.SL.Sem

/-- A named constant read as the constant it names. -/
abbrev plain {F : FTy → Type} [FloatOps F] : Named F := ⟨fun _ _ φ bits => FloatOps.ofBits φ bits⟩

/-- The frame of the idealized kernel over bit patterns, every named constant read as the constant it names. -/
def PlainFrame : Prop :=
  letI : Named Bits := plain
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

/-- That frame is proved. -/
theorem plain_frame : PlainFrame := letI : Named Bits := plain; fun m g _ => Cert.KernelIdeal.Gen.frame m g

/-- The two programs differ by the named constant alone, so the two frames are one statement. -/
theorem frame_eq : Cert.quiescent_Kernel = PlainFrame := by sl_kernel_rfl

/-- The frame of the printed kernel. -/
theorem kernel_frame : Cert.quiescent_Kernel := frame_eq.mpr plain_frame

end Cert.Proof
-- ==== Proof.Kern.Blocks.lean ====
/-
  The blocks the kernel's windows stage and write back, point by point, in the arrays.
-/
module

public import proofs.«01_k».proof.Proof.Kern.Frame
public import Idealize.ShloMosaic.Lib.Pipeline.Value
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.Sem

/-- The step whose head data a point computes. -/
abbrev stepIn (t : ℕ) : ℕ := min t 479

theorem index_0 : ∀ t : Fin grid0.N, win0_0.index t 0 = (stepIn t.val) / 48 ∧ win0_0.index t 1 = (stepIn t.val) / 24 % 2 ∧ win0_0.index t 2 = 0 ∧ win0_0.index t 3 = (stepIn t.val) % 24 := by decide +kernel

theorem index_1 : ∀ t : Fin grid0.N, win0_1.index t 0 = (stepIn t.val) / 48 ∧ win0_1.index t 1 = (stepIn t.val) / 24 % 2 ∧ win0_1.index t 2 = 0 ∧ win0_1.index t 3 = 0 ∧ win0_1.index t 4 = (stepIn t.val) % 24 := by decide +kernel

theorem index_2 : ∀ t : Fin grid0.N, win0_2.index t 0 = (stepIn t.val) / 48 ∧ win0_2.index t 1 = (stepIn t.val) / 24 % 2 ∧ win0_2.index t 2 = 0 ∧ win0_2.index t 3 = (stepIn t.val) % 24 := by decide +kernel

theorem index_3 : ∀ t : Fin grid0.N, win0_3.index t 0 = (stepIn t.val) / 48 ∧ win0_3.index t 1 = (stepIn t.val) / 24 % 2 ∧ win0_3.index t 2 = 0 ∧ win0_3.index t 3 = 0 ∧ win0_3.index t 4 = (stepIn t.val) % 24 := by decide +kernel

theorem index_4 : ∀ t : Fin grid0.N, win0_4.index t 0 = (stepIn t.val) / 48 ∧ win0_4.index t 1 = (stepIn t.val) / 24 % 2 ∧ win0_4.index t 2 = 0 ∧ win0_4.index t 3 = (stepIn t.val) % 24 := by decide +kernel

theorem index_5 : ∀ t : Fin grid0.N, win0_5.index t 0 = (stepIn t.val) / 48 ∧ win0_5.index t 1 = (stepIn t.val) / 24 % 2 ∧ win0_5.index t 2 = 0 ∧ win0_5.index t 3 = (stepIn t.val) % 24 := by decide +kernel

theorem index_6 : ∀ t : Fin grid0.N, win0_6.index t 0 = 0 ∧ win0_6.index t 1 = 0 := by decide +kernel

theorem index_7 : ∀ t : Fin grid0.N, win0_7.index t 0 = (t.val - 1) / 48 ∧ win0_7.index t 1 = (t.val - 1) / 24 % 2 ∧ win0_7.index t 2 = (t.val - 1) % 24 ∧ win0_7.index t 3 = 0 := by decide +kernel

theorem index_8 : ∀ t : Fin grid0.N, win0_8.index t 0 = (t.val - 1) / 48 ∧ win0_8.index t 1 = (t.val - 1) / 24 % 2 ∧ win0_8.index t 2 = 0 ∧ win0_8.index t 3 = (t.val - 1) % 24 := by decide +kernel

theorem index_9 : ∀ t : Fin grid0.N, win0_9.index t 0 = (t.val - 1) / 48 ∧ win0_9.index t 1 = (t.val - 1) / 24 % 2 ∧ win0_9.index t 2 = 0 ∧ win0_9.index t 3 = 0 := by decide +kernel

theorem index_10 : ∀ t : Fin grid0.N, win0_10.index t 0 = (t.val - 1) / 48 ∧ win0_10.index t 1 = (t.val - 1) % 24 ∧ win0_10.index t 2 = (t.val - 1) / 24 % 2 := by decide +kernel

theorem index_11 : ∀ t : Fin grid0.N, win0_11.index t 0 = (t.val - 1) / 48 ∧ win0_11.index t 1 = (t.val - 1) / 24 % 2 ∧ win0_11.index t 2 = 0 ∧ win0_11.index t 3 = 0 := by decide +kernel

variable {F : FTy → Type} [FloatOps F] [Named F]
variable (m : (ℓ : Loc nD τ sig) → Buf (Elt F) ℓ) (c : Dev nD)

/-- Window 0's block at a point. -/
theorem iblk_0 (t : Fin cfg0.N) (y0 : Fin 1) (y1 : Fin 10) (y2 : Fin 96) (y3 : Fin 128) (z0 : Fin 10) (z1 : Fin 20) (z2 : Fin 96) (z3 : Fin 3072) (h0 : z0.val = (stepIn t.val) / 48 * 1 + y0.val) (h1 : z1.val = (stepIn t.val) / 24 % 2 * 10 + y1.val) (h2 : z2.val = y2.val) (h3 : z3.val = (stepIn t.val) % 24 * 128 + y3.val) :
    (iblk m c 0 t : Vec F S1x10x96x128 .fp8e4m3) (ValueIdx.ix4 y0 y1 y2 y3) = (V m c main_v2 : Vec F S10x20x96x3072 .fp8e4m3) (ValueIdx.ix4 z0 z1 z2 z3) := by
  have h := index_0 t
  show (V m c main_v2 : Vec F S10x20x96x3072 .fp8e4m3) ((win0_0.rect t).emb _) = _
  congr 1
  funext a
  apply Fin.ext
  fin_cases a
  · exact (win0_0.rect_emb_val t _ 0).trans ((congrArg (· * 1 + y0.val) h.1).trans (by rw [h0]))
  · exact (win0_0.rect_emb_val t _ 1).trans ((congrArg (· * 10 + y1.val) h.2.1).trans (by rw [h1]))
  · exact (win0_0.rect_emb_val t _ 2).trans ((congrArg (· * 96 + y2.val) h.2.2.1).trans (by rw [h2]; exact (congrArg (· + _) (Nat.zero_mul _)).trans (Nat.zero_add _)))
  · exact (win0_0.rect_emb_val t _ 3).trans ((congrArg (· * 128 + y3.val) h.2.2.2).trans (by rw [h3]))

/-- Window 1's block at a point. -/
theorem iblk_1 (t : Fin cfg0.N) (y0 : Fin 1) (y1 : Fin 1) (y2 : Fin 3) (y3 : Fin 10) (y4 : Fin 128) (z0 : Fin 10) (z1 : Fin 2) (z2 : Fin 3) (z3 : Fin 10) (z4 : Fin 3072) (h0 : z0.val = (stepIn t.val) / 48 * 1 + y0.val) (h1 : z1.val = (stepIn t.val) / 24 % 2 * 1 + y1.val) (h2 : z2.val = y2.val) (h3 : z3.val = y3.val) (h4 : z4.val = (stepIn t.val) % 24 * 128 + y4.val) :
    (iblk m c 1 t : Vec F S1x1x3x10x128 .i8) (ValueIdx.ix5 y0 y1 y2 y3 y4) = (V m c main_v10 : Vec F S10x2x3x10x3072 .i8) (ValueIdx.ix5 z0 z1 z2 z3 z4) := by
  have h := index_1 t
  show (V m c main_v10 : Vec F S10x2x3x10x3072 .i8) ((win0_1.rect t).emb _) = _
  congr 1
  funext a
  apply Fin.ext
  fin_cases a
  · exact (win0_1.rect_emb_val t _ 0).trans ((congrArg (· * 1 + y0.val) h.1).trans (by rw [h0]))
  · exact (win0_1.rect_emb_val t _ 1).trans ((congrArg (· * 1 + y1.val) h.2.1).trans (by rw [h1]))
  · exact (win0_1.rect_emb_val t _ 2).trans ((congrArg (· * 3 + y2.val) h.2.2.1).trans (by rw [h2]; exact (congrArg (· + _) (Nat.zero_mul _)).trans (Nat.zero_add _)))
  · exact (win0_1.rect_emb_val t _ 3).trans ((congrArg (· * 10 + y3.val) h.2.2.2.1).trans (by rw [h3]; exact (congrArg (· + _) (Nat.zero_mul _)).trans (Nat.zero_add _)))
  · exact (win0_1.rect_emb_val t _ 4).trans ((congrArg (· * 128 + y4.val) h.2.2.2.2).trans (by rw [h4]))

/-- Window 2's block at a point. -/
theorem iblk_2 (t : Fin cfg0.N) (y0 : Fin 1) (y1 : Fin 10) (y2 : Fin 96) (y3 : Fin 128) (z0 : Fin 10) (z1 : Fin 20) (z2 : Fin 96) (z3 : Fin 3072) (h0 : z0.val = (stepIn t.val) / 48 * 1 + y0.val) (h1 : z1.val = (stepIn t.val) / 24 % 2 * 10 + y1.val) (h2 : z2.val = y2.val) (h3 : z3.val = (stepIn t.val) % 24 * 128 + y3.val) :
    (iblk m c 2 t : Vec F S1x10x96x128 .fp8e4m3) (ValueIdx.ix4 y0 y1 y2 y3) = (V m c main_v3 : Vec F S10x20x96x3072 .fp8e4m3) (ValueIdx.ix4 z0 z1 z2 z3) := by
  have h := index_2 t
  show (V m c main_v3 : Vec F S10x20x96x3072 .fp8e4m3) ((win0_2.rect t).emb _) = _
  congr 1
  funext a
  apply Fin.ext
  fin_cases a
  · exact (win0_2.rect_emb_val t _ 0).trans ((congrArg (· * 1 + y0.val) h.1).trans (by rw [h0]))
  · exact (win0_2.rect_emb_val t _ 1).trans ((congrArg (· * 10 + y1.val) h.2.1).trans (by rw [h1]))
  · exact (win0_2.rect_emb_val t _ 2).trans ((congrArg (· * 96 + y2.val) h.2.2.1).trans (by rw [h2]; exact (congrArg (· + _) (Nat.zero_mul _)).trans (Nat.zero_add _)))
  · exact (win0_2.rect_emb_val t _ 3).trans ((congrArg (· * 128 + y3.val) h.2.2.2).trans (by rw [h3]))

/-- Window 3's block at a point. -/
theorem iblk_3 (t : Fin cfg0.N) (y0 : Fin 1) (y1 : Fin 1) (y2 : Fin 3) (y3 : Fin 10) (y4 : Fin 128) (z0 : Fin 10) (z1 : Fin 2) (z2 : Fin 3) (z3 : Fin 10) (z4 : Fin 3072) (h0 : z0.val = (stepIn t.val) / 48 * 1 + y0.val) (h1 : z1.val = (stepIn t.val) / 24 % 2 * 1 + y1.val) (h2 : z2.val = y2.val) (h3 : z3.val = y3.val) (h4 : z4.val = (stepIn t.val) % 24 * 128 + y4.val) :
    (iblk m c 3 t : Vec F S1x1x3x10x128 .i8) (ValueIdx.ix5 y0 y1 y2 y3 y4) = (V m c main_v13 : Vec F S10x2x3x10x3072 .i8) (ValueIdx.ix5 z0 z1 z2 z3 z4) := by
  have h := index_3 t
  show (V m c main_v13 : Vec F S10x2x3x10x3072 .i8) ((win0_3.rect t).emb _) = _
  congr 1
  funext a
  apply Fin.ext
  fin_cases a
  · exact (win0_3.rect_emb_val t _ 0).trans ((congrArg (· * 1 + y0.val) h.1).trans (by rw [h0]))
  · exact (win0_3.rect_emb_val t _ 1).trans ((congrArg (· * 1 + y1.val) h.2.1).trans (by rw [h1]))
  · exact (win0_3.rect_emb_val t _ 2).trans ((congrArg (· * 3 + y2.val) h.2.2.1).trans (by rw [h2]; exact (congrArg (· + _) (Nat.zero_mul _)).trans (Nat.zero_add _)))
  · exact (win0_3.rect_emb_val t _ 3).trans ((congrArg (· * 10 + y3.val) h.2.2.2.1).trans (by rw [h3]; exact (congrArg (· + _) (Nat.zero_mul _)).trans (Nat.zero_add _)))
  · exact (win0_3.rect_emb_val t _ 4).trans ((congrArg (· * 128 + y4.val) h.2.2.2.2).trans (by rw [h4]))

/-- Window 4's block at a point. -/
theorem iblk_4 (t : Fin cfg0.N) (y0 : Fin 1) (y1 : Fin 10) (y2 : Fin 96) (y3 : Fin 128) (z0 : Fin 10) (z1 : Fin 20) (z2 : Fin 96) (z3 : Fin 3072) (h0 : z0.val = (stepIn t.val) / 48 * 1 + y0.val) (h1 : z1.val = (stepIn t.val) / 24 % 2 * 10 + y1.val) (h2 : z2.val = y2.val) (h3 : z3.val = (stepIn t.val) % 24 * 128 + y3.val) :
    (iblk m c 4 t : Vec F S1x10x96x128 .f32) (ValueIdx.ix4 y0 y1 y2 y3) = (V m c main_v4 : Vec F S10x20x96x3072 .f32) (ValueIdx.ix4 z0 z1 z2 z3) := by
  have h := index_4 t
  show (V m c main_v4 : Vec F S10x20x96x3072 .f32) ((win0_4.rect t).emb _) = _
  congr 1
  funext a
  apply Fin.ext
  fin_cases a
  · exact (win0_4.rect_emb_val t _ 0).trans ((congrArg (· * 1 + y0.val) h.1).trans (by rw [h0]))
  · exact (win0_4.rect_emb_val t _ 1).trans ((congrArg (· * 10 + y1.val) h.2.1).trans (by rw [h1]))
  · exact (win0_4.rect_emb_val t _ 2).trans ((congrArg (· * 96 + y2.val) h.2.2.1).trans (by rw [h2]; exact (congrArg (· + _) (Nat.zero_mul _)).trans (Nat.zero_add _)))
  · exact (win0_4.rect_emb_val t _ 3).trans ((congrArg (· * 128 + y3.val) h.2.2.2).trans (by rw [h3]))

/-- Window 5's block at a point. -/
theorem iblk_5 (t : Fin cfg0.N) (y0 : Fin 1) (y1 : Fin 1) (y2 : Fin 10) (y3 : Fin 128) (z0 : Fin 10) (z1 : Fin 2) (z2 : Fin 10) (z3 : Fin 3072) (h0 : z0.val = (stepIn t.val) / 48 * 1 + y0.val) (h1 : z1.val = (stepIn t.val) / 24 % 2 * 1 + y1.val) (h2 : z2.val = y2.val) (h3 : z3.val = (stepIn t.val) % 24 * 128 + y3.val) :
    (iblk m c 5 t : Vec F S1x1x10x128 .f32) (ValueIdx.ix4 y0 y1 y2 y3) = (V m c main_v7 : Vec F S10x2x10x3072 .f32) (ValueIdx.ix4 z0 z1 z2 z3) := by
  have h := index_5 t
  show (V m c main_v7 : Vec F S10x2x10x3072 .f32) ((win0_5.rect t).emb _) = _
  congr 1
  funext a
  apply Fin.ext
  fin_cases a
  · exact (win0_5.rect_emb_val t _ 0).trans ((congrArg (· * 1 + y0.val) h.1).trans (by rw [h0]))
  · exact (win0_5.rect_emb_val t _ 1).trans ((congrArg (· * 1 + y1.val) h.2.1).trans (by rw [h1]))
  · exact (win0_5.rect_emb_val t _ 2).trans ((congrArg (· * 10 + y2.val) h.2.2.1).trans (by rw [h2]; exact (congrArg (· + _) (Nat.zero_mul _)).trans (Nat.zero_add _)))
  · exact (win0_5.rect_emb_val t _ 3).trans ((congrArg (· * 128 + y3.val) h.2.2.2).trans (by rw [h3]))

/-- Window 6's block at a point. -/
theorem iblk_6 (t : Fin cfg0.N) (y0 : Fin 384) (y1 : Fin 256) (z0 : Fin 384) (z1 : Fin 256) (h0 : z0.val = y0.val) (h1 : z1.val = y1.val) :
    (iblk m c 6 t : Vec F S384x256 .bf16) (ValueIdx.ix2 y0 y1) = (V m c main_v25 : Vec F S384x256 .bf16) (ValueIdx.ix2 z0 z1) := by
  have h := index_6 t
  show (V m c main_v25 : Vec F S384x256 .bf16) ((win0_6.rect t).emb _) = _
  congr 1
  funext a
  apply Fin.ext
  fin_cases a
  · exact (win0_6.rect_emb_val t _ 0).trans ((congrArg (· * 384 + y0.val) h.1).trans (by rw [h0]; exact (congrArg (· + _) (Nat.zero_mul _)).trans (Nat.zero_add _)))
  · exact (win0_6.rect_emb_val t _ 1).trans ((congrArg (· * 256 + y1.val) h.2).trans (by rw [h1]; exact (congrArg (· + _) (Nat.zero_mul _)).trans (Nat.zero_add _)))

/-- Window 7's block at a point. -/
theorem iblk_7 (t : Fin cfg0.N) (y0 : Fin 1) (y1 : Fin 10) (y2 : Fin 128) (y3 : Fin 128) (z0 : Fin 10) (z1 : Fin 20) (z2 : Fin 3072) (z3 : Fin 128) (h0 : z0.val = (t.val - 1) / 48 * 1 + y0.val) (h1 : z1.val = (t.val - 1) / 24 % 2 * 10 + y1.val) (h2 : z2.val = (t.val - 1) % 24 * 128 + y2.val) (h3 : z3.val = y3.val) :
    (iblk m c 7 t : Vec F S1x10x128x128 .bf16) (ValueIdx.ix4 y0 y1 y2 y3) = (V m c main_v5 : Vec F S10x20x3072x128 .bf16) (ValueIdx.ix4 z0 z1 z2 z3) := by
  have h := index_7 t
  show (V m c main_v5 : Vec F S10x20x3072x128 .bf16) ((win0_7.rect t).emb _) = _
  congr 1
  funext a
  apply Fin.ext
  fin_cases a
  · exact (win0_7.rect_emb_val t _ 0).trans ((congrArg (· * 1 + y0.val) h.1).trans (by rw [h0]))
  · exact (win0_7.rect_emb_val t _ 1).trans ((congrArg (· * 10 + y1.val) h.2.1).trans (by rw [h1]))
  · exact (win0_7.rect_emb_val t _ 2).trans ((congrArg (· * 128 + y2.val) h.2.2.1).trans (by rw [h2]))
  · exact (win0_7.rect_emb_val t _ 3).trans ((congrArg (· * 128 + y3.val) h.2.2.2).trans (by rw [h3]; exact (congrArg (· + _) (Nat.zero_mul _)).trans (Nat.zero_add _)))

/-- Window 8's block at a point. -/
theorem iblk_8 (t : Fin cfg0.N) (y0 : Fin 1) (y1 : Fin 1) (y2 : Fin 10) (y3 : Fin 128) (z0 : Fin 10) (z1 : Fin 2) (z2 : Fin 10) (z3 : Fin 3072) (h0 : z0.val = (t.val - 1) / 48 * 1 + y0.val) (h1 : z1.val = (t.val - 1) / 24 % 2 * 1 + y1.val) (h2 : z2.val = y2.val) (h3 : z3.val = (t.val - 1) % 24 * 128 + y3.val) :
    (iblk m c 8 t : Vec F S1x1x10x128 .f32) (ValueIdx.ix4 y0 y1 y2 y3) = (V m c main_v7 : Vec F S10x2x10x3072 .f32) (ValueIdx.ix4 z0 z1 z2 z3) := by
  have h := index_8 t
  show (V m c main_v7 : Vec F S10x2x10x3072 .f32) ((win0_8.rect t).emb _) = _
  congr 1
  funext a
  apply Fin.ext
  fin_cases a
  · exact (win0_8.rect_emb_val t _ 0).trans ((congrArg (· * 1 + y0.val) h.1).trans (by rw [h0]))
  · exact (win0_8.rect_emb_val t _ 1).trans ((congrArg (· * 1 + y1.val) h.2.1).trans (by rw [h1]))
  · exact (win0_8.rect_emb_val t _ 2).trans ((congrArg (· * 10 + y2.val) h.2.2.1).trans (by rw [h2]; exact (congrArg (· + _) (Nat.zero_mul _)).trans (Nat.zero_add _)))
  · exact (win0_8.rect_emb_val t _ 3).trans ((congrArg (· * 128 + y3.val) h.2.2.2).trans (by rw [h3]))

/-- Window 9's block at a point. -/
theorem iblk_9 (t : Fin cfg0.N) (y0 : Fin 1) (y1 : Fin 10) (y2 : Fin 96) (y3 : Fin 128) (z0 : Fin 10) (z1 : Fin 20) (z2 : Fin 96) (z3 : Fin 128) (h0 : z0.val = (t.val - 1) / 48 * 1 + y0.val) (h1 : z1.val = (t.val - 1) / 24 % 2 * 10 + y1.val) (h2 : z2.val = y2.val) (h3 : z3.val = y3.val) :
    (iblk m c 9 t : Vec F S1x10x96x128 .f32) (ValueIdx.ix4 y0 y1 y2 y3) = (V m c main_arg7 : Vec F S10x20x96x128 .f32) (ValueIdx.ix4 z0 z1 z2 z3) := by
  have h := index_9 t
  show (V m c main_arg7 : Vec F S10x20x96x128 .f32) ((win0_9.rect t).emb _) = _
  congr 1
  funext a
  apply Fin.ext
  fin_cases a
  · exact (win0_9.rect_emb_val t _ 0).trans ((congrArg (· * 1 + y0.val) h.1).trans (by rw [h0]))
  · exact (win0_9.rect_emb_val t _ 1).trans ((congrArg (· * 10 + y1.val) h.2.1).trans (by rw [h1]))
  · exact (win0_9.rect_emb_val t _ 2).trans ((congrArg (· * 96 + y2.val) h.2.2.1).trans (by rw [h2]; exact (congrArg (· + _) (Nat.zero_mul _)).trans (Nat.zero_add _)))
  · exact (win0_9.rect_emb_val t _ 3).trans ((congrArg (· * 128 + y3.val) h.2.2.2).trans (by rw [h3]; exact (congrArg (· + _) (Nat.zero_mul _)).trans (Nat.zero_add _)))

end Cert.KernelIdeal.Gen
end
-- ==== Proof.Kern.Host.lean ====
/-
  The arrays the kernel's windows stage, as the host program leaves them.
-/
module

public import proofs.«01_k».proof.Proof.Gen.KernelIdeal.Frame
public import Idealize.ShloMosaic.Lib.Claim
public import Idealize.ShloMosaic.Lib.StableHlo.Run

@[expose] public section

set_option maxRecDepth 16384

noncomputable section

namespace Cert.KernelIdeal.Gen

open Idealize.ShloMosaic Idealize.ShloMosaic.TcCoe Idealize.ShloMosaic.Tactic
open Idealize.SL Idealize.SL.Sem Idealize.ShloMosaic.StableHlo

variable {F : FTy → Type} [FloatOps F] [Named F]
variable (m : (ℓ : Loc nD τ sig) → Buf (Elt F) ℓ) (c : Dev nD)

/-- An argument array as launched. -/
abbrev arg (b : Ref sig .tc) : Buf (Elt F) ((c : Thread nD τ).loc b) := m ((c : Thread nD τ).loc b)

theorem V_main_v2 : V m c main_v2 = transpose S10x20x96x3072 [0, 2, 3, 1] (Host.convertf .fp8e4m3 (arg m c main_arg0) : FVec F S10x3072x20x96 .fp8e4m3) transposes_S10x3072x20x96_S10x20x96x3072_0_2_3_1 := by
  unfold_abbrev_sides
  simp only [hostOps0, hostOps0_1, hostOps0_2, hostOps0_3, hostOps0_4, List.flatten_cons, List.flatten_nil, List.append_nil, List.cons_append, List.nil_append]
  after_results

theorem V_main_v3 : V m c main_v3 = transpose S10x20x96x3072 [0, 2, 3, 1] (Host.convertf .fp8e4m3 (arg m c main_arg2) : FVec F S10x3072x20x96 .fp8e4m3) transposes_S10x3072x20x96_S10x20x96x3072_0_2_3_1 := by
  unfold_abbrev_sides
  simp only [hostOps0, hostOps0_1, hostOps0_2, hostOps0_3, hostOps0_4, List.flatten_cons, List.flatten_nil, List.append_nil, List.cons_append, List.nil_append]
  after_results

theorem V_main_v4 : V m c main_v4 = transpose S10x20x96x3072 [0, 2, 3, 1] (arg m c main_arg5 : FVec F S10x3072x20x96 .f32) transposes_S10x3072x20x96_S10x20x96x3072_0_2_3_1 := by
  unfold_abbrev_sides
  simp only [hostOps0, hostOps0_1, hostOps0_2, hostOps0_3, hostOps0_4, List.flatten_cons, List.flatten_nil, List.append_nil, List.cons_append, List.nil_append]
  after_results

theorem V_main_v5 : V m c main_v5 = transpose S10x20x3072x128 [0, 2, 1, 3] (arg m c main_arg4 : FVec F S10x3072x20x128 .bf16) transposes_S10x3072x20x128_S10x20x3072x128_0_2_1_3 := by
  unfold_abbrev_sides
  simp only [hostOps0, hostOps0_1, hostOps0_2, hostOps0_3, hostOps0_4, List.flatten_cons, List.flatten_nil, List.append_nil, List.cons_append, List.nil_append]
  after_results

theorem V_main_v7 : V m c main_v7 = shapeCast S10x2x10x3072 (transpose S10x20x3072 [0, 2, 1] (arg m c main_arg6 : FVec F S10x3072x20 .f32) transposes_S10x3072x20_S10x20x3072_0_2_1) shapeCasts_S10x20x3072_S10x2x10x3072 := by
  unfold_abbrev_sides
  simp only [hostOps0, hostOps0_1, hostOps0_2, hostOps0_3, hostOps0_4, List.flatten_cons, List.flatten_nil, List.append_nil, List.cons_append, List.nil_append]
  after_results
  rfl

theorem V_main_v10 : V m c main_v10 = transpose S10x2x3x10x3072 [0, 2, 1, 3, 4] (shapeCast S10x3x2x10x3072 (transpose S10x3x20x3072 [0, 3, 2, 1] (arg m c main_arg1 : IVec S10x3072x20x3 8)
    transposes_S10x3072x20x3_S10x3x20x3072_0_3_2_1) shapeCasts_S10x3x20x3072_S10x3x2x10x3072) transposes_S10x3x2x10x3072_S10x2x3x10x3072_0_2_1_3_4 := by
  unfold_abbrev_sides
  simp only [hostOps0, hostOps0_1, hostOps0_2, hostOps0_3, hostOps0_4, List.flatten_cons, List.flatten_nil, List.append_nil, List.cons_append, List.nil_append]
  after_results
  rfl

theorem V_main_v13 : V m c main_v13 = transpose S10x2x3x10x3072 [0, 2, 1, 3, 4] (shapeCast S10x3x2x10x3072 (transpose S10x3x20x3072 [0, 3, 2, 1] (arg m c main_arg3 : IVec S10x3072x20x3 8)
    transposes_S10x3072x20x3_S10x3x20x3072_0_3_2_1) shapeCasts_S10x3x20x3072_S10x3x2x10x3072) transposes_S10x3x2x10x3072_S10x2x3x10x3072_0_2_1_3_4 := by
  unfold_abbrev_sides
  simp only [hostOps0, hostOps0_1, hostOps0_2, hostOps0_3, hostOps0_4, List.flatten_cons, List.flatten_nil, List.append_nil, List.cons_append, List.nil_append]
  after_results
  rfl

/-- Division of 32-bit integers rounding down, by 64. -/
def fdiv (x : IVec S128x128 32) : IVec S128x128 32 :=
  select (andi (cmpi .ne (signi x) (broadcastInDim S128x128 ![] bcast_S_S128x128 (signi (constantI S_ 32 64#32))))
      (cmpi .ne (Host.remsi x (broadcastInDim S128x128 ![] bcast_S_S128x128 (constantI S_ 32 64#32))) (broadcastInDim S128x128 ![] bcast_S_S128x128 (constantI S_ 32 0#32))))
    (subi (Host.divsi x (broadcastInDim S128x128 ![] bcast_S_S128x128 (constantI S_ 32 64#32))) (broadcastInDim S128x128 ![] bcast_S_S128x128 (constantI S_ 32 1#32)))
    (Host.divsi x (broadcastInDim S128x128 ![] bcast_S_S128x128 (constantI S_ 32 64#32)))

/-- Whether two positions lie in the same chunk. -/
def same : IVec S128x128 1 := cmpi .eq (fdiv (iotaInDim S128x128 32 0)) (fdiv (iotaInDim S128x128 32 1))

theorem V_main_v24 : V m c main_v24 = (uitofp .bf16 (concatenate S128x256 1 [⟨S128x128, andi same (cmpi .sle (iotaInDim S128x128 32 0) (iotaInDim S128x128 32 1))⟩,
    ⟨S128x128, andi same (cmpi .sgt (iotaInDim S128x128 32 0) (iotaInDim S128x128 32 1))⟩] concatenates_S128x128_S128x128_S128x256_d1) : FVec F S128x256 .bf16) := by
  unfold_abbrev_sides
  simp only [hostOps0, hostOps0_1, hostOps0_2, hostOps0_3, hostOps0_4, List.flatten_cons, List.flatten_nil, List.append_nil, List.cons_append, List.nil_append]
  after_results
  rfl

theorem V_main_v25 : V m c main_v25 = (concatenate S384x256 0 [⟨S128x256, (V m c main_v24 : FVec F S128x256 .bf16)⟩, ⟨S128x256, (V m c main_v24 : FVec F S128x256 .bf16)⟩,
    ⟨S128x256, (V m c main_v24 : FVec F S128x256 .bf16)⟩] concatenates_S128x256_S128x256_S128x256_S384x256_d0 : FVec F S384x256 .bf16) := by
  have e0 : V m c main_v24 = after (List.flatten [hostOps0, hostOps0_1, hostOps0_2, hostOps0_3, hostOps0_4.dropLast]) (fun b => m (c, b)) (Proc.devRef .tc main_v24) := by
    unfold_abbrev_sides
    simp only [hostOps0, hostOps0_1, hostOps0_2, hostOps0_3, hostOps0_4, List.flatten_cons, List.flatten_nil, List.append_nil, List.cons_append, List.nil_append, List.dropLast, after_cons, after_nil]
    rw [nary_result_ne]
    decide
  rw [e0]
  show after (List.flatten [hostOps0, hostOps0_1, hostOps0_2, hostOps0_3, hostOps0_4]) (fun b => m (c, b)) (Proc.devRef .tc main_v25) = _
  simp only [hostOps0, hostOps0_1, hostOps0_2, hostOps0_3, hostOps0_4, List.flatten_cons, List.flatten_nil, List.append_nil, List.cons_append, List.nil_append, List.dropLast, after_cons, after_nil]
  rw [nary_result]
  rfl

end Cert.KernelIdeal.Gen
end
-- ==== Proof.Math.Model.lean ====
module

public import proofs.«01_k».proof.KernelIdeal

/-! The kernel's arithmetic as plain functions of one pair of heads, in the operations of the printed
program: what is stored for a head is one of these at the blocks loaded for it. -/

@[expose] public section
set_option maxRecDepth 4096
noncomputable section

namespace Kda.K
open Idealize.ShloMosaic Cert.KernelIdeal Cert.KernelIdeal.Facts₀

variable {F : FTy → Type} [FloatOps F] [Named F] [Facts₀]

/-- The leading bf16 part of a value. -/
def p1 {s : Shape} (x : FVec F s .f32) : FVec F s .bf16 := truncf .bf16 x
/-- What the leading part leaves. -/
def r1 {s : Shape} (x : FVec F s .f32) : FVec F s .f32 := subf x (extf .f32 (p1 x))
/-- The second bf16 part. -/
def p2 {s : Shape} (x : FVec F s .f32) : FVec F s .bf16 := truncf .bf16 (r1 x)
/-- The third bf16 part. -/
def p3 {s : Shape} (x : FVec F s .f32) : FVec F s .bf16 := truncf .bf16 (subf (r1 x) (extf .f32 (p2 x)))

/-- A block of bf16 zeros. -/
def z16 (s : Shape) : FVec F s .bf16 := broadcast s (Scalar.ofBits .bf16 0x0000#16)
/-- A block of f32 zeros. -/
def z32 (s : Shape) : FVec F s .f32 := broadcast s (Scalar.ofBits .f32 0x00000000#32)

/-! ### One chunk of the recurrence -/

/-- The state's parts side by side. -/
def stateRhs (s : FVec F S96x128 .f32) : FVec F S256x256 .bf16 :=
  concatenate S256x256 1
    [⟨S256x128, concatenate S256x128 0 [⟨S96x128, p1 s⟩, ⟨S32x128, z16 S32x128⟩, ⟨S96x128, p2 s⟩, ⟨S32x128, z16 S32x128⟩] concatenates_S96x128_S32x128_S96x128_S32x128_S256x128_d0⟩,
     ⟨S256x128, concatenate S256x128 0 [⟨S96x128, p3 s⟩, ⟨S32x128, z16 S32x128⟩, ⟨S128x128, z16 S128x128⟩] concatenates_S96x128_S32x128_S128x128_S256x128_d0⟩] concatenates_S256x128_S256x128_S256x256_d1

/-- Keys and queries against the state. -/
def proj (kq : FVec F S128x128 .bf16) (s : FVec F S96x128 .f32) : FVec F S128x128 .f32 :=
  let d : FVec F S128x256 .f32 := matmul dot_S128x256_S256x256_S128x256_1_0_0_1_n_n none
    (concatenate S128x256 1 [⟨S128x128, kq⟩, ⟨S128x128, kq⟩] concatenates_S128x128_S128x128_S128x256_d1) (stateRhs s) (constant S128x256 .f32 0x00000000#32)
  addf (extractStridedSlice S128x128 ![0, 0] d) (extractStridedSlice S128x128 ![0, 128] d)

/-- The parts of a right operand, stacked for chunk 0. -/
def six0 (x : FVec F S64x128 .f32) : FVec F S256x128 .bf16 :=
  concatenate S256x128 0 [⟨S64x128, p1 x⟩, ⟨S64x128, p2 x⟩, ⟨S64x128, p3 x⟩, ⟨S64x128, p1 x⟩] concatenates_S64x128_S64x128_S64x128_S64x128_S256x128_d0
/-- The parts of a right operand, stacked for chunk 1. -/
def six1 (x : FVec F S64x128 .f32) : FVec F S256x128 .bf16 :=
  concatenate S256x128 0 [⟨S64x128, p1 x⟩, ⟨S64x128, p2 x⟩, ⟨S64x128, p1 x⟩, ⟨S64x128, p3 x⟩] concatenates_S64x128_S64x128_S64x128_S64x128_S256x128_d0

/-- The stacked parts of a left operand: two rows of tiles. -/
def two (a b : FVec F S64x128 .bf16) : FVec F S64x256 .bf16 := concatenate S64x256 1 [⟨S64x128, a⟩, ⟨S64x128, b⟩] concatenates_S64x128_S64x128_S64x256_d1

/-- The chunk's new values before the write strength. -/
def res (v : FVec F S64x128 .bf16) (p : FVec F S128x128 .f32) : FVec F S64x128 .f32 :=
  subf (extf .f32 v) (extractStridedSlice S64x128 ![0, 0] p)

/-- The solved rows, scaled by the write strength. -/
def uval (t0 t1 t2 : FVec F S64x128 .bf16) (six : FVec F S256x128 .bf16) (b : FVec F S64x1 .f32) : FVec F S64x128 .f32 :=
  let d : FVec F S128x128 .f32 := matmul dot_S128x256_S256x128_S128x128_1_0_0_1_n_n none
    (concatenate S128x256 0 [⟨S64x256, two t0 t1⟩, ⟨S64x256, two t2 (z16 S64x128)⟩] concatenates_S64x256_S64x256_S128x256_d0) six (constant S128x128 .f32 0x00000000#32)
  mulf (addf (extractStridedSlice S64x128 ![0, 0] d) (extractStridedSlice S64x128 ![64, 0] d))
    (broadcastTo S64x128 (shapeCast S64x1 b))

/-- Scores and decayed keys against the solved rows. -/
def wval (a0 a1 a2 : FVec F S64x128 .bf16) (kd0 kd1 : FVec F S96x128 .bf16) (six : FVec F S256x128 .bf16) : FVec F S224x128 .f32 :=
  matmul dot_S224x256_S256x128_S224x128_1_0_0_1_n_n none
    (concatenate S224x256 0 [⟨S64x256, two a0 a1⟩, ⟨S64x256, two a2 (z16 S64x128)⟩,
      ⟨S96x256, concatenate S96x256 1 [⟨S96x128, kd0⟩, ⟨S96x128, kd1⟩] concatenates_S96x128_S96x128_S96x256_d1⟩] concatenates_S64x256_S64x256_S96x256_S224x256_d0) six (constant S224x128 .f32 0x00000000#32)

/-- The chunk's output rows. -/
def oval (p : FVec F S128x128 .f32) (w : FVec F S224x128 .f32) : FVec F S64x128 .bf16 :=
  truncf .bf16 (mulf (broadcast S64x128 (Scalar.ofBits .f32 0x3DD105EC#32))
    (addf (extractStridedSlice S64x128 ![64, 0] p)
      (addf (extractStridedSlice S64x128 ![0, 0] w) (extractStridedSlice S64x128 ![64, 0] w))))

/-- The state after the chunk. -/
def snext (dec s : FVec F S96x128 .f32) (w : FVec F S224x128 .f32) : FVec F S96x128 .f32 :=
  addf (mulf dec s) (extractStridedSlice S96x128 ![128, 0] w)

/-! ### The data of one head -/

/-- A row of scales spread over 32 rows. -/
def scaleRow (h : ℕ) (w : S10x128.Slices ![h, 0] S1x128) (sc : FVec F S10x128 .f32) : FVec F S32x128 .bf16 :=
  truncf .bf16 (broadcastTo S32x128 (shapeCast S1x128 (extractStridedSlice S1x128 ![h, 0] sc w)))

/-- One scale byte row per group, as powers of two. -/
def scalePlane (x : IVec S1x1x1x10x128 8) : FVec F S10x128 .f32 :=
  bitcastToFloat .f32 (shli (extui 32 (shapeCast S10x128 x)) (broadcast S10x128 (23#32)))

/-- Codes times their scales. -/
def decode (h : ℕ) (w : S10x128.Slices ![h, 0] S1x128) (codes : FVec F S96x128 .fp8e4m3) (s0 s1 s2 : FVec F S10x128 .f32) :
    FVec F S96x128 .bf16 :=
  mulf (extf .bf16 codes)
    (concatenate S96x128 0 [⟨S32x128, scaleRow h w s0⟩, ⟨S32x128, scaleRow h w s1⟩, ⟨S32x128, scaleRow h w s2⟩] concatenates_S32x128_S32x128_S32x128_S96x128_d0)

/-- Sums of the gates, in powers of two, within a chunk and after it. -/
def gsum (g : FVec F S96x128 .f32) (cum : FVec F S384x256 .bf16) : FVec F S96x256 .f32 :=
  let x : FVec F S96x128 .f32 := mulf g (broadcast S96x128 (Named.named κ "log2_e" 0x3FB8AA3B#32))
  matmul dot_S96x384_S384x256_S96x256_1_0_0_1_n_n none
    (concatenate S96x384 1 [⟨S96x128, p1 x⟩, ⟨S96x128, p2 x⟩, ⟨S96x128, p3 x⟩] concatenates_S96x128_S96x128_S96x128_S96x384_d1) cum (constant S96x256 .f32 0x00000000#32)

def gc (gs : FVec F S96x256 .f32) : FVec F S96x128 .f32 := extractStridedSlice S96x128 ![0, 0] gs
def gr (gs : FVec F S96x256 .f32) : FVec F S96x128 .f32 := extractStridedSlice S96x128 ![0, 128] gs
/-- Decay from the chunk's start. -/
def epos (gs : FVec F S96x256 .f32) : FVec F S96x128 .f32 := exp2 (gc gs)
/-- Its reciprocal. -/
def eneg (gs : FVec F S96x256 .f32) : FVec F S96x128 .f32 := exp2 (subf (z32 S96x128) (gc gs))
/-- Decay to the chunk's end. -/
def erem (gs : FVec F S96x256 .f32) : FVec F S96x128 .f32 := exp2 (gr gs)
/-- A decoded block times a decay. -/
def times (x : FVec F S96x128 .bf16) (e : FVec F S96x128 .f32) : FVec F S96x128 .bf16 := mulf x (truncf .bf16 e)

/-- Decay over a whole chunk (its last token is `c`), spread over the lanes. -/
def decOf (c : ℕ) (w : S96x128.Slices ![0, c] S96x1) (e : FVec F S96x128 .f32) : FVec F S96x128 .f32 :=
  broadcastTo S96x128 (shapeCast S96x1 (extractStridedSlice S96x1 ![0, c] e w))

/-- The lanes of chunk 0. -/
def firstb (s : Shape) (i : IVec s 32) : IVec s 1 := cmpi .slt i (broadcast s (64#32))
/-- The lane numbers of a 96-row block. -/
def lane96 : IVec S96x128 32 := iota .tc S96x128 32 [1] iota_S96x128_d1_w32
def lane64 : IVec S64x128 32 := iota .tc S64x128 32 [1] iota_S64x128_d1_w32
def lane32 : IVec S32x128 32 := iota .tc S32x128 32 [1] iota_S32x128_d1_w32

def kd00 (k : FVec F S96x128 .bf16) : FVec F S96x128 .bf16 :=
  select (firstb S96x128 lane96) k (dynamicRotate 1 64#32 none k rotates_S96x128_d1)
def kd01 (k : FVec F S96x128 .bf16) : FVec F S96x128 .bf16 := select (firstb S96x128 lane96) k (z16 S96x128)
def kd10 (k : FVec F S96x128 .bf16) : FVec F S96x128 .bf16 :=
  select (firstb S96x128 lane96) (dynamicRotate 1 64#32 none k rotates_S96x128_d1) k
def kd11 (k : FVec F S96x128 .bf16) : FVec F S96x128 .bf16 := select (firstb S96x128 lane96) (z16 S96x128) k

/-- A block padded to 128 rows and transposed. -/
def padT (x : FVec F S96x128 .bf16) : FVec F S128x128 .bf16 :=
  transpose S128x128 [1, 0] (concatenate S128x128 0 [⟨S96x128, x⟩, ⟨S32x128, z16 S32x128⟩] concatenates_S96x128_S32x128_S128x128_d0)

/-- Keys over queries of one chunk. -/
def kqOf (c : ℕ) (w : S128x128.Slices ![c, 0] S64x128) (kp qp : FVec F S96x128 .bf16) : FVec F S128x128 .bf16 :=
  concatenate S128x128 0 [⟨S64x128, extractStridedSlice S64x128 ![c, 0] (padT kp) w⟩, ⟨S64x128, extractStridedSlice S64x128 ![c, 0] (padT qp) w⟩] concatenates_S64x128_S64x128_S128x128_d0

/-- Scores of keys (rows 0 to 63) and queries (rows 64 to 127) against the keys of their chunk. -/
def scores (kp kn qp : FVec F S96x128 .bf16) : FVec F S128x128 .f32 :=
  matmul dot_S128x256_S256x128_S128x128_1_0_0_1_n_n none
    (concatenate S128x256 0 [⟨S64x256, two (extractStridedSlice S64x128 ![0, 0] (padT kp)) (extractStridedSlice S64x128 ![64, 0] (padT kp))⟩,
      ⟨S64x256, two (extractStridedSlice S64x128 ![0, 0] (padT qp)) (extractStridedSlice S64x128 ![64, 0] (padT qp))⟩] concatenates_S64x256_S64x256_S128x256_d0)
    (concatenate S256x128 0 [⟨S96x128, select (firstb S96x128 lane96) kn (z16 S96x128)⟩, ⟨S32x128, z16 S32x128⟩,
      ⟨S96x128, select (firstb S96x128 lane96) (z16 S96x128) kn⟩, ⟨S32x128, z16 S32x128⟩] concatenates_S96x128_S32x128_S96x128_S32x128_S256x128_d0)
    (constant S128x128 .f32 0x00000000#32)

/-- The token a lane stands for, within its chunk. -/
def tok : IVec S64x128 32 := andi (lane64) (broadcast S64x128 (63#32))
def row64 : IVec S64x128 32 := iota .tc S64x128 32 [0] iota_S64x128_d0_w32

/-- The strictly lower scores of keys with the write strengths. -/
def mOf (sc : FVec F S128x128 .f32) (b : FVec F S1x128 .f32) : FVec F S64x128 .f32 :=
  select (cmpi .sgt row64 tok) (mulf (extractStridedSlice S64x128 ![0, 0] sc) (broadcastTo S64x128 b)) (z32 S64x128)
/-- The lower scores of queries. -/
def aOf (sc : FVec F S128x128 .f32) : FVec F S64x128 .f32 :=
  select (cmpi .sge row64 tok) (extractStridedSlice S64x128 ![64, 0] sc) (z32 S64x128)

def rot64 (x : FVec F S64x128 .f32) : FVec F S64x128 .f32 := dynamicRotate 1 64#32 none x rotates_S64x128_d1
/-- The parts of a left operand holding a chunk in each half of the lanes. -/
def l00 (x : FVec F S64x128 .f32) : FVec F S64x128 .bf16 := select (firstb S64x128 lane64) (p1 x) (p1 (rot64 x))
def l01 (x : FVec F S64x128 .f32) : FVec F S64x128 .bf16 := select (firstb S64x128 lane64) (p1 x) (p2 (rot64 x))
def l02 (x : FVec F S64x128 .f32) : FVec F S64x128 .bf16 := select (firstb S64x128 lane64) (p3 x) (p2 (rot64 x))
def l10 (x : FVec F S64x128 .f32) : FVec F S64x128 .bf16 := select (firstb S64x128 lane64) (p1 (rot64 x)) (p1 x)
def l11 (x : FVec F S64x128 .f32) : FVec F S64x128 .bf16 := select (firstb S64x128 lane64) (p2 (rot64 x)) (p1 x)
def l12 (x : FVec F S64x128 .f32) : FVec F S64x128 .bf16 := select (firstb S64x128 lane64) (p3 (rot64 x)) (p2 x)

/-! ### Four 32-blocks at a time -/

/-- The even blocks of lanes. -/
def even : IVec S32x128 1 :=
  cmpi .eq (andi (shrsi lane32 (broadcast S32x128 (5#32))) (broadcast S32x128 (1#32))) (broadcast S32x128 (0#32))
def rot32 (x : FVec F S32x128 .f32) : FVec F S32x128 .f32 := dynamicRotate 1 32#32 none x rotates_S32x128_d1
def rot96 (x : FVec F S32x128 .f32) : FVec F S32x128 .f32 := dynamicRotate 1 96#32 none x rotates_S32x128_d1
def up (x : FVec F S64x128 .f32) : FVec F S32x128 .f32 := extractStridedSlice S32x128 ![0, 0] x
def dn (x : FVec F S64x128 .f32) : FVec F S32x128 .f32 := extractStridedSlice S32x128 ![32, 0] x
/-- The leading diagonal blocks of both heads. -/
def nA (m0 m1 : FVec F S64x128 .f32) : FVec F S32x128 .f32 := select even (up m0) (rot32 (up m1))
/-- The trailing diagonal blocks of both heads. -/
def nC (m0 m1 : FVec F S64x128 .f32) : FVec F S32x128 .f32 := select even (rot96 (dn m0)) (dn m1)
/-- The blocks below the diagonal of both heads. -/
def nL (m0 m1 : FVec F S64x128 .f32) : FVec F S32x128 .f32 := select even (dn m0) (rot32 (dn m1))

def lane8 : IVec S8x128 32 := iota .tc S8x128 32 [1] iota_S8x128_d1_w32
def row8 : IVec S8x128 32 := iota .tc S8x128 32 [0] iota_S8x128_d0_w32
/-- The identity's rows of a group of eight. -/
def eye8 (g : ℕ) : FVec F S8x128 .f32 :=
  select (cmpi .eq (andi lane8 (broadcast S8x128 (31#32))) (addi row8 (broadcast S8x128 (BitVec.ofNat 32 (8 * g)))))
    (broadcast S8x128 (Scalar.ofBits .f32 0x3F800000#32)) (broadcast S8x128 (Scalar.ofBits .f32 0x00000000#32))
/-- The lanes of column `j` of each block. -/
def colIx (j : ℕ) : IVec S8x128 32 :=
  addi (andi lane8 (broadcast S8x128 (4294967264#32))) (broadcast S8x128 (BitVec.ofNat 32 j))
def normIx (x : IVec S8x128 32) : IVec S8x128 32 :=
  shapeCast S8x128 (shapeCast S8x128x1 (select (cmpi .slt x (broadcast S8x128 (0#32))) (addi x (broadcast S8x128 (128#32))) x) shapeCasts_S8x128_S8x128x1) shapeCasts_S8x128x1_S8x128
theorem slices8 (g : Fin 4) : S32x128.Slices ![8 * g.val, 0] S8x128 := by revert g; decide
theorem slices1 (r : Fin 8) : S8x128.Slices ![r.val, 0] S1x128 := by revert r; decide
/-- Rows of a group of eight. -/
def grp (n : FVec F S32x128 .f32) (g : Fin 4) : FVec F S8x128 .f32 := extractStridedSlice S8x128 ![8 * g.val, 0] n (slices8 g)
/-- One row of a group, over all its rows. -/
def rowOf (x : FVec F S8x128 .f32) (r : Fin 8) : FVec F S8x128 .f32 :=
  broadcastTo S8x128 (shapeCast S1x128 (extractStridedSlice S1x128 ![r.val, 0] x (slices1 r)))
/-- The rows of the inverse, in groups of eight, after `j` steps of substitution. -/
def subst (n : FVec F S32x128 .f32) (j : ℕ) : Fin 4 → FVec F S8x128 .f32 :=
  Nat.rec (fun g => eye8 g.val)
    (fun j x g => if j < 8 * g.val + 7 then
        subf (x g) (mulf (dynamicGather 1 (grp n g) (normIx (colIx j))) (rowOf (x (Fin.ofNat 4 (j / 8))) (Fin.ofNat 8 (j % 8))))
      else x g) j
/-- The inverse of each unit lower triangular block. -/
def unitInv (n : FVec F S32x128 .f32) : FVec F S32x128 .f32 :=
  concatenate S32x128 0 [⟨S8x128, subst n 31 0⟩, ⟨S8x128, subst n 31 1⟩, ⟨S8x128, subst n 31 2⟩, ⟨S8x128, subst n 31 3⟩]
    concatenates_S8x128_S8x128_S8x128_S8x128_S32x128_d0

/-- The lanes of block `u`. -/
def blk (u : ℕ) : IVec S32x128 1 := cmpi .eq (shrsi lane32 (broadcast S32x128 (5#32))) (broadcast S32x128 (BitVec.ofNat 32 u))
/-- Four blocks along the diagonal. -/
def diag (p : FVec F S32x128 .bf16) : FVec F S128x128 .bf16 :=
  concatenate S128x128 0 [⟨S32x128, select (blk 0) p (z16 S32x128)⟩, ⟨S32x128, select (blk 1) p (z16 S32x128)⟩,
    ⟨S32x128, select (blk 2) p (z16 S32x128)⟩, ⟨S32x128, select (blk 3) p (z16 S32x128)⟩]
    concatenates_S32x128_S32x128_S32x128_S32x128_S128x128_d0
def twice (p : FVec F S32x128 .bf16) : FVec F S32x256 .bf16 := concatenate S32x256 1 [⟨S32x128, p⟩, ⟨S32x128, p⟩] concatenates_S32x128_S32x128_S32x256_d1
/-- Four products of 32-blocks. -/
def blockMM (a b : FVec F S32x128 .f32) : FVec F S32x128 .f32 :=
  let d : FVec F S96x256 .f32 := matmul dot_S96x256_S256x256_S96x256_1_0_0_1_n_n none
    (concatenate S96x256 0 [⟨S32x256, twice (p1 a)⟩, ⟨S32x256, twice (p2 a)⟩, ⟨S32x256, twice (p3 a)⟩] concatenates_S32x256_S32x256_S32x256_S96x256_d0)
    (concatenate S256x256 0 [⟨S128x256, concatenate S128x256 1 [⟨S128x128, diag (p1 b)⟩, ⟨S128x128, diag (p3 b)⟩] concatenates_S128x128_S128x128_S128x256_d1⟩,
      ⟨S128x256, concatenate S128x256 1 [⟨S128x128, diag (p2 b)⟩, ⟨S128x128, z16 S128x128⟩] concatenates_S128x128_S128x128_S128x256_d1⟩]
      concatenates_S128x256_S128x256_S256x256_d0)
    (constant S96x256 .f32 0x00000000#32)
  addf (addf (addf (extractStridedSlice S32x128 ![64, 0] d) (extractStridedSlice S32x128 ![0, 128] d))
    (extractStridedSlice S32x128 ![32, 0] d)) (extractStridedSlice S32x128 ![0, 0] d)

def xA (m0 m1 : FVec F S64x128 .f32) : FVec F S32x128 .f32 := unitInv (nA m0 m1)
def xC (m0 m1 : FVec F S64x128 .f32) : FVec F S32x128 .f32 := unitInv (nC m0 m1)
/-- The blocks of the inverses below the diagonal. -/
def zz (m0 m1 : FVec F S64x128 .f32) : FVec F S32x128 .f32 :=
  subf (z32 S32x128) (blockMM (xC m0 m1) (blockMM (nL m0 m1) (xA m0 m1)))
/-- The inverse of the first head. -/
def inv0 (m0 m1 : FVec F S64x128 .f32) : FVec F S64x128 .f32 :=
  concatenate S64x128 0 [⟨S32x128, select even (xA m0 m1) (z32 S32x128)⟩, ⟨S32x128, select even (zz m0 m1) (rot32 (xC m0 m1))⟩] concatenates_S32x128_S32x128_S64x128_d0
/-- The inverse of the second head. -/
def inv1 (m0 m1 : FVec F S64x128 .f32) : FVec F S64x128 .f32 :=
  concatenate S64x128 0 [⟨S32x128, select even (rot96 (xA m0 m1)) (z32 S32x128)⟩, ⟨S32x128, select even (rot96 (zz m0 m1)) (xC m0 m1)⟩] concatenates_S32x128_S32x128_S64x128_d0

/-! ### The heads of one grid point -/

/-- The blocks a point's head data are computed from, as they are loaded. -/
structure In (F : FTy → Type) where
  q : Fin 10 → FVec F S1x1x96x128 .fp8e4m3
  sq : Fin 3 → IVec S1x1x1x10x128 8
  k : Fin 10 → FVec F S1x1x96x128 .fp8e4m3
  sk : Fin 3 → IVec S1x1x1x10x128 8
  g : Fin 10 → FVec F S1x1x96x128 .f32
  b : Fin 10 → FVec F S1x1x1x128 .f32
  cum : FVec F S384x256 .bf16

theorem slicesScale (h : Fin 10) : S10x128.Slices ![h.val, 0] S1x128 := by revert h; decide

namespace In
variable (x : In F)
/-- A decoded block of one head: its codes against its three scale rows. -/
def dec8 (codes : FVec F S1x1x96x128 .fp8e4m3) (s : Fin 3 → IVec S1x1x1x10x128 8) (h : Fin 10) : FVec F S96x128 .bf16 :=
  decode h.val (slicesScale h) (shapeCast S96x128 codes) (scalePlane (s 0)) (scalePlane (s 1)) (scalePlane (s 2))
def qv (h : Fin 10) : FVec F S96x128 .bf16 := dec8 (x.q h) x.sq h
def kv (h : Fin 10) : FVec F S96x128 .bf16 := dec8 (x.k h) x.sk h
def gs (h : Fin 10) : FVec F S96x256 .f32 := gsum (shapeCast S96x128 (x.g h)) (shapeCast S384x256 x.cum)
def qpos (h : Fin 10) : FVec F S96x128 .bf16 := times (x.qv h) (epos (x.gs h))
def kpos (h : Fin 10) : FVec F S96x128 .bf16 := times (x.kv h) (epos (x.gs h))
def kneg (h : Fin 10) : FVec F S96x128 .bf16 := times (x.kv h) (eneg (x.gs h))
def kdec (h : Fin 10) : FVec F S96x128 .bf16 := times (x.kv h) (erem (x.gs h))
def sc (h : Fin 10) : FVec F S128x128 .f32 := scores (x.kpos h) (x.kneg h) (x.qpos h)
def mm (h : Fin 10) : FVec F S64x128 .f32 := mOf (x.sc h) (shapeCast S1x128 (x.b h))
def aa (h : Fin 10) : FVec F S64x128 .f32 := aOf (x.sc h)
/-- The inverse of a head, computed with its neighbour's. -/
def inv (h : Fin 10) : FVec F S64x128 .f32 :=
  if h.val % 2 = 0 then inv0 (x.mm h) (x.mm (Fin.ofNat 10 (h.val + 1))) else inv1 (x.mm (Fin.ofNat 10 (h.val - 1))) (x.mm h)

/-- What is stored for a head: keys and queries of a chunk. -/
def kqS (h : Fin 10) (c : Fin 2) : FVec F S1x1x128x128 .bf16 :=
  shapeCast S1x1x128x128 (if c = 0 then kqOf 0 slices_S128x128_o0_0_S64x128 (x.kpos h) (x.qpos h)
    else kqOf 64 slices_S128x128_o64_0_S64x128 (x.kpos h) (x.qpos h))
/-- The part `i` of a left operand for chunk `c`. -/
def lhsS (m : FVec F S64x128 .f32) (c : Fin 2) (i : Fin 3) : FVec F S1x1x1x64x128 .bf16 :=
  shapeCast S1x1x1x64x128 (if c = 0 then (if i = 0 then l00 m else if i = 1 then l01 m else l02 m)
    else (if i = 0 then l10 m else if i = 1 then l11 m else l12 m))
def tS (h : Fin 10) (c : Fin 2) (i : Fin 3) : FVec F S1x1x1x64x128 .bf16 := lhsS (x.inv h) c i
def aS (h : Fin 10) (c : Fin 2) (i : Fin 3) : FVec F S1x1x1x64x128 .bf16 := lhsS (x.aa h) c i
/-- The decayed keys of a chunk, in each half of the lanes. -/
def kdS (h : Fin 10) (c : Fin 2) (i : Fin 2) : FVec F S1x1x1x96x128 .bf16 :=
  shapeCast S1x1x1x96x128 (if c = 0 then (if i = 0 then kd00 (x.kdec h) else kd01 (x.kdec h))
    else (if i = 0 then kd10 (x.kdec h) else kd11 (x.kdec h)))
/-- The decay over a chunk. -/
def decS (h : Fin 10) (c : Fin 2) : FVec F S1x1x96x128 .f32 :=
  shapeCast S1x1x96x128 (if c = 0 then decOf 63 slices_S96x128_o0_63_S96x1 (epos (x.gs h))
    else decOf 127 slices_S96x128_o0_127_S96x1 (epos (x.gs h)))
end In

/-- The blocks the recurrence of a point reads, as they are loaded. -/
structure Rec (F : FTy → Type) where
  s : Fin 10 → FVec F S1x1x96x128 .f32
  v : Fin 10 → Fin 2 → FVec F S1x1x64x128 .bf16
  b : FVec F S1x1x10x128 .f32
  kq : Fin 10 → Fin 2 → FVec F S1x1x128x128 .bf16
  t : Fin 10 → Fin 2 → Fin 3 → FVec F S1x1x1x64x128 .bf16
  a : Fin 10 → Fin 2 → Fin 3 → FVec F S1x1x1x64x128 .bf16
  kd : Fin 10 → Fin 2 → Fin 2 → FVec F S1x1x1x96x128 .bf16
  dec : Fin 10 → Fin 2 → FVec F S1x1x96x128 .f32

theorem slicesBeta (h : Fin 10) (c : Fin 2) : S128x10.Slices ![64 * c.val, h.val] S64x1 := by revert h c; decide

namespace Rec
variable (x : Rec F)
/-- A chunk's right operand in parts, in the chunk's order. -/
def six (c : Fin 2) (y : FVec F S64x128 .f32) : FVec F S256x128 .bf16 := if c = 0 then six0 y else six1 y
def bcol (h : Fin 10) (c : Fin 2) : FVec F S64x1 .f32 :=
  extractStridedSlice S64x1 ![64 * c.val, h.val] (transpose S128x10 [1, 0] (shapeCast S10x128 x.b shapeCasts_S1x1x10x128_S10x128) transposes_S10x128_p1_0_S128x10) (slicesBeta h c)
def pr (h : Fin 10) (c : Fin 2) (s : FVec F S96x128 .f32) : FVec F S128x128 .f32 := proj (shapeCast S128x128 (x.kq h c)) s
def u (h : Fin 10) (c : Fin 2) (s : FVec F S96x128 .f32) : FVec F S64x128 .f32 :=
  uval (shapeCast S64x128 (x.t h c 0)) (shapeCast S64x128 (x.t h c 1)) (shapeCast S64x128 (x.t h c 2))
    (six c (res (shapeCast S64x128 (x.v h c)) (x.pr h c s))) (x.bcol h c)
def w (h : Fin 10) (c : Fin 2) (s : FVec F S96x128 .f32) : FVec F S224x128 .f32 :=
  wval (shapeCast S64x128 (x.a h c 0)) (shapeCast S64x128 (x.a h c 1)) (shapeCast S64x128 (x.a h c 2))
    (shapeCast S96x128 (x.kd h c 0)) (shapeCast S96x128 (x.kd h c 1)) (six c (x.u h c s))
def o (h : Fin 10) (c : Fin 2) (s : FVec F S96x128 .f32) : FVec F S64x128 .bf16 := oval (x.pr h c s) (x.w h c s)
def nx (h : Fin 10) (c : Fin 2) (s : FVec F S96x128 .f32) : FVec F S96x128 .f32 := snext (shapeCast S96x128 (x.dec h c)) s (x.w h c s)
/-- The state before each chunk. -/
def s0 (h : Fin 10) : FVec F S96x128 .f32 := shapeCast S96x128 (x.s h)
def s1 (h : Fin 10) : FVec F S96x128 .f32 := x.nx h 0 (x.s0 h)
/-- What is stored for a head: the output rows of a chunk, and the state after both. -/
def oS (h : Fin 10) (c : Fin 2) : FVec F S1x64x128 .bf16 := shapeCast S1x64x128 (x.o h c (if c = 0 then x.s0 h else x.s1 h))
def sS (h : Fin 10) : FVec F S1x1x96x128 .f32 := shapeCast S1x1x96x128 (x.nx h 1 (x.s1 h))
end Rec

end Kda.K
-- ==== Proof.Kern.Lists.lean ====
/-
  The pieces each case of the kernel body stores, as the plain functions of the blocks it loads.
-/
module

public import proofs.«01_k».proof.Proof.Kern.Runs
public import proofs.«01_k».proof.Proof.Math.Model

@[expose] public section

set_option maxRecDepth 16384

noncomputable section

namespace Cert.KernelIdeal.Gen

open Idealize.ShloMosaic Idealize.ShloMosaic.TcCoe Idealize.ShloMosaic.Tactic
open Idealize.SL Idealize.SL.Sem Kda

variable {F : FTy → Type} [FloatOps F] [Named F]

theorem inbQ (h : Fin 10) : ∀ a, (![0, h.val, 0, 0] : Fin 4 → Nat) a + S1x1x96x128.size a ≤ S1x10x96x128.size a := by revert h; decide
theorem inbS (m : Fin 3) : ∀ a, (![0, 0, m.val, 0, 0] : Fin 5 → Nat) a + S1x1x1x10x128.size a ≤ S1x1x3x10x128.size a := by revert m; decide
theorem inbB (h : Fin 10) : ∀ a, (![0, 0, h.val, 0] : Fin 4 → Nat) a + S1x1x1x128.size a ≤ S1x1x10x128.size a := by revert h; decide
theorem inbV (h : Fin 10) (c : Fin 2) : ∀ a, (![0, h.val, 64 * c.val, 0] : Fin 4 → Nat) a + S1x1x64x128.size a ≤ S1x10x128x128.size a := by revert h c; decide
theorem inbCum : ∀ a, (![0, 0] : Fin 2 → Nat) a + S384x256.size a ≤ S384x256.size a := by decide
theorem inbBeta : ∀ a, (![0, 0, 0, 0] : Fin 4 → Nat) a + S1x1x10x128.size a ≤ S1x1x10x128.size a := by decide
theorem inbO (h : Fin 10) (c : Fin 2) : ∀ a, (![0, 64 * c.val, 128 * h.val] : Fin 3 → Nat) a + S1x64x128.size a ≤ S1x128x1280.size a := by revert h c; decide
theorem inb0 (h : Fin 10) (c : Fin 2) : ∀ a, (![h.val, c.val, 0, 0] : Fin 4 → Nat) a + S1x1x128x128.size a ≤ S10x2x128x128.size a := by revert h c; decide
theorem inb1 (h : Fin 10) (c : Fin 2) (i : Fin 3) : ∀ a, (![h.val, c.val, i.val, 0, 0] : Fin 5 → Nat) a + S1x1x1x64x128.size a ≤ S10x2x3x64x128.size a := by revert h c i; decide
theorem inb3 (h : Fin 10) (c i : Fin 2) : ∀ a, (![h.val, c.val, i.val, 0, 0] : Fin 5 → Nat) a + S1x1x1x96x128.size a ≤ S10x2x2x96x128.size a := by revert h c i; decide
theorem inb4 (h : Fin 10) (c : Fin 2) : ∀ a, (![h.val, c.val, 0, 0] : Fin 4 → Nat) a + S1x1x96x128.size a ≤ S10x2x96x128.size a := by revert h c; decide

/-- The heads from the last to the first: the order the stores are listed in. -/
def heads : List (Fin 10) := [9, 8, 7, 6, 5, 4, 3, 2, 1, 0]

section Loads
variable (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole)
  (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16)

/-- The blocks a point's head data are computed from, loaded from the staging buffers. -/
def inLoads : K.In F where
  q h := View.readAt (Elt F) arg1.view (Rect.unit (s := S1x10x96x128) ![0, h.val, 0, 0] S1x1x96x128.size (inbQ h)).toLoadRect (harg1.unread x0)
  sq m := View.readAt (Elt F) arg2.view (Rect.unit (s := S1x1x3x10x128) ![0, 0, m.val, 0, 0] S1x1x1x10x128.size (inbS m)).toLoadRect (harg2.unread x1)
  k h := View.readAt (Elt F) arg3.view (Rect.unit (s := S1x10x96x128) ![0, h.val, 0, 0] S1x1x96x128.size (inbQ h)).toLoadRect (harg3.unread x2)
  sk m := View.readAt (Elt F) arg4.view (Rect.unit (s := S1x1x3x10x128) ![0, 0, m.val, 0, 0] S1x1x1x10x128.size (inbS m)).toLoadRect (harg4.unread x3)
  g h := View.readAt (Elt F) arg5.view (Rect.unit (s := S1x10x96x128) ![0, h.val, 0, 0] S1x1x96x128.size (inbQ h)).toLoadRect (harg5.unread x4)
  b h := View.readAt (Elt F) arg6.view (Rect.unit (s := S1x1x10x128) ![0, 0, h.val, 0] S1x1x1x128.size (inbB h)).toLoadRect (harg6.unread x5)
  cum := View.readAt (Elt F) arg7.view (Rect.unit (s := S384x256) ![0, 0] S384x256.size inbCum).toLoadRect (harg7.unread x6)
end Loads

section Loads
variable (arg8 : Memref sig .tc .vmem S1x10x128x128 .bf16) (harg8 : arg8.IsWhole) (arg9 : Memref sig .tc .vmem S1x1x10x128 .f32) (harg9 : arg9.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole)
  (s : Fin 10 → FVec F S1x1x96x128 .f32) (x7 : Vec F S1x10x128x128 .bf16) (x8 : Vec F S1x1x10x128 .f32)
  (xs0 : Vec F S10x2x128x128 .bf16) (xs1 : Vec F S10x2x3x64x128 .bf16) (xs2 : Vec F S10x2x3x64x128 .bf16) (xs3 : Vec F S10x2x2x96x128 .bf16) (xs4 : Vec F S10x2x96x128 .f32)

/-- The blocks a point's recurrence reads, loaded from the staging and scratch buffers. -/
def recLoads : K.Rec F where
  s := s
  v h c := View.readAt (Elt F) arg8.view (Rect.unit (s := S1x10x128x128) ![0, h.val, 64 * c.val, 0] S1x1x64x128.size (inbV h c)).toLoadRect (harg8.unread x7)
  b := View.readAt (Elt F) arg9.view (Rect.unit (s := S1x1x10x128) ![0, 0, 0, 0] S1x1x10x128.size inbBeta).toLoadRect (harg9.unread x8)
  kq h c := View.readAt (Elt F) arg13.view (Rect.unit (s := S10x2x128x128) ![h.val, c.val, 0, 0] S1x1x128x128.size (inb0 h c)).toLoadRect (harg13.unread xs0)
  t h c i := View.readAt (Elt F) arg14.view (Rect.unit (s := S10x2x3x64x128) ![h.val, c.val, i.val, 0, 0] S1x1x1x64x128.size (inb1 h c i)).toLoadRect (harg14.unread xs1)
  a h c i := View.readAt (Elt F) arg15.view (Rect.unit (s := S10x2x3x64x128) ![h.val, c.val, i.val, 0, 0] S1x1x1x64x128.size (inb1 h c i)).toLoadRect (harg15.unread xs2)
  kd h c i := View.readAt (Elt F) arg16.view (Rect.unit (s := S10x2x2x96x128) ![h.val, c.val, i.val, 0, 0] S1x1x1x96x128.size (inb3 h c i)).toLoadRect (harg16.unread xs3)
  dec h c := View.readAt (Elt F) arg17.view (Rect.unit (s := S10x2x96x128) ![h.val, c.val, 0, 0] S1x1x96x128.size (inb4 h c)).toLoadRect (harg17.unread xs4)
end Loads

/-- The stores of a point's head data, the last first. -/
def kqList (x : K.In F) : List (View.Piece (Elt F) S10x2x128x128 .bf16) :=
  heads.flatMap fun h => [⟨Rect.unit (s := S10x2x128x128) ![h.val, 1, 0, 0] S1x1x128x128.size (inb0 h 1), x.kqS h 1⟩,
    ⟨Rect.unit (s := S10x2x128x128) ![h.val, 0, 0, 0] S1x1x128x128.size (inb0 h 0), x.kqS h 0⟩]
def tList (x : K.In F) : List (View.Piece (Elt F) S10x2x3x64x128 .bf16) :=
  heads.flatMap fun h => [⟨Rect.unit (s := S10x2x3x64x128) ![h.val, 1, 2, 0, 0] S1x1x1x64x128.size (inb1 h 1 2), x.tS h 1 2⟩,
    ⟨Rect.unit (s := S10x2x3x64x128) ![h.val, 1, 1, 0, 0] S1x1x1x64x128.size (inb1 h 1 1), x.tS h 1 1⟩, ⟨Rect.unit (s := S10x2x3x64x128) ![h.val, 1, 0, 0, 0] S1x1x1x64x128.size (inb1 h 1 0), x.tS h 1 0⟩,
    ⟨Rect.unit (s := S10x2x3x64x128) ![h.val, 0, 2, 0, 0] S1x1x1x64x128.size (inb1 h 0 2), x.tS h 0 2⟩,
    ⟨Rect.unit (s := S10x2x3x64x128) ![h.val, 0, 1, 0, 0] S1x1x1x64x128.size (inb1 h 0 1), x.tS h 0 1⟩, ⟨Rect.unit (s := S10x2x3x64x128) ![h.val, 0, 0, 0, 0] S1x1x1x64x128.size (inb1 h 0 0), x.tS h 0 0⟩]
def aList (x : K.In F) : List (View.Piece (Elt F) S10x2x3x64x128 .bf16) :=
  heads.flatMap fun h => [⟨Rect.unit (s := S10x2x3x64x128) ![h.val, 1, 2, 0, 0] S1x1x1x64x128.size (inb1 h 1 2), x.aS h 1 2⟩,
    ⟨Rect.unit (s := S10x2x3x64x128) ![h.val, 1, 1, 0, 0] S1x1x1x64x128.size (inb1 h 1 1), x.aS h 1 1⟩, ⟨Rect.unit (s := S10x2x3x64x128) ![h.val, 1, 0, 0, 0] S1x1x1x64x128.size (inb1 h 1 0), x.aS h 1 0⟩,
    ⟨Rect.unit (s := S10x2x3x64x128) ![h.val, 0, 2, 0, 0] S1x1x1x64x128.size (inb1 h 0 2), x.aS h 0 2⟩,
    ⟨Rect.unit (s := S10x2x3x64x128) ![h.val, 0, 1, 0, 0] S1x1x1x64x128.size (inb1 h 0 1), x.aS h 0 1⟩, ⟨Rect.unit (s := S10x2x3x64x128) ![h.val, 0, 0, 0, 0] S1x1x1x64x128.size (inb1 h 0 0), x.aS h 0 0⟩]
def kdList (x : K.In F) : List (View.Piece (Elt F) S10x2x2x96x128 .bf16) :=
  heads.flatMap fun h => [⟨Rect.unit (s := S10x2x2x96x128) ![h.val, 1, 1, 0, 0] S1x1x1x96x128.size (inb3 h 1 1), x.kdS h 1 1⟩, ⟨Rect.unit (s := S10x2x2x96x128) ![h.val, 1, 0, 0, 0] S1x1x1x96x128.size (inb3 h 1 0), x.kdS h 1 0⟩,
    ⟨Rect.unit (s := S10x2x2x96x128) ![h.val, 0, 1, 0, 0] S1x1x1x96x128.size (inb3 h 0 1), x.kdS h 0 1⟩, ⟨Rect.unit (s := S10x2x2x96x128) ![h.val, 0, 0, 0, 0] S1x1x1x96x128.size (inb3 h 0 0), x.kdS h 0 0⟩]
def decList (x : K.In F) : List (View.Piece (Elt F) S10x2x96x128 .f32) :=
  heads.flatMap fun h => [⟨Rect.unit (s := S10x2x96x128) ![h.val, 1, 0, 0] S1x1x96x128.size (inb4 h 1), x.decS h 1⟩,
    ⟨Rect.unit (s := S10x2x96x128) ![h.val, 0, 0, 0] S1x1x96x128.size (inb4 h 0), x.decS h 0⟩]
/-- The stores of a point's output rows and states, the last first. -/
def oList (x : K.Rec F) : List (View.Piece (Elt F) S1x128x1280 .bf16) :=
  heads.flatMap fun h => [⟨Rect.unit (s := S1x128x1280) ![0, 64, 128 * h.val] S1x64x128.size (inbO h 1), x.oS h 1⟩,
    ⟨Rect.unit (s := S1x128x1280) ![0, 0, 128 * h.val] S1x64x128.size (inbO h 0), x.oS h 0⟩]
def sList (x : K.Rec F) : List (View.Piece (Elt F) S1x10x96x128 .f32) :=
  heads.map fun h => ⟨Rect.unit (s := S1x10x96x128) ![0, h.val, 0, 0] S1x1x96x128.size (inbQ h), x.sS h⟩

/-- The stores of the states where the state is reset: a fill of the whole, then each head's state over what the
    stores before it leave there. -/
def hfList (v : View sig .tc .vmem S1x10x96x128 .f32) (fill : S1x10x96x128.Idx → F .f32)
    (nx : Fin 10 → FVec F S1x1x96x128 .f32 → FVec F S1x1x96x128 .f32) (n : ℕ) : List (View.Piece (Elt F) S1x10x96x128 .f32) :=
  Nat.rec [⟨Rect.unit (s := S1x10x96x128) ![0, 0, 0, 0] S1x10x96x128.size (by decide), fill⟩]
    (fun n L => ⟨Rect.unit (s := S1x10x96x128) ![0, (Fin.ofNat 10 n).val, 0, 0] S1x1x96x128.size (inbQ (Fin.ofNat 10 n)),
      nx (Fin.ofNat 10 n) (v.readCov L (Rect.unit (s := S1x10x96x128) ![0, (Fin.ofNat 10 n).val, 0, 0] S1x1x96x128.size (inbQ (Fin.ofNat 10 n))).toLoadRect)⟩ :: L) n

end Cert.KernelIdeal.Gen
-- ==== Proof.Kern.Canon.lean ====
/-
  What the stored pieces leave at an index, and the loads as functions of the buffers' contents.
-/
module

public import proofs.«01_k».proof.Proof.Kern.Lists
public import Idealize.ShloMosaic.Lib.Pipeline.ReadBack
public import Idealize.ShloMosaic.Lib.ValueIdx
public import Idealize.ShloMosaic.Lib.Pipeline.ValueKit.Tiles

@[expose] public section

set_option maxRecDepth 16384

noncomputable section

namespace Cert.KernelIdeal.Gen

open Idealize.ShloMosaic Idealize.ShloMosaic.TcCoe
open Idealize.SL Idealize.SL.Sem Kda

variable {F : FTy → Type} [FloatOps F] [Named F]

/-- A store of one of the first pieces is read back at its place. -/
theorem canon_at {s : Shape} {e : EltTy} (G : s.Idx → Elt F e) (L L' : List (View.Piece (Elt F) s e))
    (hL : ∀ p ∈ L, ∀ x : p.1.shape.Idx, p.2 x = G (p.1.emb x)) (r : Rect s) (w : r.shape.Idx → Elt F e)
    (hm : (⟨r, w⟩ : View.Piece (Elt F) s e) ∈ L) (x : r.shape.Idx) : View.canon (L ++ L') (r.emb x) = w x :=
  (View.canon_append_of_pieces G L' L hL _ ⟨_, hm, r.idx_mem x⟩).trans (hL _ hm x).symm

theorem mem_heads (h : Fin 10) : h ∈ heads := by revert h; decide

theorem idx4 {n m : ℕ} (x : (⟨4, ![1, 1, n, m]⟩ : Shape).Idx) : x = ValueIdx.ix4 0 0 (x 2) (x 3) := by
  funext a; fin_cases a
  · exact Subsingleton.elim (α := Fin 1) _ _
  · exact Subsingleton.elim (α := Fin 1) _ _
  · rfl
  · rfl

theorem idx5 {n m : ℕ} (x : (⟨5, ![1, 1, 1, n, m]⟩ : Shape).Idx) : x = ValueIdx.ix5 0 0 0 (x 3) (x 4) := by
  funext a; fin_cases a
  · exact Subsingleton.elim (α := Fin 1) _ _
  · exact Subsingleton.elim (α := Fin 1) _ _
  · exact Subsingleton.elim (α := Fin 1) _ _
  · rfl
  · rfl

theorem idx3 {n m : ℕ} (x : (⟨3, ![1, n, m]⟩ : Shape).Idx) : x = ValueIdx.ix3 0 (x 1) (x 2) := by
  funext a; fin_cases a
  · exact Subsingleton.elim (α := Fin 1) _ _
  · rfl
  · rfl

theorem emb4 {A B n m : ℕ} (a : Fin A) (b : Fin B)
    (inb : ∀ k, (![a.val, b.val, 0, 0] : Fin 4 → ℕ) k + (![1, 1, n, m] : Fin 4 → ℕ) k ≤ (⟨4, ![A, B, n, m]⟩ : Shape).size k)
    (i : Fin n) (j : Fin m) :
    (Rect.unit (s := ⟨4, ![A, B, n, m]⟩) ![a.val, b.val, 0, 0] ![1, 1, n, m] inb).emb (ValueIdx.ix4 0 0 i j) = ValueIdx.ix4 a b i j := by
  funext k; apply Fin.ext; refine (Rect.idx_unit_val _ _ inb _ k).trans ?_
  fin_cases k
  · rfl
  · rfl
  · exact Nat.zero_add _
  · exact Nat.zero_add _

theorem emb5 {A B C n m : ℕ} (a : Fin A) (b : Fin B) (c : Fin C)
    (inb : ∀ k, (![a.val, b.val, c.val, 0, 0] : Fin 5 → ℕ) k + (![1, 1, 1, n, m] : Fin 5 → ℕ) k ≤ (⟨5, ![A, B, C, n, m]⟩ : Shape).size k)
    (i : Fin n) (j : Fin m) :
    (Rect.unit (s := ⟨5, ![A, B, C, n, m]⟩) ![a.val, b.val, c.val, 0, 0] ![1, 1, 1, n, m] inb).emb (ValueIdx.ix5 0 0 0 i j) = ValueIdx.ix5 a b c i j := by
  funext k; apply Fin.ext; refine (Rect.idx_unit_val _ _ inb _ k).trans ?_
  fin_cases k
  · rfl
  · rfl
  · rfl
  · exact Nat.zero_add _
  · exact Nat.zero_add _

/-- Pieces that are one block each of a family indexed by two leading axes are read back. -/
theorem canon4 {A B n m : ℕ} {e : EltTy} (f : Fin A → Fin B → (⟨4, ![1, 1, n, m]⟩ : Shape).Idx → Elt F e)
    (L L' : List (View.Piece (Elt F) ⟨4, ![A, B, n, m]⟩ e))
    (inb : ∀ (a : Fin A) (b : Fin B), ∀ k, (![a.val, b.val, 0, 0] : Fin 4 → ℕ) k + (![1, 1, n, m] : Fin 4 → ℕ) k ≤ (⟨4, ![A, B, n, m]⟩ : Shape).size k)
    (hL : ∀ p, p ∈ L ↔ ∃ a b, p = ⟨Rect.unit (s := ⟨4, ![A, B, n, m]⟩) ![a.val, b.val, 0, 0] ![1, 1, n, m] (inb a b), f a b⟩)
    (a : Fin A) (b : Fin B) (i : Fin n) (j : Fin m) :
    View.canon (L ++ L') (ValueIdx.ix4 a b i j) = f a b (ValueIdx.ix4 0 0 i j) := by
  rw [← emb4 a b (inb a b) i j]
  refine canon_at (fun y => f (y 0) (y 1) (ValueIdx.ix4 0 0 (y 2) (y 3))) L L' ?_ _ _ ((hL _).2 ⟨a, b, rfl⟩) _
  intro p hp x
  obtain ⟨a', b', rfl⟩ := (hL p).1 hp
  obtain ⟨i', j', hx⟩ : ∃ (i' : Fin n) (j' : Fin m), x = ValueIdx.ix4 0 0 i' j' := ⟨_, _, idx4 x⟩
  subst hx
  show f a' b' _ = _
  rw [emb4 a' b' (inb a' b')]; rfl

theorem canon5 {A B C n m : ℕ} {e : EltTy} (f : Fin A → Fin B → Fin C → (⟨5, ![1, 1, 1, n, m]⟩ : Shape).Idx → Elt F e)
    (L L' : List (View.Piece (Elt F) ⟨5, ![A, B, C, n, m]⟩ e))
    (inb : ∀ (a : Fin A) (b : Fin B) (c : Fin C), ∀ k, (![a.val, b.val, c.val, 0, 0] : Fin 5 → ℕ) k + (![1, 1, 1, n, m] : Fin 5 → ℕ) k ≤ (⟨5, ![A, B, C, n, m]⟩ : Shape).size k)
    (hL : ∀ p, p ∈ L ↔ ∃ a b c, p = ⟨Rect.unit (s := ⟨5, ![A, B, C, n, m]⟩) ![a.val, b.val, c.val, 0, 0] ![1, 1, 1, n, m] (inb a b c), f a b c⟩)
    (a : Fin A) (b : Fin B) (c : Fin C) (i : Fin n) (j : Fin m) :
    View.canon (L ++ L') (ValueIdx.ix5 a b c i j) = f a b c (ValueIdx.ix5 0 0 0 i j) := by
  rw [← emb5 a b c (inb a b c) i j]
  refine canon_at (fun y => f (y 0) (y 1) (y 2) (ValueIdx.ix5 0 0 0 (y 3) (y 4))) L L' ?_ _ _ ((hL _).2 ⟨a, b, c, rfl⟩) _
  intro p hp x
  obtain ⟨a', b', c', rfl⟩ := (hL p).1 hp
  obtain ⟨i', j', hx⟩ : ∃ (i' : Fin n) (j' : Fin m), x = ValueIdx.ix5 0 0 0 i' j' := ⟨_, _, idx5 x⟩
  subst hx
  show f a' b' c' _ = _
  rw [emb5 a' b' c' (inb a' b' c')]; rfl

theorem kqList_at (x : K.In F) (L') (h : Fin 10) (c : Fin 2) (i : Fin 128) (j : Fin 128) :
    View.canon (kqList x ++ L') (ValueIdx.ix4 h c i j) = x.kqS h c (ValueIdx.ix4 0 0 i j) := by
  refine canon4 x.kqS _ L' inb0 (fun p => ?_) h c i j
  constructor
  · intro hp
    obtain ⟨a, -, hp⟩ := List.mem_flatMap.1 hp
    simp only [List.mem_cons, List.not_mem_nil, or_false] at hp
    rcases hp with rfl | rfl
    · exact ⟨a, 1, rfl⟩
    · exact ⟨a, 0, rfl⟩
  · rintro ⟨a, b, rfl⟩
    refine List.mem_flatMap.2 ⟨a, mem_heads a, ?_⟩
    fin_cases b <;> simp

theorem decList_at (x : K.In F) (L') (h : Fin 10) (c : Fin 2) (i : Fin 96) (j : Fin 128) :
    View.canon (decList x ++ L') (ValueIdx.ix4 h c i j) = x.decS h c (ValueIdx.ix4 0 0 i j) := by
  refine canon4 x.decS _ L' inb4 (fun p => ?_) h c i j
  constructor
  · intro hp
    obtain ⟨a, -, hp⟩ := List.mem_flatMap.1 hp
    simp only [List.mem_cons, List.not_mem_nil, or_false] at hp
    rcases hp with rfl | rfl
    · exact ⟨a, 1, rfl⟩
    · exact ⟨a, 0, rfl⟩
  · rintro ⟨a, b, rfl⟩
    refine List.mem_flatMap.2 ⟨a, mem_heads a, ?_⟩
    fin_cases b <;> simp

theorem tList_at (x : K.In F) (L') (h : Fin 10) (c : Fin 2) (d : Fin 3) (i : Fin 64) (j : Fin 128) :
    View.canon (tList x ++ L') (ValueIdx.ix5 h c d i j) = x.tS h c d (ValueIdx.ix5 0 0 0 i j) := by
  refine canon5 x.tS _ L' inb1 (fun p => ?_) h c d i j
  constructor
  · intro hp
    obtain ⟨a, -, hp⟩ := List.mem_flatMap.1 hp
    simp only [List.mem_cons, List.not_mem_nil, or_false] at hp
    rcases hp with rfl | rfl | rfl | rfl | rfl | rfl
    exacts [⟨a, 1, 2, rfl⟩, ⟨a, 1, 1, rfl⟩, ⟨a, 1, 0, rfl⟩, ⟨a, 0, 2, rfl⟩, ⟨a, 0, 1, rfl⟩, ⟨a, 0, 0, rfl⟩]
  · rintro ⟨a, b, c, rfl⟩
    refine List.mem_flatMap.2 ⟨a, mem_heads a, ?_⟩
    fin_cases b <;> fin_cases c <;> simp

theorem aList_at (x : K.In F) (L') (h : Fin 10) (c : Fin 2) (d : Fin 3) (i : Fin 64) (j : Fin 128) :
    View.canon (aList x ++ L') (ValueIdx.ix5 h c d i j) = x.aS h c d (ValueIdx.ix5 0 0 0 i j) := by
  refine canon5 x.aS _ L' inb1 (fun p => ?_) h c d i j
  constructor
  · intro hp
    obtain ⟨a, -, hp⟩ := List.mem_flatMap.1 hp
    simp only [List.mem_cons, List.not_mem_nil, or_false] at hp
    rcases hp with rfl | rfl | rfl | rfl | rfl | rfl
    exacts [⟨a, 1, 2, rfl⟩, ⟨a, 1, 1, rfl⟩, ⟨a, 1, 0, rfl⟩, ⟨a, 0, 2, rfl⟩, ⟨a, 0, 1, rfl⟩, ⟨a, 0, 0, rfl⟩]
  · rintro ⟨a, b, c, rfl⟩
    refine List.mem_flatMap.2 ⟨a, mem_heads a, ?_⟩
    fin_cases b <;> fin_cases c <;> simp

theorem kdList_at (x : K.In F) (L') (h : Fin 10) (c : Fin 2) (d : Fin 2) (i : Fin 96) (j : Fin 128) :
    View.canon (kdList x ++ L') (ValueIdx.ix5 h c d i j) = x.kdS h c d (ValueIdx.ix5 0 0 0 i j) := by
  refine canon5 x.kdS _ L' inb3 (fun p => ?_) h c d i j
  constructor
  · intro hp
    obtain ⟨a, -, hp⟩ := List.mem_flatMap.1 hp
    simp only [List.mem_cons, List.not_mem_nil, or_false] at hp
    rcases hp with rfl | rfl | rfl | rfl
    exacts [⟨a, 1, 1, rfl⟩, ⟨a, 1, 0, rfl⟩, ⟨a, 0, 1, rfl⟩, ⟨a, 0, 0, rfl⟩]
  · rintro ⟨a, b, c, rfl⟩
    refine List.mem_flatMap.2 ⟨a, mem_heads a, ?_⟩
    fin_cases b <;> fin_cases c <;> simp

theorem sList_at (x : K.Rec F) (L') (h : Fin 10) (i : Fin 96) (j : Fin 128) :
    View.canon (sList x ++ L') (ValueIdx.ix4 0 h i j) = x.sS h (ValueIdx.ix4 0 0 i j) := by
  refine canon4 (A := 1) (fun _ h => x.sS h) _ L' (fun a h => ?_) (fun p => ?_) 0 h i j
  · have : a = 0 := Subsingleton.elim _ _
    subst this; exact inbQ h
  constructor
  · intro hp
    obtain ⟨a, -, rfl⟩ := List.mem_map.1 hp
    exact ⟨0, a, rfl⟩
  · rintro ⟨a, b, rfl⟩
    have : a = 0 := Subsingleton.elim _ _
    subst this
    exact List.mem_map.2 ⟨b, mem_heads b, rfl⟩

theorem embO (h : Fin 10) (c : Fin 2) (i : Fin 64) (j : Fin 128) (y : Fin 128) (z : Fin 1280) (hy : y.val = 64 * c.val + i.val)
    (hz : z.val = 128 * h.val + j.val) :
    (Rect.unit (s := S1x128x1280) ![0, 64 * c.val, 128 * h.val] S1x64x128.size (inbO h c)).emb (ValueIdx.ix3 0 i j) = ValueIdx.ix3 0 y z := by
  funext k; apply Fin.ext; refine (Rect.idx_unit_val _ _ (inbO h c) _ k).trans ?_
  fin_cases k
  · rfl
  · exact hy.symm
  · exact hz.symm

theorem oList_at (x : K.Rec F) (L') (h : Fin 10) (c : Fin 2) (i : Fin 64) (j : Fin 128) (y : Fin 128) (z : Fin 1280)
    (hy : y.val = 64 * c.val + i.val) (hz : z.val = 128 * h.val + j.val) :
    View.canon (oList x ++ L') (ValueIdx.ix3 0 y z) = x.oS h c (ValueIdx.ix3 0 i j) := by
  have hL : ∀ p, p ∈ oList x ↔ ∃ (a : Fin 10) (b : Fin 2), p = ⟨Rect.unit (s := S1x128x1280) ![0, 64 * b.val, 128 * a.val] S1x64x128.size (inbO a b), x.oS a b⟩ := by
    intro p
    constructor
    · intro hp
      obtain ⟨a, -, hp⟩ := List.mem_flatMap.1 hp
      simp only [List.mem_cons, List.not_mem_nil, or_false] at hp
      rcases hp with rfl | rfl
      · exact ⟨a, 1, rfl⟩
      · exact ⟨a, 0, rfl⟩
    · rintro ⟨a, b, rfl⟩
      refine List.mem_flatMap.2 ⟨a, mem_heads a, ?_⟩
      fin_cases b <;> simp
  rw [← embO h c i j y z hy hz]
  refine canon_at (fun w => x.oS ⟨(w 2).val / 128, ?_⟩ ⟨(w 1).val / 64, ?_⟩ (ValueIdx.ix3 0 ⟨(w 1).val % 64, Nat.mod_lt _ (by decide)⟩ ⟨(w 2).val % 128, Nat.mod_lt _ (by decide)⟩)) _ L' ?_ _ _
    ((hL _).2 ⟨h, c, rfl⟩) _
  · exact Nat.div_lt_of_lt_mul (w 2).isLt
  · exact Nat.div_lt_of_lt_mul (w 1).isLt
  intro p hp u
  obtain ⟨a, b, rfl⟩ := (hL p).1 hp
  have hu := idx3 (n := 64) (m := 128) u
  have h1 : (u 1).val < 64 := (u 1).isLt
  have h2 : (u 2).val < 128 := (u 2).isLt
  have e1 : (((Rect.unit (s := S1x128x1280) ![0, 64 * b.val, 128 * a.val] S1x64x128.size (inbO a b)).emb u) 1).val = 64 * b.val + (u 1).val :=
    Rect.idx_unit_val _ _ (inbO a b) _ 1
  have e2 : (((Rect.unit (s := S1x128x1280) ![0, 64 * b.val, 128 * a.val] S1x64x128.size (inbO a b)).emb u) 2).val = 128 * a.val + (u 2).val :=
    Rect.idx_unit_val _ _ (inbO a b) _ 2
  have E : ∀ (a' : Fin 10) (b' : Fin 2) (i' : Fin 64) (j' : Fin 128), a' = a → b' = b → i' = u 1 → j' = u 2 →
      x.oS a b u = x.oS a' b' (ValueIdx.ix3 0 i' j') := by
    rintro _ _ _ _ rfl rfl rfl rfl
    exact congrArg _ hu
  exact E _ _ _ _ (Fin.ext ((congrArg (· / 128) e2).trans (by show _ / 128 = _; omega)))
    (Fin.ext ((congrArg (· / 64) e1).trans (by show _ / 64 = _; omega)))
    (Fin.ext ((congrArg (· % 64) e1).trans (by show _ % 64 = _; omega)))
    (Fin.ext ((congrArg (· % 128) e2).trans (by show _ % 128 = _; omega)))

/-- The block of one head's state. -/
abbrev hfR (h : Fin 10) : Rect S1x10x96x128 := Rect.unit (s := S1x10x96x128) ![0, h.val, 0, 0] S1x1x96x128.size (inbQ h)

theorem hfR_disj (a b : Fin 10) (h : a.val < b.val) : LoadRect.disj (hfR a) (hfR b).toLoadRect = true :=
  (by decide : ∀ a b : Fin 10, a.val < b.val → LoadRect.disj (hfR a) (hfR b).toLoadRect = true) a b h

theorem hfList_succ (v : View sig .tc .vmem S1x10x96x128 .f32) (fill : S1x10x96x128.Idx → F .f32)
    (nx : Fin 10 → FVec F S1x1x96x128 .f32 → FVec F S1x1x96x128 .f32) (n : ℕ) :
    hfList v fill nx (n + 1) = ⟨hfR (Fin.ofNat 10 n), nx (Fin.ofNat 10 n) (v.readCov (hfList v fill nx n) (hfR (Fin.ofNat 10 n)).toLoadRect)⟩ :: hfList v fill nx n := rfl

/-- The states a reset point starts from are the fill's. -/
theorem hfList_cov (v : View sig .tc .vmem S1x10x96x128 .f32) (fill : S1x10x96x128.Idx → F .f32)
    (nx : Fin 10 → FVec F S1x1x96x128 .f32 → FVec F S1x1x96x128 .f32) (h : Fin 10) (n : ℕ) (hn : n ≤ h.val) :
    v.readCov (hfList v fill nx n) (hfR h).toLoadRect = View.ld (Val := Elt F) (e' := .f32) fill (hfR h) := by
  induction n with
  | zero =>
    have e : hfList v fill nx 0 = [⟨Rect.unit (s := S1x10x96x128) ![0, 0, 0, 0] S1x10x96x128.size (by decide), fill⟩] := rfl
    rw [e, View.readCov_eq_canon']
    funext j
    exact congrFun (View.canon_cons_unit_lit (S := S1x10x96x128) (Val := Elt F) (e := .f32) (off := ![0, 0, 0, 0]) (by decide) fill [] (by decide)) _
  | succ n ih =>
    rw [hfList_succ, View.readCov_skip v _ _ _ _ (hfR_disj _ h _), ih (by omega)]
    have hlt := h.isLt
    show n % 10 < h.val
    omega

/-- What the stores of a reset point leave in the states' buffer. -/
theorem hfList_eq (v : View sig .tc .vmem S1x10x96x128 .f32) (fill : S1x10x96x128.Idx → F .f32)
    (nx : Fin 10 → FVec F S1x1x96x128 .f32 → FVec F S1x1x96x128 .f32) (x : K.Rec F) (hx : ∀ h : Fin 10, x.sS h =
      nx h (View.ld (Val := Elt F) (e' := .f32) fill (Rect.unit (s := S1x10x96x128) ![0, h.val, 0, 0] S1x1x96x128.size (inbQ h)))) :
    ∃ L', hfList v fill nx 10 = sList x ++ L' := by
  refine ⟨[⟨Rect.unit (s := S1x10x96x128) ![0, 0, 0, 0] S1x10x96x128.size (by decide), fill⟩], ?_⟩
  have e : ∀ h : Fin 10, nx h (v.readCov (hfList v fill nx h.val) (Rect.unit (s := S1x10x96x128) ![0, h.val, 0, 0] S1x1x96x128.size (inbQ h)).toLoadRect) = x.sS h :=
    fun h => by rw [hfList_cov v fill nx h h.val le_rfl, hx]
  simp only [sList, heads, List.map_cons, List.map_nil, ← e]
  rfl

section
variable (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16)
/-- The blocks a point's head data are computed from, read from the staged contents. -/
def inOf : K.In F where
  q h := View.ld (Val := Elt F) (e' := .fp8e4m3) x0 (Rect.unit (s := S1x10x96x128) ![0, h.val, 0, 0] S1x1x96x128.size (inbQ h))
  sq m := View.ld (Val := Elt F) (e' := .i8) x1 (Rect.unit (s := S1x1x3x10x128) ![0, 0, m.val, 0, 0] S1x1x1x10x128.size (inbS m))
  k h := View.ld (Val := Elt F) (e' := .fp8e4m3) x2 (Rect.unit (s := S1x10x96x128) ![0, h.val, 0, 0] S1x1x96x128.size (inbQ h))
  sk m := View.ld (Val := Elt F) (e' := .i8) x3 (Rect.unit (s := S1x1x3x10x128) ![0, 0, m.val, 0, 0] S1x1x1x10x128.size (inbS m))
  g h := View.ld (Val := Elt F) (e' := .f32) x4 (Rect.unit (s := S1x10x96x128) ![0, h.val, 0, 0] S1x1x96x128.size (inbQ h))
  b h := View.ld (Val := Elt F) (e' := .f32) x5 (Rect.unit (s := S1x1x10x128) ![0, 0, h.val, 0] S1x1x1x128.size (inbB h))
  cum := View.ld (Val := Elt F) (e' := .bf16) x6 (Rect.unit (s := S384x256) ![0, 0] S384x256.size inbCum)

variable (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole)

theorem inLoads_eq : inLoads arg1 harg1 arg2 harg2 arg3 harg3 arg4 harg4 arg5 harg5 arg6 harg6 arg7 harg7 x0 x1 x2 x3 x4 x5 x6
    = inOf x0 x1 x2 x3 x4 x5 x6 := by
  simp only [inLoads, inOf, View.readAt_eq_ld, Memref.IsWhole.read_unread]
end

section
variable (s : Fin 10 → FVec F S1x1x96x128 .f32) (x7 : Vec F S1x10x128x128 .bf16) (x8 : Vec F S1x1x10x128 .f32)
  (xs0 : Vec F S10x2x128x128 .bf16) (xs1 : Vec F S10x2x3x64x128 .bf16) (xs2 : Vec F S10x2x3x64x128 .bf16) (xs3 : Vec F S10x2x2x96x128 .bf16) (xs4 : Vec F S10x2x96x128 .f32)

/-- The blocks a point's recurrence reads, read from the staged and scratch contents. -/
def recOf : K.Rec F where
  s := s
  v h c := View.ld (Val := Elt F) (e' := .bf16) x7 (Rect.unit (s := S1x10x128x128) ![0, h.val, 64 * c.val, 0] S1x1x64x128.size (inbV h c))
  b := View.ld (Val := Elt F) (e' := .f32) x8 (Rect.unit (s := S1x1x10x128) ![0, 0, 0, 0] S1x1x10x128.size inbBeta)
  kq h c := View.ld (Val := Elt F) (e' := .bf16) xs0 (Rect.unit (s := S10x2x128x128) ![h.val, c.val, 0, 0] S1x1x128x128.size (inb0 h c))
  t h c i := View.ld (Val := Elt F) (e' := .bf16) xs1 (Rect.unit (s := S10x2x3x64x128) ![h.val, c.val, i.val, 0, 0] S1x1x1x64x128.size (inb1 h c i))
  a h c i := View.ld (Val := Elt F) (e' := .bf16) xs2 (Rect.unit (s := S10x2x3x64x128) ![h.val, c.val, i.val, 0, 0] S1x1x1x64x128.size (inb1 h c i))
  kd h c i := View.ld (Val := Elt F) (e' := .bf16) xs3 (Rect.unit (s := S10x2x2x96x128) ![h.val, c.val, i.val, 0, 0] S1x1x1x96x128.size (inb3 h c i))
  dec h c := View.ld (Val := Elt F) (e' := .f32) xs4 (Rect.unit (s := S10x2x96x128) ![h.val, c.val, 0, 0] S1x1x96x128.size (inb4 h c))

variable (arg8 : Memref sig .tc .vmem S1x10x128x128 .bf16) (harg8 : arg8.IsWhole) (arg9 : Memref sig .tc .vmem S1x1x10x128 .f32) (harg9 : arg9.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole)

theorem recLoads_eq : recLoads arg8 harg8 arg9 harg9 arg13 harg13 arg14 harg14 arg15 harg15 arg16 harg16 arg17 harg17 s x7 x8 xs0 xs1 xs2 xs3 xs4
    = recOf s x7 x8 xs0 xs1 xs2 xs3 xs4 := by
  simp only [recLoads, recOf, View.readAt_eq_ld, Memref.IsWhole.read_unread]
end

/-- The states' block, head by head. -/
def hfOf (x : Vec F S1x10x96x128 .f32) (h : Fin 10) : FVec F S1x1x96x128 .f32 :=
  View.ld (Val := Elt F) (e' := .f32) x (Rect.unit (s := S1x10x96x128) ![0, h.val, 0, 0] S1x1x96x128.size (inbQ h))

end Cert.KernelIdeal.Gen
-- ==== Proof.Math.Rep.lean ====
/-
  Matrices of real numbers held by vectors of extended reals, and what each vector operation does to them.
-/
module

public import Idealize.ShloMosaic.Lib.Pointwise
public import Idealize.ShloMosaic.Lib.MatmulPlain
public import Idealize.ShloMosaic.Lib.ValueIdx
public import Idealize.ShloMosaic.Lib.KernelVsHost

@[expose] public section

noncomputable section

namespace Kda

open Idealize.ShloMosaic Idealize.ShloMosaic.ValueIdx
open Finset (range)

/-- The shape of an `n` by `m` array. -/
abbrev S2 (n m : ℕ) : Shape := ⟨2, ![n, m]⟩

/-- The array `x` holds the real matrix `f`. -/
def R2 {n m : ℕ} (x : (S2 n m).Idx → EReal) (f : ℕ → ℕ → ℝ) : Prop :=
  ∀ (i : Fin n) (j : Fin m), x (ValueIdx.ix2 i j) = ((f i j : ℝ) : EReal)

/-- The array of bits `c` holds the truth of `p`. -/
def B2 {n m : ℕ} (c : (S2 n m).Idx → BitVec 1) (p : ℕ → ℕ → Prop) : Prop :=
  ∀ (i : Fin n) (j : Fin m), c (ValueIdx.ix2 i j) = 1#1 ↔ p i j

section Ops
variable {n m n' m' : ℕ} {φ ψ : FTy}

theorem R2.congr {x : (S2 n m).Idx → EReal} {f g : ℕ → ℕ → ℝ} (h : R2 x f)
    (e : ∀ i < n, ∀ j < m, f i j = g i j) : R2 x g := fun i j => by
  rw [h i j, e i i.isLt j j.isLt]

theorem R2.eq {x : (S2 n m).Idx → EReal} {f g : ℕ → ℕ → ℝ} (h : R2 x f) (h' : R2 x g) {i j : ℕ} (hi : i < n) (hj : j < m) :
    f i j = g i j := by
  have := (h ⟨i, hi⟩ ⟨j, hj⟩).symm.trans (h' ⟨i, hi⟩ ⟨j, hj⟩)
  exact_mod_cast this

theorem R2.truncf {x : FVec Ideal (S2 n m) φ} {f : ℕ → ℕ → ℝ} (hx : R2 x f) (h : ψ.bits < φ.bits) :
    R2 (truncf ψ x h : FVec Ideal (S2 n m) ψ) f := hx

theorem R2.extf {x : FVec Ideal (S2 n m) φ} {f : ℕ → ℕ → ℝ} (hx : R2 x f) (h : φ.bits < ψ.bits) :
    R2 (extf ψ x h : FVec Ideal (S2 n m) ψ) f := hx

theorem R2.addf {x y : FVec Ideal (S2 n m) φ} {f g : ℕ → ℕ → ℝ} (hx : R2 x f) (hy : R2 y g) :
    R2 (addf x y) (fun i j => f i j + g i j) := fun i j => by
  rw [addf_apply, hx i j, hy i j, ← EReal.coe_add]

theorem R2.subf {x y : FVec Ideal (S2 n m) φ} {f g : ℕ → ℕ → ℝ} (hx : R2 x f) (hy : R2 y g) :
    R2 (subf x y) (fun i j => f i j - g i j) := fun i j => by
  rw [subf_apply, hx i j, hy i j, ← EReal.coe_sub]

theorem R2.mulf {x y : FVec Ideal (S2 n m) φ} {f g : ℕ → ℕ → ℝ} (hx : R2 x f) (hy : R2 y g) :
    R2 (mulf x y) (fun i j => f i j * g i j) := fun i j => by
  rw [mulf_apply, hx i j, hy i j, ← EReal.coe_mul]

theorem R2.exp2 {x : FVec Ideal (S2 n m) φ} {f : ℕ → ℕ → ℝ} (hx : R2 x f) :
    R2 (exp2 x) (fun i j => (2 : ℝ) ^ (f i j)) := fun i j => by
  show Ideal.exp2 (x (ValueIdx.ix2 i j)) = _
  rw [hx i j]; rfl

theorem R2.splat {c : EReal} {r : ℝ} (h : c = (r : EReal)) : R2 (broadcast (S2 n m) c) (fun _ _ => r) := fun _ _ => h

theorem R2.zero32 : R2 (broadcast (S2 n m) (Scalar.ofBits (F := Ideal) .f32 0x00000000#32)) (fun _ _ => 0) :=
  R2.splat (by show Ideal.ofBits .f32 0x00000000#32 = _; simp)

theorem R2.zero16 : R2 (broadcast (S2 n m) (Scalar.ofBits (F := Ideal) .bf16 0x0000#16)) (fun _ _ => 0) :=
  R2.splat (by show Ideal.ofBits .bf16 0x0000#16 = _; simp)

/-! Slices, transposes and broadcasts. -/

theorem R2.slice {x : (S2 n m).Idx → EReal} {f : ℕ → ℕ → ℝ} (hx : R2 x f) (a b : ℕ) (h : (S2 n m).Slices ![a, b] (S2 n' m')) :
    R2 (extractStridedSlice (S2 n' m') ![a, b] x h) (fun i j => f (a + i) (b + j)) := fun i j => by
  have h0 := h.2 0
  have h1 := h.2 1
  have e := hx ⟨a + i, lt_of_lt_of_le (Nat.add_lt_add_left i.isLt _) h0⟩ ⟨b + j, lt_of_lt_of_le (Nat.add_lt_add_left j.isLt _) h1⟩
  refine Eq.trans ?_ e
  unfold extractStridedSlice
  congr 1
  funext d
  match d with
  | ⟨0, _⟩ => rfl
  | ⟨1, _⟩ => rfl

theorem R2.transpose {x : (S2 n m).Idx → EReal} {f : ℕ → ℕ → ℝ} (hx : R2 x f) (h : (S2 n m).Transposes [1, 0] (S2 m n)) :
    R2 (transpose (S2 m n) [1, 0] x h) (fun i j => f j i) := fun i j => by
  refine Eq.trans ?_ (hx j i)
  unfold Idealize.ShloMosaic.transpose
  congr 1
  funext d
  match d with
  | ⟨0, _⟩ => rfl
  | ⟨1, _⟩ => rfl

theorem R2.bcastCol {x : (S2 n 1).Idx → EReal} {f : ℕ → ℕ → ℝ} (hx : R2 x f) (h : (S2 n 1).Broadcasts (S2 n m)) :
    R2 (broadcastTo (S2 n m) x h) (fun i _ => f i 0) := fun i j => by
  refine Eq.trans ?_ (hx i 0)
  unfold broadcastTo
  congr 1
  funext d
  match d with
  | ⟨0, _⟩ =>
    apply Fin.ext
    by_cases h1 : n = 1
    · refine (congrArg Fin.val (dif_pos h1)).trans ?_
      show 0 = i.val
      have := i.isLt
      omega
    · exact congrArg Fin.val (dif_neg h1)
  | ⟨1, _⟩ => rfl

theorem R2.bcastRow {x : (S2 1 m).Idx → EReal} {f : ℕ → ℕ → ℝ} (hx : R2 x f) (h : (S2 1 m).Broadcasts (S2 n m)) :
    R2 (broadcastTo (S2 n m) x h) (fun _ j => f 0 j) := fun i j => by
  refine Eq.trans ?_ (hx 0 j)
  unfold broadcastTo
  congr 1
  funext d
  match d with
  | ⟨0, _⟩ => rfl
  | ⟨1, _⟩ =>
    apply Fin.ext
    by_cases h1 : m = 1
    · refine (congrArg Fin.val (dif_pos h1)).trans ?_
      show 0 = j.val
      have := j.isLt
      omega
    · exact congrArg Fin.val (dif_neg h1)

theorem R2.castSelf {x : (S2 n m).Idx → EReal} {f : ℕ → ℕ → ℝ} (hx : R2 x f) (h : (S2 n m).ShapeCasts (S2 n m)) :
    R2 (shapeCast (S2 n m) x h) f := fun i j => by
  refine Eq.trans ?_ (hx i j)
  unfold shapeCast
  congr 1
  exact Shape.reshapeEquiv_self h _

theorem R2.select {c : (S2 n m).Idx → BitVec 1} {p : ℕ → ℕ → Prop} [∀ i j, Decidable (p i j)] {x y : (S2 n m).Idx → EReal}
    {f g : ℕ → ℕ → ℝ} (hc : B2 c p) (hx : R2 x f) (hy : R2 y g) :
    R2 (select c x y) (fun i j => if p i j then f i j else g i j) := fun i j => by
  show Scalar.select (c (ValueIdx.ix2 i j)) (x (ValueIdx.ix2 i j)) (y (ValueIdx.ix2 i j)) = _
  unfold Scalar.select
  rw [hx i j, hy i j]
  by_cases h : p i j
  · rw [show c (ValueIdx.ix2 i j) = 1 from (hc i j).2 h]; simp [h]
  · have h' : ¬ c (ValueIdx.ix2 i j) = 1#1 := fun e => h ((hc i j).1 e)
    simp [h, h']

theorem R2.rotate {x : (S2 n m).Idx → EReal} {f : ℕ → ℕ → ℝ} (hx : R2 x f) (s : BitVec 32) (h : (S2 n m).Rotates 1 none) :
    R2 (dynamicRotate 1 s none x h) (fun i j => f i ((j + m - s.toNat % m) % m)) := fun i j => by
  refine Eq.trans ?_ (hx i ⟨(j + m - s.toNat % m) % m, Nat.mod_lt _ j.pos⟩)
  unfold dynamicRotate
  refine congrArg x ?_
  funext d
  match d with
  | ⟨0, _⟩ => rfl
  | ⟨1, _⟩ => rfl

theorem R2.gather {x : (S2 n m).Idx → EReal} {f : ℕ → ℕ → ℝ} (hx : R2 x f) (idx : IVec (S2 n m) 32) (q : ℕ → ℕ → ℕ)
    (hq : ∀ (i : Fin n) (j : Fin m), (idx (ValueIdx.ix2 i j)).toNat % m = q i j) :
    R2 (dynamicGather 1 x idx) (fun i j => f i (q i j)) := fun i j => by
  have e := hx i ⟨(idx (ValueIdx.ix2 i j)).toNat % m, Nat.mod_lt _ j.pos⟩
  rw [show ((⟨(idx (ValueIdx.ix2 i j)).toNat % m, Nat.mod_lt _ j.pos⟩ : Fin m) : ℕ) = q i j from hq i j] at e
  refine Eq.trans ?_ e
  unfold dynamicGather
  congr 1
  funext d
  match d with
  | ⟨0, _⟩ => rfl
  | ⟨1, _⟩ => rfl

/-! Contractions. -/

theorem coe_sum_fin (K : ℕ) (f : ℕ → ℝ) : ∑ k : Fin K, ((f k : ℝ) : EReal) = ((∑ k ∈ range K, f k : ℝ) : EReal) := by
  rw [Finset.sum_range]
  induction K with
  | zero => simp
  | succ K ih => rw [Fin.sum_univ_castSucc, Fin.sum_univ_castSucc, EReal.coe_add]; congr 1

theorem R2.matmul {M K N : ℕ} {φ₁ φ₂ : FTy} (prec : Option ContractPrecision) {lhs : FVec Ideal (S2 M K) φ₁}
    {rhs : FVec Ideal (S2 K N) φ₂} {f g : ℕ → ℕ → ℝ} (hl : R2 lhs f) (hr : R2 rhs g) :
    R2 (FloatOps.matmul (DotDims.plain M K N) prec lhs rhs (constant (S2 M N) .f32 0x00000000#32))
      (fun i j => ∑ k ∈ range K, f i k * g k j) := fun i j => by
  rw [Ideal.matmul_plain_apply]
  have h0 : (constant (F := Ideal) (S2 M N) .f32 0x00000000#32) (ValueIdx.ix2 i j) = 0 := by
    rw [constant_apply]; simp
  rw [h0, zero_add, ← coe_sum_fin]
  refine Finset.sum_congr rfl fun k _ => ?_
  rw [hl i k, hr k j, ← EReal.coe_mul]

/-! Concatenations. -/

/-- The pieces `xs` of a concatenation along the rows hold the rows of `f`, one piece after the other. -/
def Rows {N m : ℕ} (xs : List ((s : Shape) × (s.Idx → EReal))) (f : ℕ → ℕ → ℝ) : Prop :=
  ∀ (hs : ∀ s ∈ xs.map (·.1), s.FitsOff (S2 N m) 0) (i : Fin N) (j : Fin m) (c : ℕ) (hc : c < (axisSizes (S2 N m) 0 xs).sum),
    concatenateAt (S2 N m) 0 (ValueIdx.ix2 i j) xs hs c hc = ((f c j : ℝ) : EReal)

/-- The pieces `xs` of a concatenation along the columns hold the columns of `f`, one piece after the other. -/
def Cols {n M : ℕ} (xs : List ((s : Shape) × (s.Idx → EReal))) (f : ℕ → ℕ → ℝ) : Prop :=
  ∀ (hs : ∀ s ∈ xs.map (·.1), s.FitsOff (S2 n M) 1) (i : Fin n) (j : Fin M) (c : ℕ) (hc : c < (axisSizes (S2 n M) 1 xs).sum),
    concatenateAt (S2 n M) 1 (ValueIdx.ix2 i j) xs hs c hc = ((f i c : ℝ) : EReal)

theorem Rows.one {N : ℕ} {x : (S2 n m).Idx → EReal} {f : ℕ → ℕ → ℝ} (hx : R2 x f) :
    Rows (N := N) (m := m) [⟨S2 n m, x⟩] f := fun hs i j c hc => by
  rw [concatenateAt_singleton]
  have hc' : c < n := by
    simpa [axisSizes] using hc
  refine Eq.trans ?_ (hx ⟨c, hc'⟩ j)
  congr 1
  funext d
  match d with
  | ⟨0, _⟩ => rfl
  | ⟨1, _⟩ => rfl

theorem Rows.cons {N : ℕ} {x : (S2 n m).Idx → EReal} {f g : ℕ → ℕ → ℝ} {q : (s : Shape) × (s.Idx → EReal)}
    {xs : List ((s : Shape) × (s.Idx → EReal))} (hx : R2 x f) (hxs : Rows (N := N) (m := m) (q :: xs) g) :
    Rows (N := N) (m := m) (⟨S2 n m, x⟩ :: q :: xs) (fun i j => if i < n then f i j else g (i - n) j) := fun hs i j c hc => by
  rw [concatenateAt_cons]
  by_cases h : c < n
  · refine (dif_pos h).trans ?_
    simp only [h, if_true]
    refine Eq.trans ?_ (hx ⟨c, h⟩ j)
    congr 1
    funext d
    match d with
    | ⟨0, _⟩ => rfl
    | ⟨1, _⟩ => rfl
  · refine (dif_neg h).trans ?_
    simp only [h, if_false]
    exact hxs _ i j _ _

theorem Cols.one {M : ℕ} {x : (S2 n m).Idx → EReal} {f : ℕ → ℕ → ℝ} (hx : R2 x f) :
    Cols (n := n) (M := M) [⟨S2 n m, x⟩] f := fun hs i j c hc => by
  rw [concatenateAt_singleton]
  have hc' : c < m := by
    simpa [axisSizes] using hc
  refine Eq.trans ?_ (hx i ⟨c, hc'⟩)
  congr 1
  funext d
  match d with
  | ⟨0, _⟩ => rfl
  | ⟨1, _⟩ => rfl

theorem Cols.cons {M : ℕ} {x : (S2 n m).Idx → EReal} {f g : ℕ → ℕ → ℝ} {q : (s : Shape) × (s.Idx → EReal)}
    {xs : List ((s : Shape) × (s.Idx → EReal))} (hx : R2 x f) (hxs : Cols (n := n) (M := M) (q :: xs) g) :
    Cols (n := n) (M := M) (⟨S2 n m, x⟩ :: q :: xs) (fun i j => if j < m then f i j else g i (j - m)) := fun hs i j c hc => by
  rw [concatenateAt_cons]
  by_cases h : c < m
  · refine (dif_pos h).trans ?_
    simp only [h, if_true]
    refine Eq.trans ?_ (hx i ⟨c, h⟩)
    congr 1
    funext d
    match d with
    | ⟨0, _⟩ => rfl
    | ⟨1, _⟩ => rfl
  · refine (dif_neg h).trans ?_
    simp only [h, if_false]
    exact hxs _ i j _ _

theorem Rows.cat {p q : (s : Shape) × (s.Idx → EReal)} {xs : List ((s : Shape) × (s.Idx → EReal))} {f : ℕ → ℕ → ℝ}
    (hx : Rows (N := n) (m := m) (p :: q :: xs) f) (h : Shape.Concatenates ((p :: q :: xs).map (·.1)) (S2 n m) 0) :
    R2 (concatenate (S2 n m) 0 (p :: q :: xs) h) f := fun i j => by
  rw [concatenate_cons_apply]; exact hx _ i j _ _

theorem Cols.cat {p q : (s : Shape) × (s.Idx → EReal)} {xs : List ((s : Shape) × (s.Idx → EReal))} {f : ℕ → ℕ → ℝ}
    (hx : Cols (n := n) (M := m) (p :: q :: xs) f) (h : Shape.Concatenates ((p :: q :: xs).map (·.1)) (S2 n m) 1) :
    R2 (concatenate (S2 n m) 1 (p :: q :: xs) h) f := fun i j => by
  rw [concatenate_cons_apply]; exact hx _ i j _ _

end Ops

end Kda
-- ==== Proof.Math.Mask.lean ====
/-
  Arrays of small natural numbers, the masks compared from them, and reshapes that drop or add leading axes of one.
-/
module

public import proofs.«01_k».proof.Proof.Math.Rep

@[expose] public section

noncomputable section

namespace Kda

open Idealize.ShloMosaic Idealize.ShloMosaic.ValueIdx

/-- The array of words `x` holds the natural numbers `f`, all below 2 ^ 31. -/
def I2 {n m : ℕ} (x : (S2 n m).Idx → BitVec 32) (f : ℕ → ℕ → ℕ) : Prop :=
  ∀ (i : Fin n) (j : Fin m), x (ValueIdx.ix2 i j) = BitVec.ofNat 32 (f i j) ∧ f i j < 2 ^ 31

section Ops
variable {n m : ℕ} {x y : IVec (S2 n m) 32} {f g : ℕ → ℕ → ℕ}

theorem I2.lane (hm : m ≤ 2 ^ 31) (h : (S2 n m).Iotas .tc 32 [1]) : I2 (iota .tc (S2 n m) 32 [1] h) (fun _ j => j) := fun i j =>
  ⟨by show BitVec.ofNat 32 (0 * m + j.val) = _; rw [Nat.zero_mul, Nat.zero_add], lt_of_lt_of_le j.isLt hm⟩

theorem I2.row (hn : n ≤ 2 ^ 31) (h : (S2 n m).Iotas .tc 32 [0]) : I2 (iota .tc (S2 n m) 32 [0] h) (fun i _ => i) := fun i j =>
  ⟨by show BitVec.ofNat 32 (0 * n + i.val) = _; rw [Nat.zero_mul, Nat.zero_add], lt_of_lt_of_le i.isLt hn⟩

theorem I2.splat (c : ℕ) (hc : c < 2 ^ 31) : I2 (broadcast (S2 n m) (BitVec.ofNat 32 c)) (fun _ _ => c) := fun _ _ => ⟨rfl, hc⟩

theorem ofNat_toNat {a : ℕ} (h : a < 2 ^ 31) : (BitVec.ofNat 32 a).toNat = a := by
  rw [BitVec.toNat_ofNat]; exact Nat.mod_eq_of_lt (by omega)

theorem ofNat_toInt {a : ℕ} (h : a < 2 ^ 31) : (BitVec.ofNat 32 a).toInt = a := by
  rw [BitVec.toInt_eq_toNat_of_lt (by rw [ofNat_toNat h]; omega), ofNat_toNat h]

theorem I2.addi (hx : I2 x f) (hy : I2 y g) (h : ∀ i < n, ∀ j < m, f i j + g i j < 2 ^ 31) :
    I2 (addi x y) (fun i j => f i j + g i j) := fun i j =>
  ⟨by show x _ + y _ = _; rw [(hx i j).1, (hy i j).1, BitVec.ofNat_add], h i i.isLt j j.isLt⟩

theorem I2.and_mask (hx : I2 x f) (hy : I2 y g) (k : ℕ) (hk : ∀ i j, g i j = 2 ^ k - 1) :
    I2 (andi x y) (fun i j => f i j % 2 ^ k) := fun i j => by
  have hb := lt_of_le_of_lt (Nat.mod_le (f i j) (2 ^ k)) (hx i j).2
  refine ⟨?_, hb⟩
  show x _ &&& y _ = _
  have hg := (hy i j).2
  rw [(hx i j).1, (hy i j).1]
  apply BitVec.eq_of_toNat_eq
  rw [BitVec.toNat_and, ofNat_toNat (hx i j).2, ofNat_toNat hg, hk, Nat.and_two_pow_sub_one_eq_mod]
  exact (ofNat_toNat hb).symm

theorem I2.shr (hx : I2 x f) (hy : I2 y g) (k : ℕ) (hk' : k < 32) (hk : ∀ i j, g i j = k) :
    I2 (shrsi x y) (fun i j => f i j / 2 ^ k) := fun i j => by
  have hb := lt_of_le_of_lt (Nat.div_le_self (f i j) (2 ^ k)) (hx i j).2
  refine ⟨?_, hb⟩
  show IntOp.shrsi .vector (x _) (y _) = _
  have hg := (hy i j).2
  rw [(hx i j).1, (hy i j).1, hk]
  unfold IntOp.shrsi
  have hkn : (BitVec.ofNat 32 k).toNat = k := ofNat_toNat (by omega)
  rw [if_pos (by rw [hkn]; exact hk')]
  apply BitVec.eq_of_toNat_eq
  rw [BitVec.sshiftRight_eq', hkn, BitVec.sshiftRight_eq_of_msb_false, BitVec.toNat_ushiftRight, ofNat_toNat (hx i j).2,
    Nat.shiftRight_eq_div_pow]
  · exact (ofNat_toNat hb).symm
  · rw [BitVec.msb_eq_false_iff_two_mul_lt, ofNat_toNat (hx i j).2]; have := (hx i j).2; omega

theorem B2.eq (hx : I2 x f) (hy : I2 y g) : B2 (cmpi .eq x y) (fun i j => f i j = g i j) := fun i j => by
  show IntOp.cmpi .eq (x _) (y _) = _ ↔ _
  rw [(hx i j).1, (hy i j).1]
  unfold IntOp.cmpi
  dsimp only
  have key : ((BitVec.ofNat 32 (f i j)) = BitVec.ofNat 32 (g i j)) ↔ f i j = g i j :=
    ⟨fun h => by rw [← ofNat_toNat (hx i j).2, h, ofNat_toNat (hy i j).2], fun h => by rw [h]⟩
  rw [← key]
  by_cases h : BitVec.ofNat 32 (f i j) = BitVec.ofNat 32 (g i j)
  · rw [h]; simp
  · rw [beq_eq_false_iff_ne.2 h]; simp [h]

theorem B2.slt (hx : I2 x f) (hy : I2 y g) : B2 (cmpi .slt x y) (fun i j => f i j < g i j) := fun i j => by
  show IntOp.cmpi .slt (x _) (y _) = _ ↔ _
  rw [(hx i j).1, (hy i j).1]
  unfold IntOp.cmpi
  dsimp only
  have key : (BitVec.ofNat 32 (f i j)).slt (BitVec.ofNat 32 (g i j)) = decide (f i j < g i j) := by
    unfold BitVec.slt; rw [ofNat_toInt (hx i j).2, ofNat_toInt (hy i j).2]; simp
  rw [key]
  by_cases h : f i j < g i j <;> simp [h]

theorem B2.sgt (hx : I2 x f) (hy : I2 y g) : B2 (cmpi .sgt x y) (fun i j => g i j < f i j) := fun i j => B2.slt hy hx i j

theorem B2.sge (hx : I2 x f) (hy : I2 y g) : B2 (cmpi .sge x y) (fun i j => g i j ≤ f i j) := fun i j => by
  show IntOp.cmpi .sge (x _) (y _) = _ ↔ _
  rw [(hx i j).1, (hy i j).1]
  unfold IntOp.cmpi
  dsimp only
  have key : (BitVec.ofNat 32 (g i j)).sle (BitVec.ofNat 32 (f i j)) = decide (g i j ≤ f i j) := by
    unfold BitVec.sle; rw [ofNat_toInt (hx i j).2, ofNat_toInt (hy i j).2]; simp
  rw [key]
  by_cases h : g i j ≤ f i j <;> simp [h]

theorem B2.congr {c : (S2 n m).Idx → BitVec 1} {p q : ℕ → ℕ → Prop} (h : B2 c p) (e : ∀ i < n, ∀ j < m, (p i j ↔ q i j)) :
    B2 c q := fun i j => (h i j).trans (e i i.isLt j j.isLt)

theorem I2.congr (h : I2 x f) (e : ∀ i < n, ∀ j < m, f i j = g i j) : I2 x g := fun i j => by
  rw [← e i i.isLt j j.isLt]; exact h i j

end Ops

/-! Reshapes that drop or add leading axes of size one. -/

section Cast
variable {n m : ℕ} {α : Type}

theorem cast3 (x : (⟨3, ![1, n, m]⟩ : Shape).Idx → α) (h : (⟨3, ![1, n, m]⟩ : Shape).ShapeCasts (S2 n m)) (i : Fin n) (j : Fin m) :
    shapeCast (S2 n m) x h (ValueIdx.ix2 i j) = x (ValueIdx.ix3 0 i j) := by
  unfold shapeCast
  refine congrArg x (Shape.reshapeEquiv_eq_of_rowMajor h ?_)
  rw [rowMajor_val3 _ (n * m) m rfl rfl, rowMajor_val2 _ m rfl]
  show 0 * (n * m) + i.val * m + j.val = i.val * m + j.val
  rw [Nat.zero_mul, Nat.zero_add]

theorem cast4 (x : (⟨4, ![1, 1, n, m]⟩ : Shape).Idx → α) (h : (⟨4, ![1, 1, n, m]⟩ : Shape).ShapeCasts (S2 n m)) (i : Fin n) (j : Fin m) :
    shapeCast (S2 n m) x h (ValueIdx.ix2 i j) = x (ValueIdx.ix4 0 0 i j) := by
  unfold shapeCast
  refine congrArg x (Shape.reshapeEquiv_eq_of_rowMajor h ?_)
  rw [rowMajor_val4 _ (1 * (n * m)) (n * m) m rfl rfl rfl, rowMajor_val2 _ m rfl]
  show 0 * (1 * (n * m)) + 0 * (n * m) + i.val * m + j.val = i.val * m + j.val
  simp

theorem cast5 (x : (⟨5, ![1, 1, 1, n, m]⟩ : Shape).Idx → α) (h : (⟨5, ![1, 1, 1, n, m]⟩ : Shape).ShapeCasts (S2 n m)) (i : Fin n)
    (j : Fin m) : shapeCast (S2 n m) x h (ValueIdx.ix2 i j) = x (ValueIdx.ix5 0 0 0 i j) := by
  unfold shapeCast
  refine congrArg x (Shape.reshapeEquiv_eq_of_rowMajor h ?_)
  rw [rowMajor_val5 _ (1 * (1 * (n * m))) (1 * (n * m)) (n * m) m rfl rfl rfl rfl, rowMajor_val2 _ m rfl]
  show 0 * (1 * (1 * (n * m))) + 0 * (1 * (n * m)) + 0 * (n * m) + i.val * m + j.val = i.val * m + j.val
  simp

theorem uncast3 (x : (S2 n m).Idx → α) (h : (S2 n m).ShapeCasts (⟨3, ![1, n, m]⟩ : Shape)) (a : Fin 1) (i : Fin n) (j : Fin m) :
    shapeCast (⟨3, ![1, n, m]⟩ : Shape) x h (ValueIdx.ix3 a i j) = x (ValueIdx.ix2 i j) := by
  unfold shapeCast
  refine congrArg x (Shape.reshapeEquiv_eq_of_rowMajor h ?_)
  rw [rowMajor_val3 _ (n * m) m rfl rfl, rowMajor_val2 _ m rfl]
  show i.val * m + j.val = a.val * (n * m) + i.val * m + j.val
  obtain rfl := Subsingleton.elim a 0
  simp

theorem uncast4 (x : (S2 n m).Idx → α) (h : (S2 n m).ShapeCasts (⟨4, ![1, 1, n, m]⟩ : Shape)) (a b : Fin 1) (i : Fin n) (j : Fin m) :
    shapeCast (⟨4, ![1, 1, n, m]⟩ : Shape) x h (ValueIdx.ix4 a b i j) = x (ValueIdx.ix2 i j) := by
  unfold shapeCast
  refine congrArg x (Shape.reshapeEquiv_eq_of_rowMajor h ?_)
  rw [rowMajor_val4 _ (1 * (n * m)) (n * m) m rfl rfl rfl, rowMajor_val2 _ m rfl]
  show i.val * m + j.val = a.val * (1 * (n * m)) + b.val * (n * m) + i.val * m + j.val
  obtain rfl := Subsingleton.elim a 0
  obtain rfl := Subsingleton.elim b 0
  simp

theorem uncast5 (x : (S2 n m).Idx → α) (h : (S2 n m).ShapeCasts (⟨5, ![1, 1, 1, n, m]⟩ : Shape)) (a b c : Fin 1) (i : Fin n)
    (j : Fin m) : shapeCast (⟨5, ![1, 1, 1, n, m]⟩ : Shape) x h (ValueIdx.ix5 a b c i j) = x (ValueIdx.ix2 i j) := by
  unfold shapeCast
  refine congrArg x (Shape.reshapeEquiv_eq_of_rowMajor h ?_)
  rw [rowMajor_val5 _ (1 * (1 * (n * m))) (1 * (n * m)) (n * m) m rfl rfl rfl rfl, rowMajor_val2 _ m rfl]
  show i.val * m + j.val = a.val * (1 * (1 * (n * m))) + b.val * (1 * (n * m)) + c.val * (n * m) + i.val * m + j.val
  obtain rfl := Subsingleton.elim a 0
  obtain rfl := Subsingleton.elim b 0
  obtain rfl := Subsingleton.elim c 0
  simp

end Cast

end Kda
-- ==== Proof.Math.Sem.lean ====
/-
  What the kernel's functions compute over the reals, when what they read is real: one chunk of the recurrence.
-/
module

public import proofs.«01_k».proof.Proof.Math.Mask
public import proofs.«01_k».proof.Proof.Math.Model

@[expose] public section

set_option maxRecDepth 4096

noncomputable section

namespace Kda

open Idealize.ShloMosaic Idealize.ShloMosaic.ValueIdx Cert.KernelIdeal
open Finset (range)

variable [Facts₀]

/-- A sum that is another one's terms over a window and zero off it. -/
theorem sum_window {K : ℕ} (a n : ℕ) (X Y : ℕ → ℝ) (h : a + n ≤ K) (h1 : ∀ k < n, X (a + k) = Y k)
    (h0 : ∀ k < K, (k < a ∨ a + n ≤ k) → X k = 0) : ∑ k ∈ range K, X k = ∑ k ∈ range n, Y k := by
  obtain ⟨r, rfl⟩ := Nat.exists_eq_add_of_le h
  rw [Finset.sum_range_add, Finset.sum_range_add]
  rw [Finset.sum_eq_zero (s := range a), Finset.sum_eq_zero (s := range r), zero_add, add_zero]
  · exact Finset.sum_congr rfl fun k hk => h1 k (Finset.mem_range.1 hk)
  · intro k hk; have := Finset.mem_range.1 hk
    exact h0 _ (by omega) (Or.inr (by omega))
  · intro k hk; have := Finset.mem_range.1 hk
    exact h0 _ (by omega) (Or.inl this)

section Split
variable {n m : ℕ} {x : FVec Ideal (S2 n m) .f32} {f : ℕ → ℕ → ℝ}

theorem R2.p1 (hx : R2 x f) : R2 (K.p1 x) f := hx.truncf _
theorem R2.r1 (hx : R2 x f) : R2 (K.r1 x) (fun _ _ => 0) :=
  (hx.subf (hx.p1.extf (by decide))).congr fun _ _ _ _ => sub_self _
theorem R2.p2 (hx : R2 x f) : R2 (K.p2 x) (fun _ _ => 0) := hx.r1.truncf _
theorem R2.p3 (hx : R2 x f) : R2 (K.p3 x) (fun _ _ => 0) :=
  ((hx.r1.subf (hx.p2.extf (by decide))).congr fun _ _ _ _ => sub_self _).truncf _
theorem R2.z16 : R2 (K.z16 (F := Ideal) (S2 n m)) (fun _ _ => 0) := R2.zero16
theorem R2.z32 : R2 (K.z32 (F := Ideal) (S2 n m)) (fun _ _ => 0) := R2.zero32
end Split

section Chunk
variable {s : FVec Ideal S96x128 .f32} {S : ℕ → ℕ → ℝ} {kq : FVec Ideal S128x128 .bf16} {KQ : ℕ → ℕ → ℝ}

theorem R2.stateRhs (hs : R2 s S) : R2 (K.stateRhs s) (fun k j => if k < 96 then (if j < 128 then S k j else 0) else 0) := by
  have h1 := Rows.cat (n := 256) (m := 128) ((Rows.cons hs.p1 (Rows.cons (R2.z16 (n := 32)) (Rows.cons hs.p2 (Rows.one (R2.z16 (n := 32))))))) Facts₀.concatenates_S96x128_S32x128_S96x128_S32x128_S256x128_d0
  have h2 := Rows.cat (n := 256) (m := 128) ((Rows.cons hs.p3 (Rows.cons (R2.z16 (n := 32)) (Rows.one (R2.z16 (n := 128)))))) Facts₀.concatenates_S96x128_S32x128_S128x128_S256x128_d0
  refine (Cols.cat (n := 256) (m := 256) (Cols.cons h1 (Cols.one h2)) Facts₀.concatenates_S256x128_S256x128_S256x256_d1).congr fun k hk j hj => ?_
  by_cases c : k < 96 <;> by_cases d : j < 128 <;> simp [c, d]

theorem R2.proj (hk : R2 kq KQ) (hs : R2 s S) : R2 (K.proj kq s) (fun i j => ∑ k ∈ range 96, KQ i k * S k j) := by
  have hl := Cols.cat (n := 128) (m := 256) (Cols.cons hk (Cols.one hk)) Facts₀.concatenates_S128x128_S128x128_S128x256_d1
  have hm := R2.matmul (φ₁ := .bf16) (φ₂ := .bf16) (M := 128) (K := 256) (N := 256) none hl hs.stateRhs
  have h0 : R2 (K.proj kq s) _ := (hm.slice (n' := 128) (m' := 128) 0 0 (by decide)).addf (hm.slice (n' := 128) (m' := 128) 0 128 (by decide))
  refine h0.congr fun i hi j hj => ?_
  refine (congrArg₂ (· + ·) (sum_window 0 96 _ (fun k => KQ i k * S k j) (by decide) (fun k hk' => ?_) fun k hk' h => ?_)
    (Finset.sum_eq_zero fun k _ => ?_)).trans (add_zero _)
  · have : k < 128 := by omega
    simp [hk', this, hj]
  · have : ¬ k < 96 := by omega
    simp [this]
  · simp

variable {x : FVec Ideal S64x128 .f32} {X : ℕ → ℕ → ℝ}

theorem R2.six0 (hx : R2 x X) : R2 (K.six0 x) (fun k j => if k < 64 then X k j else if k < 192 then 0 else X (k - 192) j) := by
  refine (Rows.cat (n := 256) (m := 128) (Rows.cons hx.p1 (Rows.cons hx.p2 (Rows.cons hx.p3 (Rows.one hx.p1)))) Facts₀.concatenates_S64x128_S64x128_S64x128_S64x128_S256x128_d0).congr fun k hk j hj => ?_
  by_cases c : k < 64
  · simp [c]
  · by_cases d : k < 192
    · simp only [c, d, if_true, if_false]; split_ifs <;> first | rfl | omega
    · simp only [c, d, if_false]; rw [if_neg (by omega), if_neg (by omega), show k - 64 - 64 - 64 = k - 192 by omega]

theorem R2.six1 (hx : R2 x X) : R2 (K.six1 x) (fun k j => if k < 64 then X k j else if 128 ≤ k ∧ k < 192 then X (k - 128) j else 0) := by
  refine (Rows.cat (n := 256) (m := 128) (Rows.cons hx.p1 (Rows.cons hx.p2 (Rows.cons hx.p1 (Rows.one hx.p3)))) Facts₀.concatenates_S64x128_S64x128_S64x128_S64x128_S256x128_d0).congr fun k hk j hj => ?_
  by_cases c : k < 64
  · simp [c]
  · by_cases d : k < 128
    · simp only [c, if_false]; rw [if_pos (by omega), if_neg (by omega)]
    · by_cases e : k < 192
      · simp only [c, if_false]; rw [if_neg (by omega), if_pos (by omega), if_pos (by omega), show k - 64 - 64 = k - 128 by omega]
      · simp only [c, if_false]; rw [if_neg (by omega), if_neg (by omega), if_neg (by omega)]

theorem R2.two {a b : FVec Ideal S64x128 .bf16} {f g : ℕ → ℕ → ℝ} (ha : R2 a f) (hb : R2 b g) :
    R2 (K.two a b) (fun i j => if j < 128 then f i j else g i (j - 128)) :=
  Cols.cat (n := 64) (m := 256) (Cols.cons ha (Cols.one hb)) Facts₀.concatenates_S64x128_S64x128_S64x256_d1

/-- The right operand's parts `y` are `X` stacked for chunk `c`, and the left operand's parts hold `T` for it. -/
def SixRep (c : ℕ) (y : FVec Ideal S256x128 .bf16) (X : ℕ → ℕ → ℝ) : Prop :=
  if c = 0 then R2 y (fun k j => if k < 64 then X k j else if k < 192 then 0 else X (k - 192) j)
  else R2 y (fun k j => if k < 64 then X k j else if 128 ≤ k ∧ k < 192 then X (k - 128) j else 0)

/-- The three parts of a left operand for chunk `c` hold `T` (64 columns) in both halves of the lanes. -/
structure LhsRep {n : ℕ} (c : ℕ) (t0 t1 t2 : FVec Ideal (S2 n 128) .bf16) (T : ℕ → ℕ → ℝ) : Prop where
  h0 : R2 t0 (fun i j => T i (j % 64))
  h1 : R2 t1 (fun i j => if c = 0 then (if j < 64 then T i j else 0) else (if j < 64 then 0 else T i (j - 64)))
  h2 : R2 t2 (fun _ _ => 0)

/-- One row of parts against the stacked parts: the product over the chunk. -/
theorem six_sum {c : ℕ} {T : ℕ → ℝ} {X : ℕ → ℝ} {L R : ℕ → ℝ}
    (hL : ∀ k < 256, L k = if k < 128 then T (k % 64) else if c = 0 then (if k - 128 < 64 then T (k - 128) else 0) else (if k - 128 < 64 then 0 else T (k - 128 - 64)))
    (hR : ∀ k < 256, R k = if c = 0 then (if k < 64 then X k else if k < 192 then 0 else X (k - 192))
      else (if k < 64 then X k else if 128 ≤ k ∧ k < 192 then X (k - 128) else 0)) :
    ∑ k ∈ range 256, L k * R k = ∑ k ∈ range 64, T k * X k := by
  refine sum_window 0 64 _ _ (by decide) (fun k hk => ?_) fun k hk h => ?_
  · rw [Nat.zero_add, hL k (by omega), hR k (by omega)]
    rw [if_pos (by omega), Nat.mod_eq_of_lt hk, if_pos hk, if_pos hk, ite_self]
  · have hk' : ¬ k < 64 := by omega
    rw [hL k hk, hR k hk]
    by_cases hc : c = 0
    · simp only [hc, if_true, if_neg hk']
      by_cases h1 : k < 192
      · simp [h1]
      · rw [if_neg (by omega), if_neg (by omega)]; simp
    · simp only [hc, if_false, if_neg hk']
      by_cases h1 : 128 ≤ k ∧ k < 192
      · rw [if_neg (by omega), if_pos (by omega)]; simp
      · simp [h1]

theorem SixRep.val {c : ℕ} {y : FVec Ideal S256x128 .bf16} (h : SixRep c y X) :
    R2 y (fun k j => if c = 0 then (if k < 64 then X k j else if k < 192 then 0 else X (k - 192) j)
      else (if k < 64 then X k j else if 128 ≤ k ∧ k < 192 then X (k - 128) j else 0)) := by
  unfold SixRep at h
  by_cases hc : c = 0
  · simp only [hc, if_true] at h ⊢; exact h
  · simp only [hc, if_false] at h ⊢; exact h

theorem R2.uval {c : ℕ} {t0 t1 t2 : FVec Ideal S64x128 .bf16} {T : ℕ → ℕ → ℝ} {y : FVec Ideal S256x128 .bf16} {b : FVec Ideal S64x1 .f32}
    {B : ℕ → ℝ} (ht : LhsRep (n := 64) c t0 t1 t2 T) (hy : SixRep c y X) (hb : R2 b (fun i _ => B i)) :
    R2 (K.uval t0 t1 t2 y b) (fun i j => (∑ k ∈ range 64, T i k * X k j) * B i) := by
  have hl := Rows.cat (n := 128) (m := 256) (Rows.cons (R2.two ht.h0 ht.h1) (Rows.one (R2.two ht.h2 (R2.z16 (n := 64) (m := 128))))) Facts₀.concatenates_S64x256_S64x256_S128x256_d0
  have hm := R2.matmul (φ₁ := .bf16) (φ₂ := .bf16) (M := 128) (K := 256) (N := 128) none hl hy.val
  have h0 : R2 (K.uval t0 t1 t2 y b) _ := ((hm.slice (n' := 64) (m' := 128) 0 0 (by decide)).addf (hm.slice (n' := 64) (m' := 128) 64 0 (by decide))).mulf
    ((hb.castSelf (by decide)).bcastCol (by decide))
  refine h0.congr fun i hi j hj => ?_
  congr 1
  refine (congrArg₂ (· + ·) (six_sum (c := c) (T := fun k => T i k) (X := fun k => X k j) (fun k hk => ?_) fun k hk => ?_)
    (Finset.sum_eq_zero fun k _ => ?_)).trans (add_zero _)
  · simp only [Nat.zero_add, if_pos hi]
  · simp only [Nat.zero_add]
  · simp

theorem R2.wval {c : ℕ} {a0 a1 a2 : FVec Ideal S64x128 .bf16} {A : ℕ → ℕ → ℝ} {k0 k1 : FVec Ideal S96x128 .bf16} {D : ℕ → ℕ → ℝ}
    {y : FVec Ideal S256x128 .bf16} (ha : LhsRep (n := 64) c a0 a1 a2 A)
    (h0 : R2 k0 (fun i j => D i (j % 64)))
    (h1 : R2 k1 (fun i j => if c = 0 then (if j < 64 then D i j else 0) else (if j < 64 then 0 else D i (j - 64)))) (hy : SixRep c y X) :
    R2 (K.wval a0 a1 a2 k0 k1 y) (fun i j => if i < 64 then ∑ k ∈ range 64, A i k * X k j else if i < 128 then 0 else ∑ k ∈ range 64, D (i - 128) k * X k j) := by
  have hd := Cols.cat (n := 96) (m := 256) (Cols.cons h0 (Cols.one h1)) Facts₀.concatenates_S96x128_S96x128_S96x256_d1
  have hl := Rows.cat (n := 224) (m := 256) (Rows.cons (R2.two ha.h0 ha.h1) (Rows.cons (R2.two ha.h2 (R2.z16 (n := 64) (m := 128))) (Rows.one hd))) Facts₀.concatenates_S64x256_S64x256_S96x256_S224x256_d0
  have hm : R2 (K.wval a0 a1 a2 k0 k1 y) _ := R2.matmul (φ₁ := .bf16) (φ₂ := .bf16) (M := 224) (K := 256) (N := 128) none hl hy.val
  refine hm.congr fun i hi j hj => ?_
  by_cases c1 : i < 64
  · rw [if_pos c1]
    exact six_sum (c := c) (T := fun k => A i k) (X := fun k => X k j) (fun k hk => by simp only [if_pos c1]) (fun k hk => rfl)
  · rw [if_neg c1]
    by_cases c2 : i < 128
    · rw [if_pos c2]
      refine Finset.sum_eq_zero fun k hk => ?_
      rw [if_neg c1, if_pos (by omega)]; simp
    · rw [if_neg c2]
      exact six_sum (c := c) (T := fun k => D (i - 128) k) (X := fun k => X k j)
        (fun k hk => by rw [if_neg c1, if_neg (by omega), show i - 64 - 64 = i - 128 by omega]) (fun k hk => rfl)

end Chunk

end Kda
-- ==== Proof.Math.SemIn.lean ====
/-
  The data of one head over the reals: decoded codes, decays, scores, and the operands they are stored as.
-/
module

public import proofs.«01_k».proof.Proof.Math.Sem

@[expose] public section

set_option maxRecDepth 4096

noncomputable section

namespace Kda

open Idealize.ShloMosaic Idealize.ShloMosaic.ValueIdx Cert.KernelIdeal
open Finset (range)

/-- A byte shifted into the exponent field is a power of two. -/
theorem scale_bits (b : BitVec 8) (h1 : 1 ≤ b.toNat) (h2 : b.toNat ≤ 254) :
    Ideal.ofBits .f32 (IntOp.shli .vector (b.setWidth 32) 23#32) = (((2 : ℝ) ^ ((b.toNat : ℝ) - 127) : ℝ) : EReal) := by
  have e : IntOp.shli .vector (b.setWidth 32) 23#32 = b.setWidth 32 <<< 23 := rfl
  rw [e]
  have a1 : ∀ b : BitVec 8, ((b.setWidth 32 <<< 23 : BitVec 32).extractLsb' 31 1 == 1#1) = false := by decide
  have a2 : ∀ b : BitVec 8, ((b.setWidth 32 <<< 23 : BitVec 32).extractLsb' 23 8).toNat = b.toNat := by decide
  have a3 : ∀ b : BitVec 8, ((b.setWidth 32 <<< 23 : BitVec 32).extractLsb' 0 23).toNat = 0 := by decide
  show Ideal.ieee 8 23 _ = _
  unfold Ideal.ieee
  simp only [a1 b, a2 b, a3 b, show 8 + 23 = 31 from rfl]
  rw [if_neg (by omega), if_neg (by omega)]
  congr 1
  have : ((b.toNat : ℝ) - 127) = (((b.toNat : ℤ) - 127 : ℤ) : ℝ) := by push_cast; ring
  rw [this, Real.rpow_intCast]
  simp only [Bool.false_eq_true, if_false, one_mul, add_zero, Nat.add_zero]
  have h2 : (2 : ℝ) ≠ 0 := by norm_num
  rw [show ((2 ^ 23 : ℕ) : ℝ) = (2 : ℝ) ^ (23 : ℤ) by norm_num, ← zpow_add₀ h2]
  congr 1
  norm_num

/-- The named constant is the reciprocal of the logarithm of two. -/
theorem log2e_val : Named.named (F := Ideal) κ "log2_e" (φ := .f32) 0x3FB8AA3B#32 = (((Real.log 2)⁻¹ : ℝ) : EReal) := by
  show (κ "log2_e").getD _ = _
  simp [κ]

theorem two_rpow_log (x : ℝ) : (2 : ℝ) ^ (x * (Real.log 2)⁻¹) = Real.exp x := by
  rw [Real.rpow_def_of_pos (by norm_num)]
  congr 1
  have : Real.log 2 ≠ 0 := (Real.log_pos (by norm_num)).ne'
  field_simp

/-- The gates of a chunk up to a token, summed. -/
def pre (g : ℕ → ℕ → ℝ) (d t : ℕ) : ℝ := ∑ k ∈ range 128, g d k * (if k / 64 = t / 64 ∧ k ≤ t then 1 else 0)
/-- The gates of a chunk after a token, summed. -/
def suf (g : ℕ → ℕ → ℝ) (d t : ℕ) : ℝ := ∑ k ∈ range 128, g d k * (if k / 64 = t / 64 ∧ t < k then 1 else 0)

/-- The matrix of ones the gates are summed with. -/
def cumMat (k j : ℕ) : ℝ :=
  if j < 128 then (if k % 128 / 64 = j / 64 ∧ k % 128 ≤ j then 1 else 0) else (if k % 128 / 64 = (j - 128) / 64 ∧ j - 128 < k % 128 then 1 else 0)

variable [Facts₀]

section Decode
theorem R2.scalePlane {x : IVec S1x1x1x10x128 8} {e : ℕ → ℕ → ℕ}
    (he : ∀ (i : Fin 10) (j : Fin 128), (x (ValueIdx.ix5 0 0 0 i j)).toNat = e i j ∧ 1 ≤ e i j ∧ e i j ≤ 254) :
    R2 (n := 10) (m := 128) (K.scalePlane (F := Ideal) x) (fun i j => (2 : ℝ) ^ ((e i j : ℝ) - 127)) := fun i j => by
  obtain ⟨h0, h1, h2⟩ := he i j
  show _ = (((2 : ℝ) ^ ((e i j : ℝ) - 127) : ℝ) : EReal)
  rw [← h0]
  refine Eq.trans ?_ (scale_bits (x (ValueIdx.ix5 0 0 0 i j)) (by omega) (by omega))
  rw [← cast5 x Facts₀.shapeCasts_S1x1x1x10x128_S10x128 i j]
  rfl

theorem R2.scaleRow {sc : FVec Ideal S10x128 .f32} {f : ℕ → ℕ → ℝ} (h : ℕ) (w : S10x128.Slices ![h, 0] S1x128) (hs : R2 sc f) :
    R2 (K.scaleRow h w sc) (fun _ j => f h j) := by
  have h0 : R2 (K.scaleRow h w sc) _ := ((((hs.slice (n' := 1) (m' := 128) h 0 w).castSelf (by decide)).bcastRow (n := 32) (by decide))).truncf _
  exact h0.congr fun i _ j _ => by rw [Nat.zero_add, Nat.add_zero]

theorem R2.decode {codes : FVec Ideal S96x128 .fp8e4m3} {s0 s1 s2 : FVec Ideal S10x128 .f32} {q f0 f1 f2 : ℕ → ℕ → ℝ} (h : ℕ)
    (w : S10x128.Slices ![h, 0] S1x128) (hc : R2 codes q) (h0 : R2 s0 f0) (h1 : R2 s1 f1) (h2 : R2 s2 f2) :
    R2 (K.decode h w codes s0 s1 s2) (fun i j => q i j * (if i < 32 then f0 h j else if i - 32 < 32 then f1 h j else f2 h j)) :=
  (hc.extf (by decide)).mulf (Rows.cat (n := 96) (m := 128) (Rows.cons (h0.scaleRow h w) (Rows.cons (h1.scaleRow h w) (Rows.one (h2.scaleRow h w)))) Facts₀.concatenates_S32x128_S32x128_S32x128_S96x128_d0)
end Decode

section Gates
variable {g : FVec Ideal S96x128 .f32} {G : ℕ → ℕ → ℝ} {cum : FVec Ideal S384x256 .bf16}

theorem R2.gsum (hg : R2 g G) (hc : R2 cum cumMat) :
    R2 (K.gsum g cum) (fun i j => ∑ k ∈ range 128, G i k * (Real.log 2)⁻¹ * cumMat k j) := by
  have hx := hg.mulf (R2.splat (n := 96) (m := 128) log2e_val)
  have hl := Cols.cat (n := 96) (m := 384) (Cols.cons hx.p1 (Cols.cons hx.p2 (Cols.one hx.p3))) Facts₀.concatenates_S96x128_S96x128_S96x128_S96x384_d1
  have hm : R2 (K.gsum g cum) _ := R2.matmul (φ₁ := .bf16) (φ₂ := .bf16) (M := 96) (K := 384) (N := 256) none hl hc
  refine hm.congr fun i hi j hj => sum_window 0 128 _ _ (by decide) (fun k hk => ?_) fun k hk h => ?_
  · rw [Nat.zero_add, if_pos hk]
  · rw [if_neg (by omega)]; simp

theorem R2.epos (hg : R2 g G) (hc : R2 cum cumMat) : R2 (K.epos (K.gsum g cum)) (fun i j => Real.exp (pre G i j)) := by
  have h0 : R2 (K.epos (K.gsum g cum)) _ := ((hg.gsum hc).slice (n' := 96) (m' := 128) 0 0 (by decide)).exp2
  refine h0.congr fun i hi j hj => ?_
  rw [← two_rpow_log]
  congr 1
  unfold pre
  rw [Finset.sum_mul]
  refine Finset.sum_congr rfl fun k hk => ?_
  have := Finset.mem_range.1 hk
  unfold cumMat
  rw [Nat.zero_add, Nat.zero_add, if_pos hj, Nat.mod_eq_of_lt this]; ring

theorem R2.eneg (hg : R2 g G) (hc : R2 cum cumMat) : R2 (K.eneg (K.gsum g cum)) (fun i j => Real.exp (-pre G i j)) := by
  have h0 : R2 (K.eneg (K.gsum g cum)) _ := ((R2.z32 (n := 96) (m := 128)).subf ((hg.gsum hc).slice (n' := 96) (m' := 128) 0 0 (by decide))).exp2
  refine h0.congr fun i hi j hj => ?_
  rw [← two_rpow_log]
  congr 1
  unfold pre
  rw [zero_sub, neg_mul, Finset.sum_mul]
  congr 1
  refine Finset.sum_congr rfl fun k hk => ?_
  have := Finset.mem_range.1 hk
  unfold cumMat
  rw [Nat.zero_add, Nat.zero_add, if_pos hj, Nat.mod_eq_of_lt this]; ring

theorem R2.erem (hg : R2 g G) (hc : R2 cum cumMat) : R2 (K.erem (K.gsum g cum)) (fun i j => Real.exp (suf G i j)) := by
  have h0 : R2 (K.erem (K.gsum g cum)) _ := ((hg.gsum hc).slice (n' := 96) (m' := 128) 0 128 (by decide)).exp2
  refine h0.congr fun i hi j hj => ?_
  rw [← two_rpow_log]
  congr 1
  unfold suf
  rw [Finset.sum_mul]
  refine Finset.sum_congr rfl fun k hk => ?_
  have := Finset.mem_range.1 hk
  unfold cumMat
  rw [Nat.zero_add, if_neg (by omega), Nat.mod_eq_of_lt this, Nat.add_sub_cancel_left]; ring

theorem R2.times {x : FVec Ideal S96x128 .bf16} {e : FVec Ideal S96x128 .f32} {X E : ℕ → ℕ → ℝ} (hx : R2 x X) (he : R2 e E) :
    R2 (K.times x e) (fun i j => X i j * E i j) := hx.mulf (he.truncf _)

theorem R2.decOf {e : FVec Ideal S96x128 .f32} {E : ℕ → ℕ → ℝ} (he : R2 e E) (c : ℕ) (w : S96x128.Slices ![0, c] S96x1) :
    R2 (K.decOf c w e) (fun i _ => E i c) := by
  have h0 : R2 (K.decOf c w e) _ := ((he.slice (n' := 96) (m' := 1) 0 c w).castSelf (by decide)).bcastCol (m := 128) (by decide)
  exact h0.congr fun i _ j _ => by rw [Nat.zero_add, Nat.add_zero]
end Gates

section Parts
theorem first96 : B2 (n := 96) (m := 128) (K.firstb S96x128 K.lane96) (fun _ j => j < 64) := B2.slt (I2.lane (by decide) _) (I2.splat 64 (by decide))
theorem first64 : B2 (n := 64) (m := 128) (K.firstb S64x128 K.lane64) (fun _ j => j < 64) := B2.slt (I2.lane (by decide) _) (I2.splat 64 (by decide))

variable {k : FVec Ideal S96x128 .bf16} {D : ℕ → ℕ → ℝ}

theorem rot_mod {j : ℕ} (hj : j < 128) : (j + 128 - (64#32 : BitVec 32).toNat % 128) % 128 = if j < 64 then 64 + j else j - 64 := by
  have : (64#32 : BitVec 32).toNat % 128 = 64 := rfl
  rw [this]; split_ifs <;> omega

theorem R2.kd00 (hk : R2 k D) : R2 (K.kd00 k) (fun i j => D i (j % 64)) := by
  have h0 : R2 (K.kd00 k) _ := R2.select first96 hk (hk.rotate (64#32) _)
  refine h0.congr fun i hi j hj => ?_
  rw [rot_mod hj]
  by_cases h : j < 64
  · rw [if_pos h, Nat.mod_eq_of_lt h]
  · rw [if_neg h, if_neg h]; congr 1; omega
theorem R2.kd10 (hk : R2 k D) : R2 (K.kd10 k) (fun i j => D i (64 + j % 64)) := by
  have h0 : R2 (K.kd10 k) _ := R2.select first96 (hk.rotate (64#32) _) hk
  refine h0.congr fun i hi j hj => ?_
  rw [rot_mod hj]
  by_cases h : j < 64
  · rw [if_pos h, if_pos h, Nat.mod_eq_of_lt h]
  · rw [if_neg h]; congr 1; omega
theorem R2.kd01 (hk : R2 k D) : R2 (K.kd01 k) (fun i j => if j < 64 then D i j else 0) := R2.select first96 hk R2.z16
theorem R2.kd11 (hk : R2 k D) : R2 (K.kd11 k) (fun i j => if j < 64 then 0 else D i j) := R2.select first96 R2.z16 hk

theorem R2.padT (hk : R2 k D) : R2 (K.padT k) (fun i j => if j < 96 then D j i else 0) :=
  (Rows.cat (n := 128) (m := 128) (Rows.cons hk (Rows.one (R2.z16 (n := 32)))) Facts₀.concatenates_S96x128_S32x128_S128x128_d0).transpose Facts₀.transposes_S128x128_p1_0_S128x128

variable {q n : FVec Ideal S96x128 .bf16} {Q N : ℕ → ℕ → ℝ}

theorem R2.kqOf (hk : R2 k D) (hq : R2 q Q) (c : ℕ) (w : S128x128.Slices ![c, 0] S64x128) :
    R2 (K.kqOf c w k q) (fun i d => if d < 96 then (if i < 64 then D d (c + i) else Q d (c + (i - 64))) else 0) := by
  have h0 : R2 (K.kqOf c w k q) _ := Rows.cat (n := 128) (m := 128) (Rows.cons (hk.padT.slice (n' := 64) (m' := 128) c 0 w) (Rows.one (hq.padT.slice (n' := 64) (m' := 128) c 0 w))) Facts₀.concatenates_S64x128_S64x128_S128x128_d0
  refine h0.congr fun i hi j hj => ?_
  simp only [Nat.zero_add]
  split_ifs <;> rfl

theorem R2.scores (hk : R2 k D) (hn : R2 n N) (hq : R2 q Q) :
    R2 (K.scores k n q) (fun i j => ∑ d ∈ range 96, (if i < 64 then D d (64 * (j / 64) + i) else Q d (64 * (j / 64) + (i - 64))) * N d j) := by
  have hl := Rows.cat (n := 128) (m := 256) (Rows.cons (R2.two (hk.padT.slice (n' := 64) (m' := 128) 0 0 (by decide)) (hk.padT.slice (n' := 64) (m' := 128) 64 0 (by decide)))
    (Rows.one (R2.two (hq.padT.slice (n' := 64) (m' := 128) 0 0 (by decide)) (hq.padT.slice (n' := 64) (m' := 128) 64 0 (by decide))))) Facts₀.concatenates_S64x256_S64x256_S128x256_d0
  have hr := Rows.cat (n := 256) (m := 128) (Rows.cons (R2.select first96 hn (R2.z16 (n := 96) (m := 128))) (Rows.cons (R2.z16 (n := 32) (m := 128))
    (Rows.cons (R2.select first96 (R2.z16 (n := 96) (m := 128)) hn) (Rows.one (R2.z16 (n := 32) (m := 128)))))) Facts₀.concatenates_S96x128_S32x128_S96x128_S32x128_S256x128_d0
  have hm : R2 (K.scores k n q) _ := R2.matmul (φ₁ := .bf16) (φ₂ := .bf16) (M := 128) (K := 256) (N := 128) none hl hr
  refine hm.congr fun i hi j hj => sum_window (128 * (j / 64)) 96 _ _ (by omega) (fun d hd => ?_) fun d hd h => ?_
  · by_cases h : j < 64
    · have e : j / 64 = 0 := by omega
      have hd' : d < 128 := by omega
      simp only [e, Nat.mul_zero, Nat.zero_add, if_pos hd, if_pos hd', if_pos h]
    · have e : j / 64 = 1 := by omega
      have h1 : ¬ 128 + d < 96 := by omega
      have h2 : ¬ 128 + d - 96 < 32 := by omega
      have h3 : 128 + d - 96 - 32 < 96 := by omega
      have h4 : ¬ 128 + d < 128 := by omega
      have h5 : 128 + d - 128 = d := by omega
      have h6 : 128 + d - 96 - 32 = d := by omega
      simp only [e, Nat.mul_one, Nat.zero_add, if_neg h1, if_neg h2, if_pos h3, if_neg h4, h5, h6, if_pos hd, if_neg h]
  · refine mul_eq_zero_of_right _ ?_
    by_cases hj' : j < 64
    · have e : j / 64 = 0 := by omega
      rw [e] at h
      split_ifs <;> first | rfl | omega
    · have e : j / 64 = 1 := by omega
      rw [e] at h
      split_ifs <;> first | rfl | omega

theorem tok_val : I2 (n := 64) (m := 128) K.tok (fun _ j => j % 64) := I2.and_mask (I2.lane (by decide) _) (I2.splat 63 (by decide)) 6 (fun _ _ => rfl)
theorem row_val : I2 (n := 64) (m := 128) K.row64 (fun i _ => i) := I2.row (by decide) _

theorem R2.mOf {sc : FVec Ideal S128x128 .f32} {b : FVec Ideal S1x128 .f32} {C B : ℕ → ℕ → ℝ} (hs : R2 sc C) (hb : R2 b B) :
    R2 (K.mOf sc b) (fun i j => if j % 64 < i then C i j * B 0 j else 0) := by
  have h0 : R2 (K.mOf sc b) _ := R2.select (B2.sgt row_val tok_val) ((hs.slice (n' := 64) (m' := 128) 0 0 (by decide)).mulf (hb.bcastRow (n := 64) (by decide))) (R2.z32 (n := 64) (m := 128))
  exact h0.congr fun i _ j _ => by rw [Nat.zero_add, Nat.zero_add]
theorem R2.aOf {sc : FVec Ideal S128x128 .f32} {C : ℕ → ℕ → ℝ} (hs : R2 sc C) :
    R2 (K.aOf sc) (fun i j => if j % 64 ≤ i then C (64 + i) j else 0) := by
  have h0 : R2 (K.aOf sc) _ := R2.select (B2.sge row_val tok_val) (hs.slice (n' := 64) (m' := 128) 64 0 (by decide)) (R2.z32 (n := 64) (m := 128))
  exact h0.congr fun i _ j _ => by rw [Nat.zero_add]

variable {m : FVec Ideal S64x128 .f32} {M : ℕ → ℕ → ℝ}

theorem R2.rot64 (hm : R2 m M) : R2 (K.rot64 m) (fun i j => M i (if j < 64 then 64 + j else j - 64)) :=
  (show R2 (K.rot64 m) _ from hm.rotate (64#32) _).congr fun i _ j hj => by rw [rot_mod hj]

theorem LhsRep.zero (hm : R2 m M) : LhsRep (n := 64) 0 (K.l00 m) (K.l01 m) (K.l02 m) M where
  h0 := (show R2 (K.l00 m) _ from R2.select first64 hm.p1 hm.rot64.p1).congr fun i hi j hj => by
    by_cases h : j < 64
    · rw [if_pos h, Nat.mod_eq_of_lt h]
    · rw [if_neg h, if_neg h]; congr 1; omega
  h1 := (show R2 (K.l01 m) _ from R2.select first64 hm.p1 hm.rot64.p2).congr fun i hi j hj => by rw [if_pos rfl]
  h2 := (show R2 (K.l02 m) _ from R2.select first64 hm.p3 hm.rot64.p2).congr fun i hi j hj => by rw [ite_self]

theorem LhsRep.one (hm : R2 m M) : LhsRep (n := 64) 1 (K.l10 m) (K.l11 m) (K.l12 m) (fun i k => M i (64 + k)) where
  h0 := (show R2 (K.l10 m) _ from R2.select first64 hm.rot64.p1 hm.p1).congr fun i hi j hj => by
    by_cases h : j < 64
    · rw [if_pos h, if_pos h, Nat.mod_eq_of_lt h]
    · rw [if_neg h]; congr 1; omega
  h1 := (show R2 (K.l11 m) _ from R2.select first64 hm.rot64.p2 hm.p1).congr fun i hi j hj => by
    rw [if_neg Nat.one_ne_zero]
    by_cases h : j < 64
    · rw [if_pos h, if_pos h]
    · rw [if_neg h, if_neg h]; congr 1; omega
  h2 := (show R2 (K.l12 m) _ from R2.select first64 hm.rot64.p3 hm.p2).congr fun i hi j hj => by rw [ite_self]
end Parts

end Kda
-- ==== Proof.Math.SemInv.lean ====
/-
  The inverses of the unit lower triangular chunks over the reals.
-/
module

public import proofs.«01_k».proof.Proof.Math.SemIn
public import Idealize.ShloMosaic.Lib.Pipeline.Value

@[expose] public section

set_option maxRecDepth 4096

noncomputable section

namespace Kda

open Idealize.ShloMosaic Idealize.ShloMosaic.ValueIdx Cert.KernelIdeal
open Finset (range)

/-- Forward substitution into the identity, after `j` columns; a group of eight rows stops at its own last column. -/
def sub (N : ℕ → ℕ → ℝ) : ℕ → ℕ → ℕ → ℝ
  | 0, r, c => if c = r then 1 else 0
  | j + 1, r, c => if j < 8 * (r / 8) + 7 then sub N j r c - N r j * sub N j j c else sub N j r c

/-- Four blocks of 32 columns side by side: the one of column `l`. -/
def blkAt (N : ℕ → ℕ → ℝ) (l : ℕ) : ℕ → ℕ → ℝ := fun r c => N r (32 * (l / 32) + c)

/-- The inverse of `1 + M` from the inverses of its diagonal blocks. -/
def inv2 (M : ℕ → ℕ → ℝ) (i l : ℕ) : ℝ :=
  if i < 32 then (if l < 32 then sub M 31 i l else 0)
  else if l < 32 then 0 - ∑ k ∈ range 32, sub (fun r c => M (32 + r) (32 + c)) 31 (i - 32) k * ∑ k' ∈ range 32, M (32 + k) k' * sub M 31 k' l
  else sub (fun r c => M (32 + r) (32 + c)) 31 (i - 32) (l - 32)

theorem sub_congr {N N' : ℕ → ℕ → ℝ} (h : ∀ r < 32, ∀ c < 32, N r c = N' r c) :
    ∀ j ≤ 32, ∀ r < 32, ∀ c, sub N j r c = sub N' j r c := by
  intro j
  induction j with
  | zero => intro _ r _ c; rfl
  | succ j ih =>
    intro hj r hr c
    simp only [sub]
    rw [ih (by omega) r hr c, ih (by omega) j (by omega) c, h r hr j (by omega)]

variable [Facts₀]

theorem blk_val (u : ℕ) (hu : u < 2 ^ 31) : B2 (n := 32) (m := 128) (K.blk u) (fun _ j => j / 32 = u) :=
  B2.eq (I2.shr (I2.lane (by decide) _) (I2.splat 5 (by decide)) 5 (by decide) (fun _ _ => rfl)) (I2.splat u hu)
theorem even_val : B2 (n := 32) (m := 128) K.even (fun _ j => j / 32 % 2 = 0) :=
  B2.eq (I2.and_mask (I2.shr (I2.lane (by decide) _) (I2.splat 5 (by decide)) 5 (by decide) (fun _ _ => rfl)) (I2.splat 1 (by decide)) 1 (fun _ _ => rfl)) (I2.splat 0 (by decide))

section Blocks
variable {x y : FVec Ideal S32x128 .f32} {X Y : ℕ → ℕ → ℝ}

theorem R2.rot32 (hx : R2 x X) : R2 (K.rot32 x) (fun i j => X i ((j + 96) % 128)) :=
  (show R2 (K.rot32 x) _ from hx.rotate (32#32) _).congr fun i _ j _ => by
    have : (32#32 : BitVec 32).toNat % 128 = 32 := rfl
    rw [this]; congr 1
theorem R2.rot96 (hx : R2 x X) : R2 (K.rot96 x) (fun i j => X i ((j + 32) % 128)) :=
  (show R2 (K.rot96 x) _ from hx.rotate (96#32) _).congr fun i _ j _ => by
    have : (96#32 : BitVec 32).toNat % 128 = 96 := rfl
    rw [this]; congr 1

theorem R2.diag {p : FVec Ideal S32x128 .bf16} {P : ℕ → ℕ → ℝ} (hp : R2 p P) : R2 (K.diag p) (fun k j => if j / 32 = k / 32 then P (k % 32) j else 0) := by
  have z := R2.z16 (n := 32) (m := 128)
  have h0 : R2 (K.diag p) _ := Rows.cat (n := 128) (m := 128) (Rows.cons (R2.select (blk_val 0 (by decide)) hp z) (Rows.cons (R2.select (blk_val 1 (by decide)) hp z)
    (Rows.cons (R2.select (blk_val 2 (by decide)) hp z) (Rows.one (R2.select (blk_val 3 (by decide)) hp z))))) Facts₀.concatenates_S32x128_S32x128_S32x128_S32x128_S128x128_d0
  refine h0.congr fun k hk j hj => ?_
  by_cases h1 : k < 32
  · rw [if_pos h1, show k / 32 = 0 by omega, show k % 32 = k by omega]
  rw [if_neg h1]
  by_cases h2 : k - 32 < 32
  · rw [if_pos h2, show k / 32 = 1 by omega, show k % 32 = k - 32 by omega]
  rw [if_neg h2]
  by_cases h3 : k - 32 - 32 < 32
  · rw [if_pos h3, show k / 32 = 2 by omega, show k % 32 = k - 32 - 32 by omega]
  rw [if_neg h3, show k / 32 = 3 by omega, show k % 32 = k - 32 - 32 - 32 by omega]

theorem R2.twice {p : FVec Ideal S32x128 .bf16} {P : ℕ → ℕ → ℝ} (hp : R2 p P) : R2 (K.twice p) (fun i j => if j < 128 then P i j else P i (j - 128)) :=
  Cols.cat (n := 32) (m := 256) (Cols.cons hp (Cols.one hp)) Facts₀.concatenates_S32x128_S32x128_S32x256_d1

theorem R2.blockMM (hx : R2 x X) (hy : R2 y Y) :
    R2 (K.blockMM x y) (fun i j => ∑ k ∈ range 32, X i (32 * (j / 32) + k) * Y k j) := by
  have hl := Rows.cat (n := 96) (m := 256) (Rows.cons hx.p1.twice (Rows.cons hx.p2.twice (Rows.one hx.p3.twice))) Facts₀.concatenates_S32x256_S32x256_S32x256_S96x256_d0
  have hr := Rows.cat (n := 256) (m := 256) (Rows.cons (Cols.cat (n := 128) (m := 256) (Cols.cons hy.p1.diag (Cols.one hy.p3.diag)) Facts₀.concatenates_S128x128_S128x128_S128x256_d1)
    (Rows.one (Cols.cat (n := 128) (m := 256) (Cols.cons hy.p2.diag (Cols.one (R2.z16 (n := 128) (m := 128)))) Facts₀.concatenates_S128x128_S128x128_S128x256_d1))) Facts₀.concatenates_S128x256_S128x256_S256x256_d0
  have hm := R2.matmul (φ₁ := .bf16) (φ₂ := .bf16) (M := 96) (K := 256) (N := 256) none hl hr
  have h0 : R2 (K.blockMM x y) _ := (((hm.slice (n' := 32) (m' := 128) 64 0 (by decide)).addf (hm.slice (n' := 32) (m' := 128) 0 128 (by decide))).addf
    (hm.slice (n' := 32) (m' := 128) 32 0 (by decide))).addf (hm.slice (n' := 32) (m' := 128) 0 0 (by decide))
  refine h0.congr fun i hi j hj => ?_
  refine (congrArg₂ (· + ·) (congrArg₂ (· + ·) (congrArg₂ (· + ·) (Finset.sum_eq_zero fun k _ => ?_) (Finset.sum_eq_zero fun k _ => ?_))
    (Finset.sum_eq_zero fun k _ => ?_)) (sum_window (32 * (j / 32)) 32 _ (fun k => X i (32 * (j / 32) + k) * Y k j) (by omega) (fun k hk => ?_) fun k hk h => ?_)).trans ?_
  · refine mul_eq_zero_of_left ?_ _
    rw [if_neg (by omega), if_neg (by omega)]; exact ite_self _
  · refine mul_eq_zero_of_right _ ?_
    have : ¬ 128 + j < 128 := by omega
    simp only [if_neg this, ite_self]
  · refine mul_eq_zero_of_left ?_ _
    rw [if_neg (by omega), if_pos (by omega)]; exact ite_self _
  · have e1 : 32 * (j / 32) + k < 128 := by omega
    have e2 : j / 32 = (32 * (j / 32) + k) / 32 := by omega
    have e3 : (32 * (j / 32) + k) % 32 = k := by omega
    simp only [Nat.zero_add, if_pos hi, if_pos e1, if_pos hj, e3]
    rw [if_pos e2]
  · refine mul_eq_zero_of_right _ ?_
    simp only [Nat.zero_add, if_pos hj, ite_self]
    by_cases e : k < 128
    · rw [if_pos e, if_neg (by omega)]
    · rw [if_neg e]
  · simp
end Blocks

section Subst
theorem base_val : ∀ l : Fin 128, BitVec.ofNat 32 l.val &&& 4294967264#32 = BitVec.ofNat 32 (32 * (l.val / 32)) := by decide

theorem colIx_val (j : ℕ) (hj : j < 32) : I2 (n := 8) (m := 128) (K.colIx j) (fun _ l => 32 * (l / 32) + j) := by
  have h : I2 (n := 8) (m := 128) (andi K.lane8 (broadcast S8x128 (4294967264#32))) (fun _ l => 32 * (l / 32)) := fun i l => by
    refine ⟨?_, by have := l.isLt; show 32 * (l.val / 32) < 2 ^ 31; omega⟩
    have e := (I2.lane (n := 8) (m := 128) (by decide) Facts₀.iota_S8x128_d1_w32 i l).1
    refine Eq.trans ?_ (base_val l)
    rw [← e]; rfl
  exact I2.addi h (I2.splat j (by omega)) fun i _ l hl => by show 32 * (l / 32) + j < 2 ^ 31; omega

theorem normIx_val {x : IVec S8x128 32} {f : ℕ → ℕ → ℕ} (hx : I2 (n := 8) (m := 128) x f) (hf : ∀ i j, j < 128 → f i j < 128) (i : Fin 8) (j : Fin 128) :
    (K.normIx x (ValueIdx.ix2 i j)).toNat % 128 = f i j := by
  have hc := B2.slt hx (I2.splat (n := 8) (m := 128) 0 (by decide)) i j
  have e : K.normIx x (ValueIdx.ix2 i j) = select (cmpi .slt x (broadcast S8x128 (0#32))) (addi x (broadcast S8x128 (128#32))) x (ValueIdx.ix2 i j) := by
    unfold K.normIx
    exact congrFun (shapeCast_shapeCast _ _ _) _
  rw [e]
  show (Scalar.select (cmpi .slt x (broadcast S8x128 (0#32)) (ValueIdx.ix2 i j)) (addi x (broadcast S8x128 (128#32)) (ValueIdx.ix2 i j)) (x (ValueIdx.ix2 i j)) : BitVec 32).toNat % 128 = _
  unfold Scalar.select
  rw [if_neg (show ¬ (cmpi .slt x (broadcast S8x128 (0#32)) (ValueIdx.ix2 i j) = 1) from fun h => absurd (hc.1 h) (Nat.not_lt_zero _)), (hx i j).1, ofNat_toNat (hx i j).2, Nat.mod_eq_of_lt (hf _ _ j.isLt)]

theorem R2.eye8 (g : ℕ) (hg : g < 4) : R2 (n := 8) (m := 128) (K.eye8 (F := Ideal) g) (fun i l => if l % 32 = i + 8 * g then 1 else 0) :=
  R2.select (B2.eq (I2.and_mask (I2.lane (by decide) _) (I2.splat 31 (by decide)) 5 (fun _ _ => rfl)) (I2.addi (I2.row (by decide) _) (I2.splat (8 * g) (by omega)) fun i hi l _ => by omega))
    (R2.splat (by show Ideal.ofBits .f32 0x3F800000#32 = ((1 : ℝ) : EReal); rw [Ideal.ofBits_one_f32]; norm_cast)) R2.zero32

variable {n : FVec Ideal S32x128 .f32} {N : ℕ → ℕ → ℝ}

theorem R2.rowOf {x : FVec Ideal S8x128 .f32} {X : ℕ → ℕ → ℝ} (hx : R2 x X) (r : Fin 8) : R2 (K.rowOf x r) (fun _ l => X r.val l) := by
  have h0 : R2 (K.rowOf x r) _ := ((hx.slice (n' := 1) (m' := 128) r.val 0 (K.slices1 r)).castSelf (by decide)).bcastRow (n := 8) (by decide)
  exact h0.congr fun i _ j _ => by rw [Nat.zero_add, Nat.add_zero]

theorem R2.subst (hn : R2 n N) (j : ℕ) (hj : j ≤ 31) (g : Fin 4) :
    R2 (K.subst n j g) (fun i l => sub (blkAt N l) j (8 * g.val + i) (l % 32)) := by
  induction j generalizing g with
  | zero => exact (R2.eye8 g.val g.isLt).congr fun i _ l _ => by rw [Nat.add_comm]; rfl
  | succ j ih =>
    have e : K.subst n (j + 1) g = if j < 8 * g.val + 7 then
        Idealize.ShloMosaic.subf (K.subst n j g) (Idealize.ShloMosaic.mulf (dynamicGather 1 (K.grp n g) (K.normIx (K.colIx j))) (K.rowOf (K.subst n j (Fin.ofNat 4 (j / 8))) (Fin.ofNat 8 (j % 8))))
      else K.subst n j g := rfl
    rw [e]
    have hd : ∀ i < 8, (8 * g.val + i) / 8 = g.val := fun i hi => by omega
    by_cases h : j < 8 * g.val + 7
    · rw [if_pos h]
      have hx := ih (by omega) g
      have hy := (ih (by omega) (Fin.ofNat 4 (j / 8))).rowOf (Fin.ofNat 8 (j % 8))
      have hg := R2.gather (hn.slice (n' := 8) (m' := 128) (8 * g.val) 0 (K.slices8 g)) (K.normIx (K.colIx j)) (fun _ l => 32 * (l / 32) + j)
        (normIx_val (colIx_val j (by omega)) fun _ l hl => by omega)
      refine (hx.subf (hg.mulf hy)).congr fun i hi l hl => ?_
      have e1 : 8 * (Fin.ofNat 4 (j / 8)).val + (Fin.ofNat 8 (j % 8)).val = j := by
        show 8 * (j / 8 % 4) + j % 8 % 8 = j
        omega
      simp only [e1, Nat.zero_add]
      show _ = sub (blkAt N l) (j + 1) (8 * g.val + i) (l % 32)
      simp only [sub]
      rw [hd i hi, if_pos h]
      rfl
    · rw [if_neg h]
      refine (ih (by omega) g).congr fun i hi l hl => ?_
      show _ = sub (blkAt N l) (j + 1) (8 * g.val + i) (l % 32)
      simp only [sub]
      rw [hd i hi, if_neg h]

theorem R2.unitInv (hn : R2 n N) : R2 (K.unitInv n) (fun i l => sub (blkAt N l) 31 i (l % 32)) := by
  have hs := hn.subst 31 le_rfl
  have h0 : R2 (K.unitInv n) _ := Rows.cat (n := 32) (m := 128) (Rows.cons (hs 0) (Rows.cons (hs 1) (Rows.cons (hs 2) (Rows.one (hs 3))))) Facts₀.concatenates_S8x128_S8x128_S8x128_S8x128_S32x128_d0
  refine h0.congr fun k hk j hj => ?_
  by_cases h1 : k < 8
  · rw [if_pos h1]; congr 1; show 8 * 0 + k = k; omega
  rw [if_neg h1]
  by_cases h2 : k - 8 < 8
  · rw [if_pos h2]; congr 1; show 8 * 1 + (k - 8) = k; omega
  rw [if_neg h2]
  by_cases h3 : k - 8 - 8 < 8
  · rw [if_pos h3]; congr 1; show 8 * 2 + (k - 8 - 8) = k; omega
  rw [if_neg h3]; congr 1; show 8 * 3 + (k - 8 - 8 - 8) = k; omega
end Subst

section Pair
variable {m0 m1 : FVec Ideal S64x128 .f32} {M0 M1 : ℕ → ℕ → ℝ}

/-- A block's matrix of the pair: its head's, at its chunk's lanes. -/
def pairM (M0 M1 : ℕ → ℕ → ℝ) (l : ℕ) : ℕ → ℕ → ℝ := fun r c => (if l / 32 % 2 = 0 then M0 else M1) r (64 * (l / 64) + c)

theorem R2.up (hm : R2 m0 M0) : R2 (K.up m0) M0 :=
  (show R2 (K.up m0) _ from hm.slice (n' := 32) (m' := 128) 0 0 (by decide)).congr fun i _ j _ => by rw [Nat.zero_add, Nat.zero_add]
theorem R2.dn (hm : R2 m0 M0) : R2 (K.dn m0) (fun i j => M0 (32 + i) j) :=
  (show R2 (K.dn m0) _ from hm.slice (n' := 32) (m' := 128) 32 0 (by decide)).congr fun i _ j _ => by rw [Nat.zero_add]

theorem R2.nA (h0 : R2 m0 M0) (h1 : R2 m1 M1) : R2 (K.nA m0 m1) (fun i l => pairM M0 M1 l i (l % 32)) :=
  (show R2 (K.nA m0 m1) _ from R2.select even_val h0.up h1.up.rot32).congr fun i hi l hl => by
    unfold pairM
    by_cases h : l / 32 % 2 = 0
    · rw [if_pos h, if_pos h]; congr 1; omega
    · rw [if_neg h, if_neg h]; congr 1; omega
theorem R2.nL (h0 : R2 m0 M0) (h1 : R2 m1 M1) : R2 (K.nL m0 m1) (fun i l => pairM M0 M1 l (32 + i) (l % 32)) :=
  (show R2 (K.nL m0 m1) _ from R2.select even_val h0.dn h1.dn.rot32).congr fun i hi l hl => by
    unfold pairM
    by_cases h : l / 32 % 2 = 0
    · rw [if_pos h, if_pos h]; congr 1; omega
    · rw [if_neg h, if_neg h]; congr 1; omega
theorem R2.nC (h0 : R2 m0 M0) (h1 : R2 m1 M1) : R2 (K.nC m0 m1) (fun i l => pairM M0 M1 l (32 + i) (32 + l % 32)) :=
  (show R2 (K.nC m0 m1) _ from R2.select even_val h0.dn.rot96 h1.dn).congr fun i hi l hl => by
    unfold pairM
    by_cases h : l / 32 % 2 = 0
    · rw [if_pos h, if_pos h]; congr 1; omega
    · rw [if_neg h, if_neg h]; congr 1; omega

theorem pair_blk {l c : ℕ} (hc : c < 32) : (32 * (l / 32) + c) / 32 = l / 32 ∧ (32 * (l / 32) + c) / 64 = l / 64 ∧ (32 * (l / 32) + c) % 32 = c := by omega

theorem pairM_at (r c l : ℕ) (hc : c < 32) : pairM M0 M1 (32 * (l / 32) + c) = pairM M0 M1 l := by
  unfold pairM; rw [(pair_blk hc).1, (pair_blk hc).2.1]

theorem R2.xA (h0 : R2 m0 M0) (h1 : R2 m1 M1) : R2 (K.xA m0 m1) (fun i l => sub (pairM M0 M1 l) 31 i (l % 32)) :=
  (h0.nA h1).unitInv.congr fun i hi l hl => sub_congr (fun r hr c hc => by
    show pairM M0 M1 (32 * (l / 32) + c) r ((32 * (l / 32) + c) % 32) = _
    rw [pairM_at r c l hc, (pair_blk hc).2.2]) 31 (by decide) i hi _
theorem R2.xC (h0 : R2 m0 M0) (h1 : R2 m1 M1) : R2 (K.xC m0 m1) (fun i l => sub (fun r c => pairM M0 M1 l (32 + r) (32 + c)) 31 i (l % 32)) :=
  (h0.nC h1).unitInv.congr fun i hi l hl => sub_congr (fun r hr c hc => by
    show pairM M0 M1 (32 * (l / 32) + c) (32 + r) (32 + (32 * (l / 32) + c) % 32) = _
    rw [pairM_at r c l hc, (pair_blk hc).2.2]) 31 (by decide) i hi _

theorem R2.zz (h0 : R2 m0 M0) (h1 : R2 m1 M1) : R2 (K.zz m0 m1) (fun i l => inv2 (pairM M0 M1 l) (32 + i) (l % 32)) := by
  have hz : R2 (K.zz m0 m1) _ := R2.z32.subf (R2.blockMM (h0.xC h1) (R2.blockMM (h0.nL h1) (h0.xA h1)))
  refine hz.congr fun i hi l hl => ?_
  unfold inv2
  rw [if_neg (by omega), if_pos (by omega), Nat.add_sub_cancel_left]
  congr 1
  refine Finset.sum_congr rfl fun k hk => ?_
  have hk := Finset.mem_range.1 hk
  rw [pairM_at k k l hk, (pair_blk hk).2.2]
  congr 1
  refine Finset.sum_congr rfl fun k' hk' => ?_
  have hk' := Finset.mem_range.1 hk'
  rw [pairM_at k k' l hk', (pair_blk hk').2.2]

/-- A chunk's matrix of a head. -/
def chunkM (M : ℕ → ℕ → ℝ) (l : ℕ) : ℕ → ℕ → ℝ := fun r c => M r (64 * (l / 64) + c)

theorem R2.inv0 (h0 : R2 m0 M0) (h1 : R2 m1 M1) : R2 (K.inv0 m0 m1) (fun i l => inv2 (chunkM M0 l) i (l % 64)) := by
  have hz : R2 (K.inv0 m0 m1) _ := Rows.cat (n := 64) (m := 128) (Rows.cons (R2.select even_val (h0.xA h1) (R2.z32 (n := 32) (m := 128)))
    (Rows.one (R2.select even_val (h0.zz h1) (h0.xC h1).rot32))) Facts₀.concatenates_S32x128_S32x128_S64x128_d0
  refine hz.congr fun i hi l hl => ?_
  by_cases e : l / 32 % 2 = 0
  · have e1 : pairM M0 M1 l = chunkM M0 l := by unfold pairM chunkM; rw [if_pos e]
    have e2 : l % 64 = l % 32 := by omega
    rw [if_pos e, if_pos e, e1, e2]
    by_cases h : i < 32
    · rw [if_pos h]; unfold inv2; rw [if_pos h, if_pos (by omega)]
    · rw [if_neg h, show 32 + (i - 32) = i by omega]
  · have e0 : ((l + 96) % 128) / 32 % 2 = 0 := by omega
    have e1 : pairM M0 M1 ((l + 96) % 128) = chunkM M0 l := by
      unfold pairM chunkM; rw [if_pos e0, show (l + 96) % 128 / 64 = l / 64 by omega]
    have e2 : (l + 96) % 128 % 32 = l % 64 - 32 := by omega
    rw [if_neg e, if_neg e, e1, e2]
    unfold inv2
    by_cases h : i < 32
    · rw [if_pos h, if_pos h, if_neg (by omega)]
    · rw [if_neg h, if_neg h, if_neg (by omega)]

theorem R2.inv1 (h0 : R2 m0 M0) (h1 : R2 m1 M1) : R2 (K.inv1 m0 m1) (fun i l => inv2 (chunkM M1 l) i (l % 64)) := by
  have hz : R2 (K.inv1 m0 m1) _ := Rows.cat (n := 64) (m := 128) (Rows.cons (R2.select even_val (h0.xA h1).rot96 (R2.z32 (n := 32) (m := 128)))
    (Rows.one (R2.select even_val (h0.zz h1).rot96 (h0.xC h1)))) Facts₀.concatenates_S32x128_S32x128_S64x128_d0
  refine hz.congr fun i hi l hl => ?_
  by_cases e : l / 32 % 2 = 0
  · have e0 : ¬ ((l + 32) % 128) / 32 % 2 = 0 := by omega
    have e1 : pairM M0 M1 ((l + 32) % 128) = chunkM M1 l := by
      unfold pairM chunkM; rw [if_neg e0, show (l + 32) % 128 / 64 = l / 64 by omega]
    have e2 : (l + 32) % 128 % 32 = l % 64 := by omega
    rw [if_pos e, if_pos e, e1, e2]
    by_cases h : i < 32
    · rw [if_pos h]; unfold inv2; rw [if_pos h, if_pos (by omega)]
    · rw [if_neg h, show 32 + (i - 32) = i by omega]
  · have e1 : pairM M0 M1 l = chunkM M1 l := by unfold pairM chunkM; rw [if_neg e]
    have e2 : l % 32 = l % 64 - 32 := by omega
    rw [if_neg e, if_neg e, e1, e2]
    unfold inv2
    by_cases h : i < 32
    · rw [if_pos h, if_pos h, if_neg (by omega)]
    · rw [if_neg h, if_neg h, if_neg (by omega)]
end Pair

end Kda
-- ==== Proof.Math.SemRec.lean ====
/-
  One chunk of the recurrence over the reals, from the blocks it reads.
-/
module

public import proofs.«01_k».proof.Proof.Math.Sem

@[expose] public section

set_option maxRecDepth 4096

noncomputable section

namespace Kda

open Idealize.ShloMosaic Idealize.ShloMosaic.ValueIdx Cert.KernelIdeal
open Finset (range)

/-- The real number the scale constant's bits denote. -/
def scl : ℝ := 13698540 * (2 : ℝ) ^ (-27 : ℤ)

theorem scl_bits : Ideal.ofBits .f32 0x3DD105EC#32 = ((scl : ℝ) : EReal) := by
  unfold scl
  simp [Ideal.ofBits, Ideal.ieee, -EReal.coe_mul]

/-- The solved rows of a chunk. -/
def chU (KP T V S : ℕ → ℕ → ℝ) (B : ℕ → ℝ) (i j : ℕ) : ℝ :=
  (∑ k ∈ range 64, T i k * (V k j - ∑ d ∈ range 96, KP d k * S d j)) * B i
/-- The output rows of a chunk from its solved rows. -/
def chO (QP A S U : ℕ → ℕ → ℝ) (i j : ℕ) : ℝ :=
  scl * (∑ d ∈ range 96, QP d i * S d j + ∑ k ∈ range 64, A i k * U k j)
/-- The state after a chunk from its solved rows. -/
def chS (D S U : ℕ → ℕ → ℝ) (dec : ℕ → ℝ) (d j : ℕ) : ℝ := dec d * S d j + ∑ k ∈ range 64, D d k * U k j

variable [Facts₀]

/-- The blocks a point's recurrence reads for head `h` and chunk `c` hold these real matrices. -/
structure ChunkRep (x : K.Rec Ideal) (h : Fin 10) (c : Fin 2) (KP QP T A D V : ℕ → ℕ → ℝ) (dec B : ℕ → ℝ) : Prop where
  kq : R2 (n := 128) (m := 128) (shapeCast S128x128 (x.kq h c)) (fun i d => if d < 96 then (if i < 64 then KP d i else QP d (i - 64)) else 0)
  t : LhsRep (n := 64) c.val (shapeCast S64x128 (x.t h c 0)) (shapeCast S64x128 (x.t h c 1)) (shapeCast S64x128 (x.t h c 2)) T
  a : LhsRep (n := 64) c.val (shapeCast S64x128 (x.a h c 0)) (shapeCast S64x128 (x.a h c 1)) (shapeCast S64x128 (x.a h c 2)) A
  kd0 : R2 (n := 96) (m := 128) (shapeCast S96x128 (x.kd h c 0)) (fun i j => D i (j % 64))
  kd1 : R2 (n := 96) (m := 128) (shapeCast S96x128 (x.kd h c 1))
    (fun i j => if c.val = 0 then (if j < 64 then D i j else 0) else (if j < 64 then 0 else D i (j - 64)))
  dec : R2 (n := 96) (m := 128) (shapeCast S96x128 (x.dec h c)) (fun d _ => dec d)
  v : R2 (n := 64) (m := 128) (shapeCast S64x128 (x.v h c)) V
  b : R2 (n := 64) (m := 1) (x.bcol h c) (fun i _ => B i)

theorem R2.six (c : Fin 2) {y : FVec Ideal S64x128 .f32} {Y : ℕ → ℕ → ℝ} (hy : R2 y Y) : SixRep c.val (K.Rec.six c y) Y := by
  unfold SixRep K.Rec.six
  by_cases hc : c = 0
  · subst hc; exact hy.six0
  · have : c.val ≠ 0 := fun h => hc (Fin.ext h)
    simp only [hc, this, if_false]; exact hy.six1

section
variable {x : K.Rec Ideal} {h : Fin 10} {c : Fin 2} {KP QP T A D V S : ℕ → ℕ → ℝ} {dec B : ℕ → ℝ} {s : FVec Ideal S96x128 .f32}

theorem ChunkRep.pr (H : ChunkRep x h c KP QP T A D V dec B) (hs : R2 s S) :
    R2 (x.pr h c s) (fun i j => ∑ d ∈ range 96, (if i < 64 then KP d i else QP d (i - 64)) * S d j) :=
  (R2.proj H.kq hs).congr fun i _ j _ => Finset.sum_congr rfl fun d hd => by rw [if_pos (Finset.mem_range.1 hd)]

theorem ChunkRep.u (H : ChunkRep x h c KP QP T A D V dec B) (hs : R2 s S) : R2 (x.u h c s) (chU KP T V S B) := by
  have hr : R2 (K.res (shapeCast S64x128 (x.v h c)) (x.pr h c s)) _ :=
    (H.v.extf (by decide)).subf ((H.pr hs).slice (n' := 64) (m' := 128) 0 0 (by decide))
  refine (R2.uval H.t (R2.six c hr) H.b).congr fun i hi j hj => ?_
  unfold chU
  congr 1
  refine Finset.sum_congr rfl fun k hk => ?_
  have := Finset.mem_range.1 hk
  simp only [Nat.zero_add, if_pos this]

theorem ChunkRep.w (H : ChunkRep x h c KP QP T A D V dec B) (hs : R2 s S) :
    R2 (x.w h c s) (fun i j => if i < 64 then ∑ k ∈ range 64, A i k * chU KP T V S B k j else if i < 128 then 0
      else ∑ k ∈ range 64, D (i - 128) k * chU KP T V S B k j) :=
  R2.wval H.a H.kd0 H.kd1 (R2.six c (H.u hs))

theorem ChunkRep.o (H : ChunkRep x h c KP QP T A D V dec B) (hs : R2 s S) :
    R2 (x.o h c s) (chO QP A S (chU KP T V S B)) := by
  have h0 : R2 (x.o h c s) _ := ((R2.splat (n := 64) (m := 128) scl_bits).mulf (((H.pr hs).slice (n' := 64) (m' := 128) 64 0 (by decide)).addf
    (((H.w hs).slice (n' := 64) (m' := 128) 0 0 (by decide)).addf ((H.w hs).slice (n' := 64) (m' := 128) 64 0 (by decide))))).truncf _
  refine h0.congr fun i hi j hj => ?_
  unfold chO
  have h1 : ¬ 64 + i < 64 := by omega
  have h2 : 64 + i < 128 := by omega
  simp only [Nat.zero_add, if_pos hi, if_neg h1, if_pos h2, add_zero, Nat.add_sub_cancel_left]

theorem ChunkRep.nx (H : ChunkRep x h c KP QP T A D V dec B) (hs : R2 s S) :
    R2 (x.nx h c s) (chS D S (chU KP T V S B) dec) := by
  have h0 : R2 (x.nx h c s) _ := (H.dec.mulf hs).addf ((H.w hs).slice (n' := 96) (m' := 128) 128 0 (by decide))
  refine h0.congr fun i hi j hj => ?_
  unfold chS
  rw [if_neg (by omega), if_neg (by omega), Nat.zero_add, Nat.add_sub_cancel_left]

end

end Kda
-- ==== Proof.Math.Step.lean ====
/-
  A grid point over the reals: what its blocks hold, what it leaves in the scratch buffers, and what its
  recurrence computes from them.
-/
module

public import proofs.«01_k».proof.Proof.Kern.Canon
public import proofs.«01_k».proof.Proof.Math.SemInv
public import proofs.«01_k».proof.Proof.Math.SemRec

@[expose] public section

set_option maxRecDepth 4096

noncomputable section

namespace Kda

open Idealize.ShloMosaic Idealize.ShloMosaic.ValueIdx Cert.KernelIdeal Cert.KernelIdeal.Gen
open Finset (range)

/-- A load through a unit rectangle, at an index. -/
theorem ld_at {s : Shape} {F : FTy → Type} {e : EltTy} (x : s.Idx → Elt F e) (off sz : Fin s.rank → ℕ) (h : ∀ a, off a + sz a ≤ s.size a)
    (y : (⟨s.rank, sz⟩ : Shape).Idx) (z : s.Idx) (hz : ∀ k, off k + (y k).val = (z k).val) :
    View.ld (Val := Elt F) (e' := e) x (Rect.unit off sz h) y = x z := by
  show x ((Rect.unit off sz h).idx y) = x z
  congr 1
  funext k; apply Fin.ext
  exact (Rect.idx_unit_val off sz h y k).trans (hz k)

/-- A code's value: the code times its group's power of two. -/
def deco (q : ℕ → ℕ → ℝ) (e : ℕ → ℕ → ℕ) (d t : ℕ) : ℝ := q d t * (2 : ℝ) ^ ((e (d / 32) t : ℝ) - 127)

/-- Keys (or queries) with the decay from their chunk's start, its reciprocal, and the decay to the chunk's end. -/
def posR (X G : ℕ → ℕ → ℝ) (d t : ℕ) : ℝ := X d t * Real.exp (pre G d t)
def negR (X G : ℕ → ℕ → ℝ) (d t : ℕ) : ℝ := X d t * Real.exp (-pre G d t)
def remR (X G : ℕ → ℕ → ℝ) (d t : ℕ) : ℝ := X d t * Real.exp (suf G d t)
/-- The strictly lower scores of keys, times the write strengths. -/
def mR (K G : ℕ → ℕ → ℝ) (B : ℕ → ℝ) (i l : ℕ) : ℝ :=
  if l % 64 < i then (∑ d ∈ range 96, posR K G d (64 * (l / 64) + i) * negR K G d l) * B l else 0
/-- The lower scores of queries. -/
def aR (Q K G : ℕ → ℕ → ℝ) (i l : ℕ) : ℝ :=
  if l % 64 ≤ i then ∑ d ∈ range 96, posR Q G d (64 * (l / 64) + i) * negR K G d l else 0
/-- The inverse of one plus the lower scores, chunk by chunk. -/
def tR (K G : ℕ → ℕ → ℝ) (B : ℕ → ℝ) (i l : ℕ) : ℝ := inv2 (chunkM (mR K G B) l) i (l % 64)

/-- The staged blocks of a point hold these codes, exponents, gates and write strengths. -/
structure InBlk (x0 : Vec Ideal S1x10x96x128 .fp8e4m3) (x1 : Vec Ideal S1x1x3x10x128 .i8) (x2 : Vec Ideal S1x10x96x128 .fp8e4m3)
    (x3 : Vec Ideal S1x1x3x10x128 .i8) (x4 : Vec Ideal S1x10x96x128 .f32) (x5 : Vec Ideal S1x1x10x128 .f32) (x6 : Vec Ideal S384x256 .bf16)
    (qc kc G : ℕ → ℕ → ℕ → ℝ) (qe ke : ℕ → ℕ → ℕ → ℕ) (B : ℕ → ℕ → ℝ) : Prop where
  q : ∀ (h : Fin 10) (d : Fin 96) (t : Fin 128), x0 (ValueIdx.ix4 0 h d t) = ((qc h d t : ℝ) : EReal)
  k : ∀ (h : Fin 10) (d : Fin 96) (t : Fin 128), x2 (ValueIdx.ix4 0 h d t) = ((kc h d t : ℝ) : EReal)
  g : ∀ (h : Fin 10) (d : Fin 96) (t : Fin 128), x4 (ValueIdx.ix4 0 h d t) = ((G h d t : ℝ) : EReal)
  b : ∀ (h : Fin 10) (t : Fin 128), x5 (ValueIdx.ix4 0 0 h t) = ((B h t : ℝ) : EReal)
  sq : ∀ (m : Fin 3) (h : Fin 10) (t : Fin 128), BitVec.toNat (w := 8) (x1 (ValueIdx.ix5 0 0 m h t)) = qe h m t ∧ 1 ≤ qe h m t ∧ qe h m t ≤ 254
  sk : ∀ (m : Fin 3) (h : Fin 10) (t : Fin 128), BitVec.toNat (w := 8) (x3 (ValueIdx.ix5 0 0 m h t)) = ke h m t ∧ 1 ≤ ke h m t ∧ ke h m t ≤ 254
  cum : ∀ (i : Fin 384) (j : Fin 256), x6 (ValueIdx.ix2 i j) = ((cumMat i j : ℝ) : EReal)

/-- The scratch buffers hold the head data of these keys, queries, gates and write strengths. -/
structure ScrRep (xs0 : Vec Ideal S10x2x128x128 .bf16) (xs1 xs2 : Vec Ideal S10x2x3x64x128 .bf16) (xs3 : Vec Ideal S10x2x2x96x128 .bf16)
    (xs4 : Vec Ideal S10x2x96x128 .f32) (Q K G : ℕ → ℕ → ℕ → ℝ) (B : ℕ → ℕ → ℝ) : Prop where
  kq : ∀ (h : Fin 10) (c : Fin 2), R2 (n := 128) (m := 128) (fun y => xs0 (ValueIdx.ix4 h c (y 0) (y 1)))
    (fun i d => if d < 96 then (if i < 64 then posR (K h) (G h) d (64 * c + i) else posR (Q h) (G h) d (64 * c + (i - 64))) else 0)
  t : ∀ (h : Fin 10) (c : Fin 2), LhsRep (n := 64) c.val (fun y => xs1 (ValueIdx.ix5 h c 0 (y 0) (y 1))) (fun y => xs1 (ValueIdx.ix5 h c 1 (y 0) (y 1)))
    (fun y => xs1 (ValueIdx.ix5 h c 2 (y 0) (y 1))) (fun i k => tR (K h) (G h) (B h) i (64 * c + k))
  a : ∀ (h : Fin 10) (c : Fin 2), LhsRep (n := 64) c.val (fun y => xs2 (ValueIdx.ix5 h c 0 (y 0) (y 1))) (fun y => xs2 (ValueIdx.ix5 h c 1 (y 0) (y 1)))
    (fun y => xs2 (ValueIdx.ix5 h c 2 (y 0) (y 1))) (fun i k => aR (Q h) (K h) (G h) i (64 * c + k))
  kd0 : ∀ (h : Fin 10) (c : Fin 2), R2 (n := 96) (m := 128) (fun y => xs3 (ValueIdx.ix5 h c 0 (y 0) (y 1))) (fun d j => remR (K h) (G h) d (64 * c + j % 64))
  kd1 : ∀ (h : Fin 10) (c : Fin 2), R2 (n := 96) (m := 128) (fun y => xs3 (ValueIdx.ix5 h c 1 (y 0) (y 1)))
    (fun d j => if c.val = 0 then (if j < 64 then remR (K h) (G h) d (64 * c + j) else 0) else (if j < 64 then 0 else remR (K h) (G h) d (64 * c + (j - 64))))
  dec : ∀ (h : Fin 10) (c : Fin 2), R2 (n := 96) (m := 128) (fun y => xs4 (ValueIdx.ix4 h c (y 0) (y 1))) (fun d _ => Real.exp (pre (G h) d (64 * c + 63)))

/-- A block with two leading unit axes, flattened. -/
theorem R2.of4 {n m : ℕ} {x : (⟨4, ![1, 1, n, m]⟩ : Shape).Idx → EReal} {f : ℕ → ℕ → ℝ} (h : (⟨4, ![1, 1, n, m]⟩ : Shape).ShapeCasts (S2 n m))
    (hx : ∀ (i : Fin n) (j : Fin m), x (ValueIdx.ix4 0 0 i j) = ((f i j : ℝ) : EReal)) : R2 (shapeCast (S2 n m) x h) f :=
  fun i j => (cast4 x h i j).trans (hx i j)
theorem R2.of5 {n m : ℕ} {x : (⟨5, ![1, 1, 1, n, m]⟩ : Shape).Idx → EReal} {f : ℕ → ℕ → ℝ} (h : (⟨5, ![1, 1, 1, n, m]⟩ : Shape).ShapeCasts (S2 n m))
    (hx : ∀ (i : Fin n) (j : Fin m), x (ValueIdx.ix5 0 0 0 i j) = ((f i j : ℝ) : EReal)) : R2 (shapeCast (S2 n m) x h) f :=
  fun i j => (cast5 x h i j).trans (hx i j)

variable [Facts₀]

section In
variable {x0 : Vec Ideal S1x10x96x128 .fp8e4m3} {x1 : Vec Ideal S1x1x3x10x128 .i8} {x2 : Vec Ideal S1x10x96x128 .fp8e4m3}
    {x3 : Vec Ideal S1x1x3x10x128 .i8} {x4 : Vec Ideal S1x10x96x128 .f32} {x5 : Vec Ideal S1x1x10x128 .f32} {x6 : Vec Ideal S384x256 .bf16}
    {qc kc G : ℕ → ℕ → ℕ → ℝ} {qe ke : ℕ → ℕ → ℕ → ℕ} {B : ℕ → ℕ → ℝ}

/-- A decoded block. -/
theorem R2.dec8 {codes : FVec Ideal S1x1x96x128 .fp8e4m3} {s : Fin 3 → IVec S1x1x1x10x128 8} {q : ℕ → ℕ → ℝ} {e : ℕ → ℕ → ℕ → ℕ} (h : Fin 10)
    (hq : ∀ (d : Fin 96) (t : Fin 128), codes (ValueIdx.ix4 0 0 d t) = ((q d t : ℝ) : EReal))
    (hs : ∀ (m : Fin 3) (h : Fin 10) (t : Fin 128), (s m (ValueIdx.ix5 0 0 0 h t)).toNat = e h m t ∧ 1 ≤ e h m t ∧ e h m t ≤ 254) :
    R2 (K.In.dec8 codes s h) (deco q (e h)) := by
  have hd := R2.decode h.val (K.slicesScale h) (R2.of4 (n := 96) (m := 128) Facts₀.shapeCasts_S1x1x96x128_S96x128 hq)
    (R2.scalePlane (e := fun i j => e i 0 j) (hs 0)) (R2.scalePlane (e := fun i j => e i 1 j) (hs 1)) (R2.scalePlane (e := fun i j => e i 2 j) (hs 2))
  refine (show R2 (K.In.dec8 codes s h) _ from hd).congr fun d hd t ht => ?_
  unfold deco
  congr 1
  by_cases c1 : d < 32
  · rw [if_pos c1, show d / 32 = 0 by omega]
  rw [if_neg c1]
  by_cases c2 : d - 32 < 32
  · rw [if_pos c2, show d / 32 = 1 by omega]
  rw [if_neg c2, show d / 32 = 2 by omega]

section
variable (H : InBlk x0 x1 x2 x3 x4 x5 x6 qc kc G qe ke B) (h : Fin 10)
include H

theorem InBlk.qv : R2 ((inOf x0 x1 x2 x3 x4 x5 x6).qv h) (deco (qc h) (qe h)) :=
  R2.dec8 h (fun d t => (ld_at (F := Ideal) (e := .fp8e4m3) x0 _ _ _ _ (ValueIdx.ix4 0 h d t) (by intro k; fin_cases k <;> simp)).trans (H.q h d t))
    (fun m h t => by
      have e : (inOf x0 x1 x2 x3 x4 x5 x6).sq m (ValueIdx.ix5 0 0 0 h t) = x1 (ValueIdx.ix5 0 0 m h t) :=
        ld_at (F := Ideal) (e := .i8) x1 _ _ _ _ (ValueIdx.ix5 0 0 m h t) (by intro k; fin_cases k <;> simp)
      rw [e]; exact H.sq m h t)
theorem InBlk.kv : R2 ((inOf x0 x1 x2 x3 x4 x5 x6).kv h) (deco (kc h) (ke h)) :=
  R2.dec8 h (fun d t => (ld_at (F := Ideal) (e := .fp8e4m3) x2 _ _ _ _ (ValueIdx.ix4 0 h d t) (by intro k; fin_cases k <;> simp)).trans (H.k h d t))
    (fun m h t => by
      have e : (inOf x0 x1 x2 x3 x4 x5 x6).sk m (ValueIdx.ix5 0 0 0 h t) = x3 (ValueIdx.ix5 0 0 m h t) :=
        ld_at (F := Ideal) (e := .i8) x3 _ _ _ _ (ValueIdx.ix5 0 0 m h t) (by intro k; fin_cases k <;> simp)
      rw [e]; exact H.sk m h t)
theorem InBlk.gv : R2 (n := 96) (m := 128) (shapeCast S96x128 ((inOf x0 x1 x2 x3 x4 x5 x6).g h) Facts₀.shapeCasts_S1x1x96x128_S96x128) (G h) :=
  R2.of4 (n := 96) (m := 128) _ (fun d t => (ld_at (F := Ideal) (e := .f32) x4 _ _ _ _ (ValueIdx.ix4 0 h d t) (by intro k; fin_cases k <;> simp)).trans (H.g h d t))
theorem InBlk.bv : R2 (n := 1) (m := 128) (shapeCast S1x128 ((inOf x0 x1 x2 x3 x4 x5 x6).b h) Facts₀.shapeCasts_S1x1x1x128_S1x128) (fun _ => B h) :=
  R2.of4 (n := 1) (m := 128) _ (fun d t => (ld_at (F := Ideal) (e := .f32) x5 _ _ _ _ (ValueIdx.ix4 0 0 h t)
    (by intro k; have := d.isLt; fin_cases k <;> simp)).trans (H.b h t))
theorem InBlk.cumv : R2 (n := 384) (m := 256) (shapeCast S384x256 (inOf x0 x1 x2 x3 x4 x5 x6).cum (by decide)) cumMat :=
  R2.castSelf (fun i j => (ld_at (F := Ideal) (e := .bf16) x6 _ _ _ _ (ValueIdx.ix2 i j) (by intro k; fin_cases k <;> simp)).trans (H.cum i j)) _

theorem InBlk.epos : R2 (K.epos ((inOf x0 x1 x2 x3 x4 x5 x6).gs h)) (fun d t => Real.exp (pre (G h) d t)) := (H.gv h).epos H.cumv
theorem InBlk.qpos : R2 ((inOf x0 x1 x2 x3 x4 x5 x6).qpos h) (posR (deco (qc h) (qe h)) (G h)) := (H.qv h).times (H.epos h)
theorem InBlk.kpos : R2 ((inOf x0 x1 x2 x3 x4 x5 x6).kpos h) (posR (deco (kc h) (ke h)) (G h)) := (H.kv h).times (H.epos h)
theorem InBlk.kneg : R2 ((inOf x0 x1 x2 x3 x4 x5 x6).kneg h) (negR (deco (kc h) (ke h)) (G h)) := (H.kv h).times ((H.gv h).eneg H.cumv)
theorem InBlk.kdec : R2 ((inOf x0 x1 x2 x3 x4 x5 x6).kdec h) (remR (deco (kc h) (ke h)) (G h)) := (H.kv h).times ((H.gv h).erem H.cumv)

theorem InBlk.mm : R2 ((inOf x0 x1 x2 x3 x4 x5 x6).mm h) (mR (deco (kc h) (ke h)) (G h) (B h)) := by
  have h0 := (R2.scores (H.kpos h) (H.kneg h) (H.qpos h)).mOf (H.bv h)
  refine (show R2 ((inOf x0 x1 x2 x3 x4 x5 x6).mm h) _ from h0).congr fun i hi l hl => ?_
  unfold mR
  by_cases c : l % 64 < i
  · rw [if_pos c, if_pos c]; congr 1
    exact Finset.sum_congr rfl fun d _ => by rw [if_pos hi]
  · rw [if_neg c, if_neg c]
theorem InBlk.aa : R2 ((inOf x0 x1 x2 x3 x4 x5 x6).aa h) (aR (deco (qc h) (qe h)) (deco (kc h) (ke h)) (G h)) := by
  have h0 := (R2.scores (H.kpos h) (H.kneg h) (H.qpos h)).aOf
  refine (show R2 ((inOf x0 x1 x2 x3 x4 x5 x6).aa h) _ from h0).congr fun i hi l hl => ?_
  unfold aR
  by_cases c : l % 64 ≤ i
  · rw [if_pos c, if_pos c]
    exact Finset.sum_congr rfl fun d _ => by rw [if_neg (by omega), Nat.add_sub_cancel_left]
  · rw [if_neg c, if_neg c]

theorem InBlk.inv : R2 ((inOf x0 x1 x2 x3 x4 x5 x6).inv h) (tR (deco (kc h) (ke h)) (G h) (B h)) := by
  unfold K.In.inv
  by_cases c : h.val % 2 = 0
  · rw [if_pos c]; exact R2.inv0 (H.mm h) (H.mm _)
  · rw [if_neg c]; exact R2.inv1 (H.mm _) (H.mm h)

/-- Two parts of a left operand are stored, chunk by chunk. -/
theorem lhsS_at {m : FVec Ideal S64x128 .f32} {M : ℕ → ℕ → ℝ} (hm : R2 m M) (c : Fin 2) :
    LhsRep (n := 64) c.val (fun y => K.In.lhsS m c 0 (ValueIdx.ix5 0 0 0 (y 0) (y 1))) (fun y => K.In.lhsS m c 1 (ValueIdx.ix5 0 0 0 (y 0) (y 1)))
      (fun y => K.In.lhsS m c 2 (ValueIdx.ix5 0 0 0 (y 0) (y 1))) (fun i k => M i (64 * c + k)) := by
  have e : ∀ (c : Fin 2) (p : Fin 3) (i : Fin 64) (j : Fin 128), K.In.lhsS m c p (ValueIdx.ix5 0 0 0 i j) =
      (if c = 0 then (if p = 0 then K.l00 m else if p = 1 then K.l01 m else K.l02 m)
        else (if p = 0 then K.l10 m else if p = 1 then K.l11 m else K.l12 m)) (ValueIdx.ix2 i j) := fun c p i j => uncast5 (n := 64) (m := 128) _ _ 0 0 0 i j
  have h0 := LhsRep.zero hm
  have h1 := LhsRep.one hm
  obtain rfl | rfl : c = 0 ∨ c = 1 := by omega
  · have a0 : R2 (n := 64) (m := 128) (K.l00 m) (fun i j => M i (64 * ((0 : Fin 2) : ℕ) + j % 64)) := h0.h0.congr fun i _ j _ => by simp
    have a1 : R2 (n := 64) (m := 128) (K.l01 m) (fun i j => if ((0 : Fin 2) : ℕ) = 0 then (if j < 64 then M i (64 * ((0 : Fin 2) : ℕ) + j) else 0)
        else (if j < 64 then 0 else M i (64 * ((0 : Fin 2) : ℕ) + (j - 64)))) := h0.h1.congr fun i _ j _ => by simp
    exact ⟨fun i j => (e 0 0 i j).trans (a0 i j), fun i j => (e 0 1 i j).trans (a1 i j), fun i j => (e 0 2 i j).trans (h0.h2 i j)⟩
  · have a0 : R2 (n := 64) (m := 128) (K.l10 m) (fun i j => M i (64 * ((1 : Fin 2) : ℕ) + j % 64)) := h1.h0.congr fun i _ j _ => by simp
    have a1 : R2 (n := 64) (m := 128) (K.l11 m) (fun i j => if ((1 : Fin 2) : ℕ) = 0 then (if j < 64 then M i (64 * ((1 : Fin 2) : ℕ) + j) else 0)
        else (if j < 64 then 0 else M i (64 * ((1 : Fin 2) : ℕ) + (j - 64)))) := h1.h1.congr fun i _ j _ => by simp
    exact ⟨fun i j => (e 1 0 i j).trans (a0 i j), fun i j => (e 1 1 i j).trans (a1 i j), fun i j => (e 1 2 i j).trans (h1.h2 i j)⟩
end

/-- What a point stores, read back, is the head data of its blocks. -/
theorem InBlk.scr (H : InBlk x0 x1 x2 x3 x4 x5 x6 qc kc G qe ke B) {xs0 : Vec Ideal S10x2x128x128 .bf16} {xs1 xs2 : Vec Ideal S10x2x3x64x128 .bf16}
    {xs3 : Vec Ideal S10x2x2x96x128 .bf16} {xs4 : Vec Ideal S10x2x96x128 .f32}
    (e0 : ∀ h c i j, xs0 (ValueIdx.ix4 h c i j) = (inOf x0 x1 x2 x3 x4 x5 x6).kqS h c (ValueIdx.ix4 0 0 i j))
    (e1 : ∀ h c p i j, xs1 (ValueIdx.ix5 h c p i j) = (inOf x0 x1 x2 x3 x4 x5 x6).tS h c p (ValueIdx.ix5 0 0 0 i j))
    (e2 : ∀ h c p i j, xs2 (ValueIdx.ix5 h c p i j) = (inOf x0 x1 x2 x3 x4 x5 x6).aS h c p (ValueIdx.ix5 0 0 0 i j))
    (e3 : ∀ h c p i j, xs3 (ValueIdx.ix5 h c p i j) = (inOf x0 x1 x2 x3 x4 x5 x6).kdS h c p (ValueIdx.ix5 0 0 0 i j))
    (e4 : ∀ h c i j, xs4 (ValueIdx.ix4 h c i j) = (inOf x0 x1 x2 x3 x4 x5 x6).decS h c (ValueIdx.ix4 0 0 i j)) :
    ScrRep xs0 xs1 xs2 xs3 xs4 (fun h => deco (qc h) (qe h)) (fun h => deco (kc h) (ke h)) G B where
  kq h c := fun i j => (e0 h c i j).trans ((uncast4 (n := 128) (m := 128) _ _ 0 0 i j).trans (by
    fin_cases c
    · exact (R2.kqOf (H.kpos h) (H.qpos h) 0 _) i j
    · exact (R2.kqOf (H.kpos h) (H.qpos h) 64 _) i j))
  t h c := by
    have := lhsS_at H (H.inv h) c
    exact ⟨fun i j => (e1 h c 0 i j).trans (this.h0 i j), fun i j => (e1 h c 1 i j).trans (this.h1 i j), fun i j => (e1 h c 2 i j).trans (this.h2 i j)⟩
  a h c := by
    have := lhsS_at H (H.aa h) c
    exact ⟨fun i j => (e2 h c 0 i j).trans (this.h0 i j), fun i j => (e2 h c 1 i j).trans (this.h1 i j), fun i j => (e2 h c 2 i j).trans (this.h2 i j)⟩
  kd0 h c := fun i j => (e3 h c 0 i j).trans ((uncast5 (n := 96) (m := 128) _ _ 0 0 0 i j).trans (by
    obtain rfl | rfl : c = 0 ∨ c = 1 := by omega
    · exact (show R2 (K.kd00 ((inOf x0 x1 x2 x3 x4 x5 x6).kdec h)) (fun d j => remR (deco (kc h) (ke h)) (G h) d (64 * ((0 : Fin 2) : ℕ) + j % 64)) from
        (R2.kd00 (H.kdec h)).congr fun i _ j _ => by simp) i j
    · exact (show R2 (K.kd10 ((inOf x0 x1 x2 x3 x4 x5 x6).kdec h)) (fun d j => remR (deco (kc h) (ke h)) (G h) d (64 * ((1 : Fin 2) : ℕ) + j % 64)) from
        (R2.kd10 (H.kdec h)).congr fun i _ j _ => by simp) i j))
  kd1 h c := fun i j => (e3 h c 1 i j).trans ((uncast5 (n := 96) (m := 128) _ _ 0 0 0 i j).trans (by
    obtain rfl | rfl : c = 0 ∨ c = 1 := by omega
    · exact (show R2 (K.kd01 ((inOf x0 x1 x2 x3 x4 x5 x6).kdec h)) (fun d j => if ((0 : Fin 2) : ℕ) = 0 then (if j < 64 then remR (deco (kc h) (ke h)) (G h) d (64 * ((0 : Fin 2) : ℕ) + j) else 0)
        else (if j < 64 then 0 else remR (deco (kc h) (ke h)) (G h) d (64 * ((0 : Fin 2) : ℕ) + (j - 64)))) from
        (R2.kd01 (H.kdec h)).congr fun i _ j _ => by simp) i j
    · exact (show R2 (K.kd11 ((inOf x0 x1 x2 x3 x4 x5 x6).kdec h)) (fun d j => if ((1 : Fin 2) : ℕ) = 0 then (if j < 64 then remR (deco (kc h) (ke h)) (G h) d (64 * ((1 : Fin 2) : ℕ) + j) else 0)
        else (if j < 64 then 0 else remR (deco (kc h) (ke h)) (G h) d (64 * ((1 : Fin 2) : ℕ) + (j - 64)))) from
        (R2.kd11 (H.kdec h)).congr fun i _ j _ => by
          rw [if_neg (show ¬ ((1 : Fin 2) : ℕ) = 0 by decide)]
          by_cases c : j < 64
          · rw [if_pos c, if_pos c]
          · rw [if_neg c, if_neg c]; congr 1; show j = 64 * 1 + (j - 64); omega) i j))
  dec h c := fun i j => (e4 h c i j).trans ((uncast4 (n := 96) (m := 128) _ _ 0 0 i j).trans (by
    fin_cases c
    · exact (R2.decOf (H.epos h) 63 _) i j
    · exact (R2.decOf (H.epos h) 127 _) i j))
end In

/-- The recurrence of a point reads the head data, its values and write strengths. -/
theorem ScrRep.chunk {xs0 : Vec Ideal S10x2x128x128 .bf16} {xs1 xs2 : Vec Ideal S10x2x3x64x128 .bf16} {xs3 : Vec Ideal S10x2x2x96x128 .bf16}
    {xs4 : Vec Ideal S10x2x96x128 .f32} {Q Kk G : ℕ → ℕ → ℕ → ℝ} {B : ℕ → ℕ → ℝ} (H : ScrRep xs0 xs1 xs2 xs3 xs4 Q Kk G B)
    {s : Fin 10 → FVec Ideal S1x1x96x128 .f32} {x7 : Vec Ideal S1x10x128x128 .bf16} {x8 : Vec Ideal S1x1x10x128 .f32} {V : ℕ → ℕ → ℕ → ℝ}
    (hv : ∀ (h : Fin 10) (t v : Fin 128), x7 (ValueIdx.ix4 0 h t v) = ((V h t v : ℝ) : EReal))
    (hb : ∀ (h : Fin 10) (t : Fin 128), x8 (ValueIdx.ix4 0 0 h t) = ((B h t : ℝ) : EReal)) (h : Fin 10) (c : Fin 2) :
    ChunkRep (recOf s x7 x8 xs0 xs1 xs2 xs3 xs4) h c (fun d i => posR (Kk h) (G h) d (64 * c + i)) (fun d i => posR (Q h) (G h) d (64 * c + i))
      (fun i k => tR (Kk h) (G h) (B h) i (64 * c + k)) (fun i k => aR (Q h) (Kk h) (G h) i (64 * c + k)) (fun d k => remR (Kk h) (G h) d (64 * c + k))
      (fun i v => V h (64 * c + i) v) (fun d => Real.exp (pre (G h) d (64 * c + 63))) (fun i => B h (64 * c + i)) where
  kq := R2.of4 (n := 128) (m := 128) _ fun i j => (ld_at (F := Ideal) (e := .bf16) xs0 _ _ _ _ (ValueIdx.ix4 h c i j) (by intro k; fin_cases k <;> simp)).trans (H.kq h c i j)
  t := ⟨R2.of5 (n := 64) (m := 128) _ fun i j => (ld_at (F := Ideal) (e := .bf16) xs1 _ _ _ _ (ValueIdx.ix5 h c 0 i j) (by intro k; fin_cases k <;> simp)).trans ((H.t h c).h0 i j),
    R2.of5 (n := 64) (m := 128) _ fun i j => (ld_at (F := Ideal) (e := .bf16) xs1 _ _ _ _ (ValueIdx.ix5 h c 1 i j) (by intro k; fin_cases k <;> simp)).trans ((H.t h c).h1 i j),
    R2.of5 (n := 64) (m := 128) _ fun i j => (ld_at (F := Ideal) (e := .bf16) xs1 _ _ _ _ (ValueIdx.ix5 h c 2 i j) (by intro k; fin_cases k <;> simp)).trans ((H.t h c).h2 i j)⟩
  a := ⟨R2.of5 (n := 64) (m := 128) _ fun i j => (ld_at (F := Ideal) (e := .bf16) xs2 _ _ _ _ (ValueIdx.ix5 h c 0 i j) (by intro k; fin_cases k <;> simp)).trans ((H.a h c).h0 i j),
    R2.of5 (n := 64) (m := 128) _ fun i j => (ld_at (F := Ideal) (e := .bf16) xs2 _ _ _ _ (ValueIdx.ix5 h c 1 i j) (by intro k; fin_cases k <;> simp)).trans ((H.a h c).h1 i j),
    R2.of5 (n := 64) (m := 128) _ fun i j => (ld_at (F := Ideal) (e := .bf16) xs2 _ _ _ _ (ValueIdx.ix5 h c 2 i j) (by intro k; fin_cases k <;> simp)).trans ((H.a h c).h2 i j)⟩
  kd0 := R2.of5 (n := 96) (m := 128) _ fun i j => (ld_at (F := Ideal) (e := .bf16) xs3 _ _ _ _ (ValueIdx.ix5 h c 0 i j) (by intro k; fin_cases k <;> simp)).trans (H.kd0 h c i j)
  kd1 := R2.of5 (n := 96) (m := 128) _ fun i j => (ld_at (F := Ideal) (e := .bf16) xs3 _ _ _ _ (ValueIdx.ix5 h c 1 i j) (by intro k; fin_cases k <;> simp)).trans (H.kd1 h c i j)
  dec := R2.of4 (n := 96) (m := 128) _ fun i j => (ld_at (F := Ideal) (e := .f32) xs4 _ _ _ _ (ValueIdx.ix4 h c i j) (by intro k; fin_cases k <;> simp)).trans (H.dec h c i j)
  v := R2.of4 (n := 64) (m := 128) _ fun i j => (ld_at (F := Ideal) (e := .bf16) x7 _ _ _ _ (ValueIdx.ix4 0 h ⟨64 * c.val + i.val, by omega⟩ j)
    (by intro k; fin_cases k <;> simp)).trans (hv h ⟨64 * c.val + i.val, by omega⟩ j)
  b := by
    have h0 := (R2.of4 (n := 10) (m := 128) (f := B) Facts₀.shapeCasts_S1x1x10x128_S10x128 (x := (recOf s x7 x8 xs0 xs1 xs2 xs3 xs4).b) fun i j =>
      (ld_at (F := Ideal) (e := .f32) x8 _ _ _ _ (ValueIdx.ix4 0 0 i j) (by intro k; fin_cases k <;> simp)).trans (hb i j))
    have h1 := (h0.transpose Facts₀.transposes_S10x128_p1_0_S128x10).slice (n' := 64) (m' := 1) (64 * c.val) h.val (K.slicesBeta h c)
    exact (show R2 ((recOf s x7 x8 xs0 xs1 xs2 xs3 xs4).bcol h c) _ from h1).congr fun i _ j hj => by
      rw [show j = 0 by omega, Nat.add_zero]

end Kda
-- ==== Proof.Kern.Inputs.lean ====
/-
  The blocks a point stages, over the reals, from the launched arrays.
-/
module

public import proofs.«01_k».proof.Proof.Kern.Blocks
public import proofs.«01_k».proof.Proof.Kern.Host
public import proofs.«01_k».proof.Proof.Math.Step

@[expose] public section

set_option maxRecDepth 16384

noncomputable section

namespace Kda

open Idealize.ShloMosaic Idealize.ShloMosaic.TcCoe Idealize.ShloMosaic.Tactic
open Idealize.SL Idealize.SL.Sem Cert.KernelIdeal Cert.KernelIdeal.Gen

/-- The reals a launch's arguments hold: codes and scales of queries and keys, values, gates, write strengths and states; head and position come before the token. -/
structure Data where
  cq : ℕ → ℕ → ℕ → ℕ → ℝ
  eq : ℕ → ℕ → ℕ → ℕ → ℕ
  ck : ℕ → ℕ → ℕ → ℕ → ℝ
  ek : ℕ → ℕ → ℕ → ℕ → ℕ
  v : ℕ → ℕ → ℕ → ℕ → ℝ
  g : ℕ → ℕ → ℕ → ℕ → ℝ
  b : ℕ → ℕ → ℕ → ℝ
  s : ℕ → ℕ → ℕ → ℕ → ℝ

/-- The arrays hold these reals. -/
structure Data.Rep (D : Data) (a0 : FVec Ideal S10x3072x20x96 .f32) (a1 : IVec S10x3072x20x3 8) (a2 : FVec Ideal S10x3072x20x96 .f32) (a3 : IVec S10x3072x20x3 8)
    (a4 : FVec Ideal S10x3072x20x128 .bf16) (a5 : FVec Ideal S10x3072x20x96 .f32) (a6 : FVec Ideal S10x3072x20 .f32) (a7 : FVec Ideal S10x20x96x128 .f32) : Prop where
  cq : ∀ (b : Fin 10) (t : Fin 3072) (h : Fin 20) (d : Fin 96), a0 (ValueIdx.ix4 b t h d) = ((D.cq b h d t : ℝ) : EReal)
  eq : ∀ (b : Fin 10) (t : Fin 3072) (h : Fin 20) (i : Fin 3), BitVec.toNat (w := 8) (a1 (ValueIdx.ix4 b t h i)) = D.eq b h i t ∧ 1 ≤ D.eq b h i t ∧ D.eq b h i t ≤ 254
  ck : ∀ (b : Fin 10) (t : Fin 3072) (h : Fin 20) (d : Fin 96), a2 (ValueIdx.ix4 b t h d) = ((D.ck b h d t : ℝ) : EReal)
  ek : ∀ (b : Fin 10) (t : Fin 3072) (h : Fin 20) (i : Fin 3), BitVec.toNat (w := 8) (a3 (ValueIdx.ix4 b t h i)) = D.ek b h i t ∧ 1 ≤ D.ek b h i t ∧ D.ek b h i t ≤ 254
  v : ∀ (b : Fin 10) (t : Fin 3072) (h : Fin 20) (v : Fin 128), a4 (ValueIdx.ix4 b t h v) = ((D.v b h t v : ℝ) : EReal)
  g : ∀ (b : Fin 10) (t : Fin 3072) (h : Fin 20) (d : Fin 96), a5 (ValueIdx.ix4 b t h d) = ((D.g b h d t : ℝ) : EReal)
  b : ∀ (b : Fin 10) (t : Fin 3072) (h : Fin 20), a6 (ValueIdx.ix3 b t h) = ((D.b b h t : ℝ) : EReal)
  s : ∀ (b : Fin 10) (h : Fin 20) (d : Fin 96) (v : Fin 128), a7 (ValueIdx.ix4 b h d v) = ((D.s b h d v : ℝ) : EReal)

/-- A step's tokens of its heads. -/
def cut {α : Type} (f : ℕ → ℕ → ℕ → ℕ → α) (u : ℕ) : ℕ → ℕ → ℕ → α := fun h d s => f (u / 48) (10 * (u / 24 % 2) + h) d (128 * (u % 24) + s)
/-- A step's write strengths. -/
def cutB (f : ℕ → ℕ → ℕ → ℝ) (u : ℕ) : ℕ → ℕ → ℝ := fun h s => f (u / 48) (10 * (u / 24 % 2) + h) (128 * (u % 24) + s)
/-- A step's values. -/
def cutV (f : ℕ → ℕ → ℕ → ℕ → ℝ) (u : ℕ) : ℕ → ℕ → ℕ → ℝ := fun h s v => f (u / 48) (10 * (u / 24 % 2) + h) (128 * (u % 24) + s) v

/-! ### The integer arithmetic of the position mask -/

theorem fdiv_at (x : IVec S128x128 32) (i : S128x128.Idx) (a : Fin 128) (h : x i = BitVec.ofNat 32 a.val) : fdiv x i = BitVec.ofNat 32 (a.val / 64) := by
  have key : ∀ a : Fin 128, fdiv (fun _ => BitVec.ofNat 32 a.val) (ValueIdx.ix2 0 0) = BitVec.ofNat 32 (a.val / 64) := by decide +kernel
  rw [← key a, ← h]
  rfl

theorem fdiv_rows (i : S128x128.Idx) (d : Fin 2) (a : Fin 128) (h : (i d).val = a.val) : fdiv (iotaInDim S128x128 32 d) i = BitVec.ofNat 32 (a.val / 64) :=
  fdiv_at _ i a (by rw [← h]; rfl)

/-- Whether two positions lie in the same chunk, the first no later. -/
theorem word_le : ∀ a b : Fin 128, (IntOp.andi (IntOp.cmpi .eq (BitVec.ofNat 32 (a.val / 64)) (BitVec.ofNat 32 (b.val / 64))) (IntOp.cmpi .sle (BitVec.ofNat 32 a.val) (BitVec.ofNat 32 b.val)))
    = if a.val / 64 = b.val / 64 ∧ a.val ≤ b.val then 1#1 else 0#1 := by decide +kernel

/-- Whether two positions lie in the same chunk, the first later. -/
theorem word_gt : ∀ a b : Fin 128, (IntOp.andi (IntOp.cmpi .eq (BitVec.ofNat 32 (a.val / 64)) (BitVec.ofNat 32 (b.val / 64))) (IntOp.cmpi .sgt (BitVec.ofNat 32 a.val) (BitVec.ofNat 32 b.val)))
    = if a.val / 64 = b.val / 64 ∧ b.val < a.val then 1#1 else 0#1 := by decide +kernel

theorem mask_le (a b : Fin 128) : (andi same (cmpi .sle (iotaInDim S128x128 32 0) (iotaInDim S128x128 32 1))) (ValueIdx.ix2 a b)
    = if a.val / 64 = b.val / 64 ∧ a.val ≤ b.val then 1#1 else 0#1 := by
  rw [← word_le a b, ← fdiv_rows (ValueIdx.ix2 a b) 0 a rfl, ← fdiv_rows (ValueIdx.ix2 a b) 1 b rfl]
  rfl

theorem mask_gt (a b : Fin 128) : (andi same (cmpi .sgt (iotaInDim S128x128 32 0) (iotaInDim S128x128 32 1))) (ValueIdx.ix2 a b)
    = if a.val / 64 = b.val / 64 ∧ b.val < a.val then 1#1 else 0#1 := by
  rw [← word_gt a b, ← fdiv_rows (ValueIdx.ix2 a b) 0 a rfl, ← fdiv_rows (ValueIdx.ix2 a b) 1 b rfl]
  rfl

theorem bit_real (P : Prop) [Decidable P] : (((if P then 1#1 else 0#1 : BitVec 1).toNat : ℝ) : EReal) = (((if P then 1 else 0 : ℝ)) : EReal) := by
  split <;> simp

variable {D : Data} (m : (ℓ : Loc nD τ sig) → Buf (Elt Ideal) ℓ) (c : Dev nD)

theorem v24_at (i : Fin 128) (j : Fin 256) : (V m c main_v24 : FVec Ideal S128x256 .bf16) (ValueIdx.ix2 i j) = ((cumMat i j : ℝ) : EReal) := by
  rw [V_main_v24]
  have hi : i.val % 128 = i.val := by omega
  show (((BitVec.toNat (w := 1) (concatenate S128x256 1 [⟨S128x128, andi same (cmpi .sle (iotaInDim S128x128 32 0) (iotaInDim S128x128 32 1))⟩,
    ⟨S128x128, andi same (cmpi .sgt (iotaInDim S128x128 32 0) (iotaInDim S128x128 32 1))⟩] concatenates_S128x128_S128x128_S128x256_d1 (ValueIdx.ix2 i j))) : ℝ) : EReal) = _
  by_cases hj : j.val < 128
  · rw [concatenate_pair_apply_left (t := S128x256) (s₁ := S128x128) (s₂ := S128x128) 1 _ _ _ (ValueIdx.ix2 i j) rfl (ValueIdx.ix2 i ⟨j.val, hj⟩) (by intro k; fin_cases k <;> rfl), mask_le, bit_real]
    unfold cumMat
    rw [if_pos hj, hi]
  · have hj' : j.val - 128 < 128 := by omega
    rw [concatenate_pair_apply_right (t := S128x256) (s₁ := S128x128) (s₂ := S128x128) 1 _ _ _ (ValueIdx.ix2 i j) rfl rfl (ValueIdx.ix2 i ⟨j.val - 128, hj'⟩)
      (by intro k hk; fin_cases k; · rfl
          · exact absurd rfl hk) ((congrArg₂ (· + ·) (rfl : _ = j.val - 128) (rfl : _ = 128)).trans (by omega : j.val - 128 + 128 = j.val)), mask_gt, bit_real]
    unfold cumMat
    rw [if_neg hj, hi]

theorem cum_at (i : Fin 384) (j : Fin 256) : (V m c main_v25 : FVec Ideal S384x256 .bf16) (ValueIdx.ix2 i j) = ((cumMat i j : ℝ) : EReal) := by
  rw [V_main_v25]
  have hm : cumMat i j = cumMat (i.val % 128) j := by unfold cumMat; rw [Nat.mod_mod]
  have hr : i.val % 128 < 128 := Nat.mod_lt _ (by norm_num)
  rw [hm]
  refine Eq.trans ?_ (v24_at m c ⟨i.val % 128, hr⟩ j)
  rcases (by omega : i.val / 128 = 0 ∨ i.val / 128 = 1 ∨ i.val / 128 = 2) with h | h | h
  · exact concatenate_apply_piece (t := S384x256) 0 _ _ _ 0 (by simp) S128x256 _ rfl rfl 0 rfl (ValueIdx.ix2 ⟨i.val % 128, hr⟩ j)
      (by intro k hk; fin_cases k; · exact absurd rfl hk
          · rfl) (by show 0 + i.val % 128 = i.val; omega)
  · exact concatenate_apply_piece (t := S384x256) 0 _ _ _ 1 (by simp) S128x256 _ rfl rfl 128 rfl (ValueIdx.ix2 ⟨i.val % 128, hr⟩ j)
      (by intro k hk; fin_cases k; · exact absurd rfl hk
          · rfl) (by show 128 + i.val % 128 = i.val; omega)
  · exact concatenate_apply_piece (t := S384x256) 0 _ _ _ 2 (by simp) S128x256 _ rfl rfl 256 rfl (ValueIdx.ix2 ⟨i.val % 128, hr⟩ j)
      (by intro k hk; fin_cases k; · exact absurd rfl hk
          · rfl) (by show 256 + i.val % 128 = i.val; omega)

variable (R : D.Rep (arg m c main_arg0) (arg m c main_arg1) (arg m c main_arg2) (arg m c main_arg3) (arg m c main_arg4) (arg m c main_arg5) (arg m c main_arg6) (arg m c main_arg7))
include R

theorem v2_at (b : Fin 10) (h : Fin 20) (d : Fin 96) (t : Fin 3072) : (V m c main_v2 : FVec Ideal S10x20x96x3072 .fp8e4m3) (ValueIdx.ix4 b h d t) = ((D.cq b h d t : ℝ) : EReal) := by
  rw [V_main_v2]
  exact (transpose_apply _ _ _ _ (ValueIdx.ix4 b t h d) (by intro k; fin_cases k <;> rfl)).trans (R.cq b t h d)
theorem v3_at (b : Fin 10) (h : Fin 20) (d : Fin 96) (t : Fin 3072) : (V m c main_v3 : FVec Ideal S10x20x96x3072 .fp8e4m3) (ValueIdx.ix4 b h d t) = ((D.ck b h d t : ℝ) : EReal) := by
  rw [V_main_v3]
  exact (transpose_apply _ _ _ _ (ValueIdx.ix4 b t h d) (by intro k; fin_cases k <;> rfl)).trans (R.ck b t h d)
theorem v4_at (b : Fin 10) (h : Fin 20) (d : Fin 96) (t : Fin 3072) : (V m c main_v4 : FVec Ideal S10x20x96x3072 .f32) (ValueIdx.ix4 b h d t) = ((D.g b h d t : ℝ) : EReal) := by
  rw [V_main_v4]
  exact (transpose_apply _ _ _ _ (ValueIdx.ix4 b t h d) (by intro k; fin_cases k <;> rfl)).trans (R.g b t h d)
theorem v5_at (b : Fin 10) (h : Fin 20) (t : Fin 3072) (v : Fin 128) : (V m c main_v5 : FVec Ideal S10x20x3072x128 .bf16) (ValueIdx.ix4 b h t v) = ((D.v b h t v : ℝ) : EReal) := by
  rw [V_main_v5]
  exact (transpose_apply _ _ _ _ (ValueIdx.ix4 b t h v) (by intro k; fin_cases k <;> rfl)).trans (R.v b t h v)
theorem v7_at (b : Fin 10) (p : Fin 2) (h : Fin 10) (t : Fin 3072) : (V m c main_v7 : FVec Ideal S10x2x10x3072 .f32) (ValueIdx.ix4 b p h t) = ((D.b b (10 * p + h) t : ℝ) : EReal) := by
  rw [V_main_v7]
  refine (shapeCast_apply _ _ _ (ValueIdx.ix3 b (⟨10 * p.val + h.val, by omega⟩ : Fin 20) t) ?_).trans ?_
  · rw [Shape.rowMajor_val_three, Shape.rowMajor_val_four]; simp; ring
  · exact (transpose_apply _ _ _ _ (ValueIdx.ix3 b t (⟨10 * p.val + h.val, by omega⟩ : Fin 20)) (by intro k; fin_cases k <;> rfl)).trans (R.b b t ⟨10 * p.val + h.val, by omega⟩)
theorem v10_at (b : Fin 10) (p : Fin 2) (i : Fin 3) (h : Fin 10) (t : Fin 3072) :
    (V m c main_v10 : IVec S10x2x3x10x3072 8) (ValueIdx.ix5 b p i h t) = (arg m c main_arg1 : IVec S10x3072x20x3 8) (ValueIdx.ix4 b t (⟨10 * p.val + h.val, by omega⟩ : Fin 20) i) := by
  rw [V_main_v10]
  refine (transpose_apply _ _ _ _ (ValueIdx.ix5 b i p h t) (by intro k; fin_cases k <;> rfl)).trans ?_
  refine (shapeCast_apply _ _ _ (ValueIdx.ix4 b i (⟨10 * p.val + h.val, by omega⟩ : Fin 20) t) ?_).trans ?_
  · rw [Shape.rowMajor_val_four, Shape.rowMajor_val_five]; simp; ring
  · exact (transpose_apply _ _ _ _ (ValueIdx.ix4 b t (⟨10 * p.val + h.val, by omega⟩ : Fin 20) i) (by intro k; fin_cases k <;> rfl))
theorem v13_at (b : Fin 10) (p : Fin 2) (i : Fin 3) (h : Fin 10) (t : Fin 3072) :
    (V m c main_v13 : IVec S10x2x3x10x3072 8) (ValueIdx.ix5 b p i h t) = (arg m c main_arg3 : IVec S10x3072x20x3 8) (ValueIdx.ix4 b t (⟨10 * p.val + h.val, by omega⟩ : Fin 20) i) := by
  rw [V_main_v13]
  refine (transpose_apply _ _ _ _ (ValueIdx.ix5 b i p h t) (by intro k; fin_cases k <;> rfl)).trans ?_
  refine (shapeCast_apply _ _ _ (ValueIdx.ix4 b i (⟨10 * p.val + h.val, by omega⟩ : Fin 20) t) ?_).trans ?_
  · rw [Shape.rowMajor_val_four, Shape.rowMajor_val_five]; simp; ring
  · exact (transpose_apply _ _ _ _ (ValueIdx.ix4 b t (⟨10 * p.val + h.val, by omega⟩ : Fin 20) i) (by intro k; fin_cases k <;> rfl))

/-- The blocks a point's head data are computed from. -/
theorem inBlk (t : Fin cfg0.N) : InBlk (iblk m c 0 t) (iblk m c 1 t) (iblk m c 2 t) (iblk m c 3 t) (iblk m c 4 t) (iblk m c 5 t) (iblk m c 6 t)
    (cut D.cq (stepIn t.val)) (cut D.ck (stepIn t.val)) (cut D.g (stepIn t.val)) (cut D.eq (stepIn t.val)) (cut D.ek (stepIn t.val)) (cutB D.b (stepIn t.val)) := by
  have hN : t.val < 481 := lt_of_lt_of_eq t.isLt (show cfg0.N = 481 from N_0)
  have hu : stepIn t.val < 480 := by unfold stepIn; omega
  generalize hU : stepIn t.val = u at hu
  have hb : u / 48 < 10 := by omega
  have hm : u / 24 % 2 < 2 := by omega
  have hn : u % 24 < 24 := by omega
  exact {
    q := fun h d s => (iblk_0 m c t 0 h d s ⟨u / 48, hb⟩ ⟨10 * (u / 24 % 2) + h.val, by omega⟩ d ⟨128 * (u % 24) + s.val, by omega⟩
      (by simp [hU]) (by simp [hU]; ring) rfl (by simp [hU]; ring)).trans (v2_at m c R _ _ _ _)
    k := fun h d s => (iblk_2 m c t 0 h d s ⟨u / 48, hb⟩ ⟨10 * (u / 24 % 2) + h.val, by omega⟩ d ⟨128 * (u % 24) + s.val, by omega⟩
      (by simp [hU]) (by simp [hU]; ring) rfl (by simp [hU]; ring)).trans (v3_at m c R _ _ _ _)
    g := fun h d s => (iblk_4 m c t 0 h d s ⟨u / 48, hb⟩ ⟨10 * (u / 24 % 2) + h.val, by omega⟩ d ⟨128 * (u % 24) + s.val, by omega⟩
      (by simp [hU]) (by simp [hU]; ring) rfl (by simp [hU]; ring)).trans (v4_at m c R _ _ _ _)
    b := fun h s => (iblk_5 m c t 0 0 h s ⟨u / 48, hb⟩ ⟨u / 24 % 2, hm⟩ h ⟨128 * (u % 24) + s.val, by omega⟩
      (by simp [hU]) (by simp [hU]) rfl (by simp [hU]; ring)).trans (v7_at m c R _ _ _ _)
    sq := fun i h s => by
      have e := (iblk_1 m c t 0 0 i h s ⟨u / 48, hb⟩ ⟨u / 24 % 2, hm⟩ i h ⟨128 * (u % 24) + s.val, by omega⟩
        (by simp [hU]) (by simp [hU]) rfl rfl (by simp [hU]; ring)).trans (v10_at m c R _ _ _ _ _)
      have := R.eq ⟨u / 48, hb⟩ ⟨128 * (u % 24) + s.val, by omega⟩ ⟨10 * (u / 24 % 2) + h.val, by omega⟩ i
      exact ⟨(congrArg (BitVec.toNat (w := 8)) e).trans this.1, this.2⟩
    sk := fun i h s => by
      have e := (iblk_3 m c t 0 0 i h s ⟨u / 48, hb⟩ ⟨u / 24 % 2, hm⟩ i h ⟨128 * (u % 24) + s.val, by omega⟩
        (by simp [hU]) (by simp [hU]) rfl rfl (by simp [hU]; ring)).trans (v13_at m c R _ _ _ _ _)
      have := R.ek ⟨u / 48, hb⟩ ⟨128 * (u % 24) + s.val, by omega⟩ ⟨10 * (u / 24 % 2) + h.val, by omega⟩ i
      exact ⟨(congrArg (BitVec.toNat (w := 8)) e).trans this.1, this.2⟩
    cum := fun i j => (iblk_6 m c t i j i j rfl rfl).trans (cum_at m c i j) }

/-- The values a point reads. -/
theorem vBlk (t : Fin cfg0.N) (h : Fin 10) (s v : Fin 128) : (iblk m c 7 t : Vec Ideal S1x10x128x128 .bf16) (ValueIdx.ix4 0 h s v) = ((cutV D.v (t.val - 1) h s v : ℝ) : EReal) := by
  have hN : t.val < 481 := lt_of_lt_of_eq t.isLt (show cfg0.N = 481 from N_0)
  exact (iblk_7 m c t 0 h s v ⟨(t.val - 1) / 48, by omega⟩ ⟨10 * ((t.val - 1) / 24 % 2) + h.val, by omega⟩ ⟨128 * ((t.val - 1) % 24) + s.val, by omega⟩ v
      (by simp) (by simp; ring) (by simp; ring) rfl).trans (v5_at m c R _ _ _ _)

/-- The write strengths a point reads. -/
theorem bBlk (t : Fin cfg0.N) (h : Fin 10) (s : Fin 128) : (iblk m c 8 t : Vec Ideal S1x1x10x128 .f32) (ValueIdx.ix4 0 0 h s) = ((cutB D.b (t.val - 1) h s : ℝ) : EReal) := by
  have hN : t.val < 481 := lt_of_lt_of_eq t.isLt (show cfg0.N = 481 from N_0)
  exact (iblk_8 m c t 0 0 h s ⟨(t.val - 1) / 48, by omega⟩ ⟨(t.val - 1) / 24 % 2, by omega⟩ h ⟨128 * ((t.val - 1) % 24) + s.val, by omega⟩
      (by simp) (by simp) rfl (by simp; ring)).trans (v7_at m c R _ _ _ _)

/-- The initial states a point reads. -/
theorem sBlk (t : Fin cfg0.N) (h : Fin 10) (d : Fin 96) (v : Fin 128) : (iblk m c 9 t : Vec Ideal S1x10x96x128 .f32) (ValueIdx.ix4 0 h d v)
    = ((D.s ((t.val - 1) / 48) (10 * ((t.val - 1) / 24 % 2) + h) d v : ℝ) : EReal) := by
  have hN : t.val < 481 := lt_of_lt_of_eq t.isLt (show cfg0.N = 481 from N_0)
  refine (iblk_9 m c t 0 h d v ⟨(t.val - 1) / 48, by omega⟩ ⟨10 * ((t.val - 1) / 24 % 2) + h.val, by omega⟩ d v
      (by simp) (by simp; ring) rfl rfl).trans ?_
  rw [V_main_arg7]
  exact R.s _ _ _ _

end Kda
-- ==== Proof.Math.Chunk.lean ====
/-
  The chunked recurrence is the token recurrence: the algebra over the reals.
-/
module

public import proofs.«01_k».proof.Proof.Math.Step

@[expose] public section

noncomputable section

namespace Kda

open Finset (range)

/-! ### Inverses -/

theorem sub_succ {N : ℕ → ℕ → ℝ} (h : ∀ r < 32, ∀ c < 32, r ≤ c → N r c = 0) (j : ℕ) (hj : j < 32) (r : ℕ) (hr : r < 32) (c : ℕ) :
    sub N (j + 1) r c = sub N j r c - N r j * sub N j j c := by
  simp only [sub]
  by_cases hc : j < 8 * (r / 8) + 7
  · rw [if_pos hc]
  · rw [if_neg hc, h r hr j hj (by omega)]; ring

theorem sub_sum {N : ℕ → ℕ → ℝ} (h : ∀ r < 32, ∀ c < 32, r ≤ c → N r c = 0) (r : ℕ) (hr : r < 32) (c : ℕ) (j : ℕ) (hj : j ≤ 32) :
    sub N j r c = (if c = r then 1 else 0) - ∑ i ∈ range j, N r i * sub N i i c := by
  induction j with
  | zero => simp [sub]
  | succ j ih => rw [sub_succ h j (by omega) r hr, ih (by omega), Finset.sum_range_succ]; ring

theorem sub_stable {N : ℕ → ℕ → ℝ} (h : ∀ r < 32, ∀ c < 32, r ≤ c → N r c = 0) (r : ℕ) (hr : r < 32) (c : ℕ) :
    sub N 31 r c = sub N r r c := by
  have : ∀ m, r + m ≤ 31 → sub N (r + m) r c = sub N r r c := by
    intro m
    induction m with
    | zero => intro _; rfl
    | succ m ih => intro hm; rw [← Nat.add_assoc, sub_succ h _ (by omega) r hr, ih (by omega), h r hr (r + m) (by omega) (by omega)]; ring
  have := this (31 - r) (by omega)
  rwa [Nat.add_sub_cancel' (by omega)] at this

/-- Forward substitution inverts one plus a strictly lower matrix. -/
theorem sub_inv {N : ℕ → ℕ → ℝ} (h : ∀ r < 32, ∀ c < 32, r ≤ c → N r c = 0) (r : ℕ) (hr : r < 32) (c : ℕ) :
    sub N 31 r c + ∑ k ∈ range 32, N r k * sub N 31 k c = if c = r then 1 else 0 := by
  have e : sub N 32 r c = sub N 31 r c := by
    rw [sub_succ h 31 (by omega) r hr, h r hr 31 (by omega) (by omega)]; ring
  have s := sub_sum h r hr c 32 le_rfl
  rw [← e, s]
  have : ∑ k ∈ range 32, N r k * sub N 31 k c = ∑ i ∈ range 32, N r i * sub N i i c :=
    Finset.sum_congr rfl fun k hk => by rw [sub_stable h k (Finset.mem_range.1 hk)]
  rw [this]; ring

/-- A left inverse's rows applied to a vector give it back. -/
theorem inv_apply {n : ℕ} {N X : ℕ → ℕ → ℝ} (h : ∀ r < n, ∀ c < n, X r c + ∑ k ∈ range n, N r k * X k c = if c = r then 1 else 0) (w : ℕ → ℝ) (r : ℕ) (hr : r < n) :
    ∑ m ∈ range n, X r m * w m + ∑ k ∈ range n, N r k * ∑ m ∈ range n, X k m * w m = w r := by
  have e : ∑ k ∈ range n, N r k * ∑ m ∈ range n, X k m * w m = ∑ m ∈ range n, (∑ k ∈ range n, N r k * X k m) * w m := by
    simp_rw [Finset.mul_sum, Finset.sum_mul]
    rw [Finset.sum_comm]
    exact Finset.sum_congr rfl fun m _ => Finset.sum_congr rfl fun k _ => by ring
  rw [e, ← Finset.sum_add_distrib]
  have : ∀ m ∈ range n, X r m * w m + (∑ k ∈ range n, N r k * X k m) * w m = if m = r then w m else 0 := fun m hm => by
    rw [← add_mul, h r hr m (Finset.mem_range.1 hm)]; split_ifs <;> ring
  rw [Finset.sum_congr rfl this, Finset.sum_ite_eq' (range n) r, if_pos (Finset.mem_range.2 hr)]

/-- The block inverse inverts one plus a strictly lower matrix of 64 rows. -/
theorem inv2_inv {M : ℕ → ℕ → ℝ} (h : ∀ r < 64, ∀ c < 64, r ≤ c → M r c = 0) (i : ℕ) (hi : i < 64) (l : ℕ) (hl : l < 64) :
    inv2 M i l + ∑ k ∈ range 64, M i k * inv2 M k l = if l = i then 1 else 0 := by
  have hA : ∀ r < 32, ∀ c < 32, r ≤ c → M r c = 0 := fun r hr c hc hrc => h r (by omega) c (by omega) hrc
  have hC : ∀ r < 32, ∀ c < 32, r ≤ c → (fun r c => M (32 + r) (32 + c)) r c = 0 := fun r hr c hc hrc => h _ (by omega) _ (by omega) (by omega)
  rw [show (64 : ℕ) = 32 + 32 from rfl, Finset.sum_range_add]
  have top : ∀ k ∈ range 32, M i k * inv2 M k l = M i k * (if l < 32 then sub M 31 k l else 0) := fun k hk => by
    unfold inv2; rw [if_pos (Finset.mem_range.1 hk)]
  rw [Finset.sum_congr rfl top]
  by_cases c1 : i < 32
  · have bot : ∑ k ∈ range 32, M i (32 + k) * inv2 M (32 + k) l = 0 := Finset.sum_eq_zero fun k hk => by
      have := Finset.mem_range.1 hk
      rw [h i hi (32 + k) (by omega) (by omega), zero_mul]
    rw [bot, add_zero]
    unfold inv2
    rw [if_pos c1]
    by_cases c2 : l < 32
    · simp only [if_pos c2]; exact sub_inv hA i c1 l
    · simp only [if_neg c2, mul_zero, Finset.sum_const_zero, add_zero]; rw [if_neg (by omega)]
  · obtain ⟨j, rfl⟩ := Nat.exists_eq_add_of_le (Nat.le_of_not_lt c1)
    have hj : j < 32 := by omega
    have bot : ∀ k ∈ range 32, M (32 + j) (32 + k) * inv2 M (32 + k) l = M (32 + j) (32 + k) *
        (if l < 32 then 0 - ∑ m ∈ range 32, sub (fun r c => M (32 + r) (32 + c)) 31 k m * ∑ k' ∈ range 32, M (32 + m) k' * sub M 31 k' l
          else sub (fun r c => M (32 + r) (32 + c)) 31 k (l - 32)) := fun k _ => by
      unfold inv2; rw [if_neg (by omega), Nat.add_sub_cancel_left]
    rw [Finset.sum_congr rfl bot]
    unfold inv2
    rw [if_neg c1, Nat.add_sub_cancel_left]
    by_cases c2 : l < 32
    · simp only [if_pos c2]
      rw [if_neg (by omega)]
      have := inv_apply (fun r hr c hc => sub_inv hC r hr c) (fun m => ∑ k' ∈ range 32, M (32 + m) k' * sub M 31 k' l) j hj
      simp only [zero_sub, mul_neg, Finset.sum_neg_distrib]
      linarith
    · simp only [if_neg c2, mul_zero, Finset.sum_const_zero, zero_add]
      rw [sub_inv hC j hj (l - 32)]
      have : (l - 32 = j) ↔ (l = 32 + j) := by omega
      simp only [this]

/-! ### The token recurrence -/

/-- A token's new values, before the write strength: against the decayed state. -/
def tokU (K G V : ℕ → ℕ → ℝ) (B : ℕ → ℝ) (S : ℕ → ℕ → ℝ) (t v : ℕ) : ℝ :=
  B t * (V t v - ∑ d ∈ range 96, K d t * (Real.exp (G d t) * S d v))
/-- The state after some tokens. -/
def tokS (K G V : ℕ → ℕ → ℝ) (B : ℕ → ℝ) (S : ℕ → ℕ → ℝ) : ℕ → ℕ → ℕ → ℝ
  | 0 => S
  | t + 1 => fun d v => Real.exp (G d t) * tokS K G V B S t d v + K d t * tokU K G V B (tokS K G V B S t) t v
/-- A token's output. -/
def tokO (Q K G V : ℕ → ℕ → ℝ) (B : ℕ → ℝ) (S : ℕ → ℕ → ℝ) (t v : ℕ) : ℝ :=
  scl * ∑ d ∈ range 96, Q d t * tokS K G V B S (t + 1) d v

theorem tokS_add (K G V : ℕ → ℕ → ℝ) (B : ℕ → ℝ) (S : ℕ → ℕ → ℝ) (a i : ℕ) :
    tokS K G V B S (a + i) = tokS (fun d t => K d (a + t)) (fun d t => G d (a + t)) (fun t v => V (a + t) v) (fun t => B (a + t)) (tokS K G V B S a) i := by
  induction i with
  | zero => rfl
  | succ i ih => funext d v; rw [← Nat.add_assoc]; simp only [tokS]; rw [ih]; rfl

theorem tokO_add (Q K G V : ℕ → ℕ → ℝ) (B : ℕ → ℝ) (S : ℕ → ℕ → ℝ) (a i v : ℕ) :
    tokO Q K G V B S (a + i) v = tokO (fun d t => Q d (a + t)) (fun d t => K d (a + t)) (fun d t => G d (a + t)) (fun t v => V (a + t) v) (fun t => B (a + t)) (tokS K G V B S a) i v := by
  unfold tokO; rw [Nat.add_assoc, tokS_add]

/-- The recurrence over some tokens reads only those tokens. -/
theorem tokS_congr {K K' G G' V V' : ℕ → ℕ → ℝ} {B B' : ℕ → ℝ} {S S' : ℕ → ℕ → ℝ} {n : ℕ} (hK : ∀ t < n, ∀ d < 96, K d t = K' d t)
    (hG : ∀ t < n, ∀ d < 96, G d t = G' d t) (hV : ∀ t < n, ∀ v < 128, V t v = V' t v) (hB : ∀ t < n, B t = B' t) (hS : ∀ d < 96, ∀ v < 128, S d v = S' d v) :
    ∀ t ≤ n, ∀ d < 96, ∀ v < 128, tokS K G V B S t d v = tokS K' G' V' B' S' t d v := by
  intro t
  induction t with
  | zero => intro _ d hd v hv; exact hS d hd v hv
  | succ t ih =>
    intro ht d hd v hv
    have ht' : t < n := by omega
    simp only [tokS, tokU]
    rw [ih (by omega) d hd v hv, hG t ht' d hd, hK t ht' d hd, hV t ht' v hv, hB t ht']
    rw [Finset.sum_congr rfl fun e he => by
      rw [hK t ht' e (Finset.mem_range.1 he), hG t ht' e (Finset.mem_range.1 he), ih (by omega) e (Finset.mem_range.1 he) v hv]]

theorem tokO_congr {Q Q' K K' G G' V V' : ℕ → ℕ → ℝ} {B B' : ℕ → ℝ} {S S' : ℕ → ℕ → ℝ} {n : ℕ} (hQ : ∀ t < n, ∀ d < 96, Q d t = Q' d t)
    (hK : ∀ t < n, ∀ d < 96, K d t = K' d t)
    (hG : ∀ t < n, ∀ d < 96, G d t = G' d t) (hV : ∀ t < n, ∀ v < 128, V t v = V' t v) (hB : ∀ t < n, B t = B' t) (hS : ∀ d < 96, ∀ v < 128, S d v = S' d v)
    (t : ℕ) (ht : t < n) (v : ℕ) (hv : v < 128) : tokO Q K G V B S t v = tokO Q' K' G' V' B' S' t v := by
  unfold tokO
  rw [Finset.sum_congr rfl fun e he => by
    rw [hQ t ht e (Finset.mem_range.1 he), tokS_congr hK hG hV hB hS (t + 1) ht e (Finset.mem_range.1 he) v hv]]

/-! ### One chunk -/

/-- The gates up to a token of chunk `c` are those of the chunk's first tokens. -/
theorem pre_chunk (G : ℕ → ℕ → ℝ) (d c i : ℕ) (hc : c < 2) (hi : i < 64) : pre G d (64 * c + i) = ∑ k ∈ range (i + 1), G d (64 * c + k) := by
  refine sum_window (64 * c) (i + 1) _ _ (by omega) (fun k hk => ?_) fun k hk h => ?_
  · rw [if_pos (by omega), mul_one]
  · rw [if_neg (by omega), mul_zero]

theorem suf_chunk (G : ℕ → ℕ → ℝ) (d c i : ℕ) (hc : c < 2) (hi : i < 64) :
    suf G d (64 * c + i) = pre G d (64 * c + 63) - pre G d (64 * c + i) := by
  unfold suf pre
  rw [← Finset.sum_sub_distrib]
  refine Finset.sum_congr rfl fun k hk => ?_
  have := Finset.mem_range.1 hk
  rw [← mul_sub]
  congr 1
  by_cases h1 : k / 64 = c
  · by_cases h2 : 64 * c + i < k
    · rw [if_pos (by omega), if_pos (by omega), if_neg (by omega), sub_zero]
    · rw [if_neg (by omega), if_pos (by omega), if_pos (by omega), sub_self]
  · rw [if_neg (by omega), if_neg (by omega), if_neg (by omega), sub_self]

section Chunk
variable (Q K G V : ℕ → ℕ → ℝ) (B : ℕ → ℝ) (S : ℕ → ℕ → ℝ)

/-- The state after `i` tokens, from the start's state and the new values of the tokens before. -/
theorem tokS_closed (i d v : ℕ) : tokS K G V B S i d v = Real.exp (∑ k ∈ range i, G d k) *
    (S d v + ∑ j ∈ range i, K d j * Real.exp (-∑ k ∈ range (j + 1), G d k) * tokU K G V B (tokS K G V B S j) j v) := by
  induction i with
  | zero => simp [tokS]
  | succ i ih =>
    simp only [tokS]
    rw [ih, Finset.sum_range_succ (fun j => K d j * Real.exp (-∑ k ∈ range (j + 1), G d k) * tokU K G V B (tokS K G V B S j) j v) i]
    have e1 : Real.exp (∑ k ∈ range (i + 1), G d k) * Real.exp (-∑ k ∈ range (i + 1), G d k) = 1 := by
      rw [← Real.exp_add]; simp
    have e2 : Real.exp (∑ k ∈ range (i + 1), G d k) = Real.exp (G d i) * Real.exp (∑ k ∈ range i, G d k) := by
      rw [Finset.sum_range_succ, Real.exp_add]; ring
    generalize tokU K G V B (tokS K G V B S i) i v = u
    generalize ∑ j ∈ range i, K d j * Real.exp (-∑ k ∈ range (j + 1), G d k) * tokU K G V B (tokS K G V B S j) j v = w
    generalize Real.exp (-∑ k ∈ range (i + 1), G d k) = n at *
    linear_combination (-(S d v + w)) * e2 - K d i * u * e1
end Chunk

/-- A matrix product against scaled and accumulated rows. -/
theorem sum_rows (n i : ℕ) (p : ℕ → ℝ) (S : ℕ → ℝ) (q : ℕ → ℕ → ℝ) (u : ℕ → ℝ) :
    ∑ d ∈ range n, p d * (S d + ∑ j ∈ range i, q d j * u j) = ∑ d ∈ range n, p d * S d + ∑ j ∈ range i, (∑ d ∈ range n, p d * q d j) * u j := by
  simp_rw [mul_add, Finset.sum_add_distrib, Finset.mul_sum, Finset.sum_mul]
  congr 1
  rw [Finset.sum_comm]
  exact Finset.sum_congr rfl fun j _ => Finset.sum_congr rfl fun d _ => by ring

/-- The first terms of a sum whose later terms vanish. -/
theorem sum_lt (n i : ℕ) (hi : i ≤ n) (f g : ℕ → ℝ) : ∑ k ∈ range n, (if k < i then f k else 0) * g k = ∑ k ∈ range i, f k * g k := by
  obtain ⟨r, rfl⟩ := Nat.exists_eq_add_of_le hi
  rw [Finset.sum_range_add, Finset.sum_eq_zero (s := range r), add_zero]
  · exact Finset.sum_congr rfl fun k hk => by rw [if_pos (Finset.mem_range.1 hk)]
  · intro k _; rw [if_neg (by omega), zero_mul]

section Pair
variable (Q K G V : ℕ → ℕ → ℝ) (B : ℕ → ℝ) (S : ℕ → ℕ → ℝ) (c : ℕ) (hc : c < 2)
include hc

/-- The solved rows are the tokens' new values. -/
theorem chU_eq : ∀ i < 64, ∀ v, chU (fun d i => posR K G d (64 * c + i)) (fun i k => tR K G B i (64 * c + k)) (fun i v => V (64 * c + i) v) S (fun i => B (64 * c + i)) i v
    = tokU (fun d t => K d (64 * c + t)) (fun d t => G d (64 * c + t)) (fun t v => V (64 * c + t) v) (fun t => B (64 * c + t))
      (tokS (fun d t => K d (64 * c + t)) (fun d t => G d (64 * c + t)) (fun t v => V (64 * c + t) v) (fun t => B (64 * c + t)) S i) i v := by
  intro i
  induction i using Nat.strong_induction_on with
  | _ i ih =>
  intro hi v
  have hM0 : ∀ r < 64, ∀ s < 64, chunkM (mR K G B) (64 * c) r s = if s < r then (∑ d ∈ range 96, posR K G d (64 * c + r) * negR K G d (64 * c + s)) * B (64 * c + s) else 0 := by
    intro r hr s hs
    unfold chunkM mR
    rw [show 64 * (64 * c / 64) + s = 64 * c + s by omega, show (64 * c + s) % 64 = s by omega, show (64 * c + s) / 64 = c by omega]
  have hT : ∀ r, ∀ k < 64, tR K G B r (64 * c + k) = inv2 (chunkM (mR K G B) (64 * c)) r k := by
    intro r k hk
    unfold tR chunkM
    rw [show (64 * c + k) / 64 = c by omega, show 64 * c / 64 = c by omega, show (64 * c + k) % 64 = k by omega]
  have hI := inv_apply (fun r hr s hs => inv2_inv (M := chunkM (mR K G B) (64 * c)) (fun r hr s hs h => by rw [hM0 r hr s hs, if_neg (by omega)]) r hr s hs)
    (fun k => V (64 * c + k) v - ∑ d ∈ range 96, posR K G d (64 * c + k) * S d v) i hi
  have hW : ∀ r, ∑ k ∈ range 64, tR K G B r (64 * c + k) * (V (64 * c + k) v - ∑ d ∈ range 96, posR K G d (64 * c + k) * S d v)
      = ∑ m ∈ range 64, inv2 (chunkM (mR K G B) (64 * c)) r m * (V (64 * c + m) v - ∑ d ∈ range 96, posR K G d (64 * c + m) * S d v) :=
    fun r => Finset.sum_congr rfl fun k hk => by rw [hT r k (Finset.mem_range.1 hk)]
  have hU : ∀ r, chU (fun d i => posR K G d (64 * c + i)) (fun i k => tR K G B i (64 * c + k)) (fun i v => V (64 * c + i) v) S (fun i => B (64 * c + i)) r v
      = (∑ m ∈ range 64, inv2 (chunkM (mR K G B) (64 * c)) r m * (V (64 * c + m) v - ∑ d ∈ range 96, posR K G d (64 * c + m) * S d v)) * B (64 * c + r) := fun r => by
    unfold chU; simp only; rw [hW r]
  have hS : ∑ k ∈ range 64, chunkM (mR K G B) (64 * c) i k * ∑ m ∈ range 64, inv2 (chunkM (mR K G B) (64 * c)) k m * (V (64 * c + m) v - ∑ d ∈ range 96, posR K G d (64 * c + m) * S d v)
      = ∑ k ∈ range i, (∑ d ∈ range 96, posR K G d (64 * c + i) * negR K G d (64 * c + k)) *
        chU (fun d i => posR K G d (64 * c + i)) (fun i k => tR K G B i (64 * c + k)) (fun i v => V (64 * c + i) v) S (fun i => B (64 * c + i)) k v := by
    rw [← sum_lt 64 i hi.le]
    refine Finset.sum_congr rfl fun k hk => ?_
    rw [hM0 i hi k (Finset.mem_range.1 hk), hU k]
    split_ifs <;> ring
  rw [hS] at hI
  have hw := eq_sub_of_add_eq hI
  rw [hU i, hw]
  unfold tokU
  rw [mul_comm]
  congr 1
  rw [sub_sub]
  congr 1
  have hP : ∀ d, ∀ j < 64, ∑ k ∈ range (j + 1), G d (64 * c + k) = pre G d (64 * c + j) := fun d j hj => (pre_chunk G d c j hc hj).symm
  have : ∀ d ∈ range 96, K d (64 * c + i) * (Real.exp (G d (64 * c + i)) * tokS (fun d t => K d (64 * c + t)) (fun d t => G d (64 * c + t)) (fun t v => V (64 * c + t) v) (fun t => B (64 * c + t)) S i d v)
      = posR K G d (64 * c + i) * (S d v + ∑ j ∈ range i, negR K G d (64 * c + j) *
        chU (fun d i => posR K G d (64 * c + i)) (fun i k => tR K G B i (64 * c + k)) (fun i v => V (64 * c + i) v) S (fun i => B (64 * c + i)) j v) := by
    intro d _
    rw [tokS_closed]
    rw [show posR K G d (64 * c + i) = K d (64 * c + i) * Real.exp (pre G d (64 * c + i)) from rfl, ← hP d i hi, Finset.sum_range_succ, Real.exp_add]
    rw [Finset.sum_congr (s₁ := range i) rfl fun j hj => show K d (64 * c + j) * Real.exp (-∑ k ∈ range (j + 1), G d (64 * c + k)) * _ = negR K G d (64 * c + j) * _ by
      have hj := Finset.mem_range.1 hj
      rw [hP d j (by omega), ← ih j hj (by omega) v]; rfl]
    ring
  rw [Finset.sum_congr rfl this, sum_rows]

/-- The output rows are the tokens' outputs. -/
theorem chO_eq (i : ℕ) (hi : i < 64) (v : ℕ) :
    chO (fun d i => posR Q G d (64 * c + i)) (fun i k => aR Q K G i (64 * c + k)) S
      (chU (fun d i => posR K G d (64 * c + i)) (fun i k => tR K G B i (64 * c + k)) (fun i v => V (64 * c + i) v) S (fun i => B (64 * c + i))) i v
    = tokO (fun d t => Q d (64 * c + t)) (fun d t => K d (64 * c + t)) (fun d t => G d (64 * c + t)) (fun t v => V (64 * c + t) v) (fun t => B (64 * c + t)) S i v := by
  unfold chO tokO
  congr 1
  have hP : ∀ d, ∀ j < 64, ∑ k ∈ range (j + 1), G d (64 * c + k) = pre G d (64 * c + j) := fun d j hj => (pre_chunk G d c j hc hj).symm
  have : ∀ d ∈ range 96, Q d (64 * c + i) * tokS (fun d t => K d (64 * c + t)) (fun d t => G d (64 * c + t)) (fun t v => V (64 * c + t) v) (fun t => B (64 * c + t)) S (i + 1) d v
      = posR Q G d (64 * c + i) * (S d v + ∑ j ∈ range (i + 1), negR K G d (64 * c + j) *
        chU (fun d i => posR K G d (64 * c + i)) (fun i k => tR K G B i (64 * c + k)) (fun i v => V (64 * c + i) v) S (fun i => B (64 * c + i)) j v) := by
    intro d _
    rw [tokS_closed, hP d i hi, show posR Q G d (64 * c + i) = Q d (64 * c + i) * Real.exp (pre G d (64 * c + i)) from rfl]
    rw [Finset.sum_congr (s₁ := range (i + 1)) rfl fun j hj => show K d (64 * c + j) * Real.exp (-∑ k ∈ range (j + 1), G d (64 * c + k)) * _ = negR K G d (64 * c + j) * _ by
      have hj := Finset.mem_range.1 hj
      rw [hP d j (by omega), ← chU_eq K G V B S c hc j (by omega) v]; rfl]
    ring
  rw [Finset.sum_congr rfl this, sum_rows]
  congr 1
  rw [← sum_lt 64 (i + 1) (by omega)]
  refine Finset.sum_congr rfl fun k hk => ?_
  have hk := Finset.mem_range.1 hk
  congr 1
  show (if (64 * c + k) % 64 ≤ i then ∑ d ∈ range 96, posR Q G d (64 * ((64 * c + k) / 64) + i) * negR K G d (64 * c + k) else 0) = _
  rw [show (64 * c + k) % 64 = k by omega, show (64 * c + k) / 64 = c by omega]
  by_cases h : k ≤ i
  · rw [if_pos h, if_pos (by omega)]
  · rw [if_neg h, if_neg (by omega)]

/-- The state after the chunk is the one after its tokens. -/
theorem chS_eq (d v : ℕ) :
    chS (fun d k => remR K G d (64 * c + k)) S
      (chU (fun d i => posR K G d (64 * c + i)) (fun i k => tR K G B i (64 * c + k)) (fun i v => V (64 * c + i) v) S (fun i => B (64 * c + i)))
      (fun d => Real.exp (pre G d (64 * c + 63))) d v
    = tokS (fun d t => K d (64 * c + t)) (fun d t => G d (64 * c + t)) (fun t v => V (64 * c + t) v) (fun t => B (64 * c + t)) S 64 d v := by
  unfold chS
  have hP : ∀ d, ∀ j < 64, ∑ k ∈ range (j + 1), G d (64 * c + k) = pre G d (64 * c + j) := fun d j hj => (pre_chunk G d c j hc hj).symm
  rw [tokS_closed, hP d 63 (by omega), mul_add, Finset.mul_sum]
  congr 1
  refine Finset.sum_congr rfl fun j hj => ?_
  have hj := Finset.mem_range.1 hj
  rw [hP d j hj, ← chU_eq K G V B S c hc j hj v]
  show K d (64 * c + j) * Real.exp (suf G d (64 * c + j)) * _ = _
  rw [suf_chunk G d c j hc hj, sub_eq_add_neg, Real.exp_add]
  ring
end Pair

end Kda
-- ==== Proof.Kern.ListA.lean ====
/-
  The pieces each case of the kernel body stores, as the plain functions of the blocks it loads.
-/
module

public import proofs.«01_k».proof.Proof.Kern.RunA
public import proofs.«01_k».proof.Proof.Math.Model
public import proofs.«01_k».proof.Proof.Kern.Lists

@[expose] public section

set_option maxRecDepth 16384

noncomputable section

namespace Cert.KernelIdeal.Gen

open Idealize.ShloMosaic Idealize.ShloMosaic.TcCoe Idealize.ShloMosaic.Tactic
open Idealize.SL Idealize.SL.Sem Kda

variable {F : FTy → Type} [FloatOps F] [Named F]

section Case
variable (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : cond0_0 i) (hc1 : cond0_1 i)
  (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32)

/-- The keys and queries stored in case A. -/
theorem runA_kq :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1 =
      kqList (inLoads arg1 harg1 arg2 harg2 arg3 harg3 arg4 harg4 arg5 harg5 arg6 harg6 arg7 harg7 x0 x1 x2 x3 x4 x5 x6) ++ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1.drop 20 := by sl_kernel_rfl

/-- The parts of the inverses stored in case A. -/
theorem runA_t :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1 =
      tList (inLoads arg1 harg1 arg2 harg2 arg3 harg3 arg4 harg4 arg5 harg5 arg6 harg6 arg7 harg7 x0 x1 x2 x3 x4 x5 x6) ++ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1.drop 60 := by sl_kernel_rfl

/-- The parts of the scores stored in case A. -/
theorem runA_a :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.1 =
      aList (inLoads arg1 harg1 arg2 harg2 arg3 harg3 arg4 harg4 arg5 harg5 arg6 harg6 arg7 harg7 x0 x1 x2 x3 x4 x5 x6) ++ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.1.drop 60 := by sl_kernel_rfl

/-- The decayed keys stored in case A. -/
theorem runA_kd :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1 =
      kdList (inLoads arg1 harg1 arg2 harg2 arg3 harg3 arg4 harg4 arg5 harg5 arg6 harg6 arg7 harg7 x0 x1 x2 x3 x4 x5 x6) ++ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1.drop 40 := by sl_kernel_rfl

/-- The decays stored in case A. -/
theorem runA_dec :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.2.1 =
      decList (inLoads arg1 harg1 arg2 harg2 arg3 harg3 arg4 harg4 arg5 harg5 arg6 harg6 arg7 harg7 x0 x1 x2 x3 x4 x5 x6) ++ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.2.1.drop 20 := by sl_kernel_rfl

end Case

end Cert.KernelIdeal.Gen
-- ==== Proof.Kern.ListB.lean ====
/-
  The pieces each case of the kernel body stores, as the plain functions of the blocks it loads.
-/
module

public import proofs.«01_k».proof.Proof.Kern.RunB
public import proofs.«01_k».proof.Proof.Math.Model
public import proofs.«01_k».proof.Proof.Kern.Lists

@[expose] public section

set_option maxRecDepth 16384

noncomputable section

namespace Cert.KernelIdeal.Gen

open Idealize.ShloMosaic Idealize.ShloMosaic.TcCoe Idealize.ShloMosaic.Tactic
open Idealize.SL Idealize.SL.Sem Kda

variable {F : FTy → Type} [FloatOps F] [Named F]

section Case
variable (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : ¬cond0_0 i) (hc1 : cond0_1 i)
  (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32) (xs0 : Vec F S10x2x128x128 .bf16) (xs1 : Vec F S10x2x3x64x128 .bf16) (xs2 : Vec F S10x2x3x64x128 .bf16) (xs3 : Vec F S10x2x2x96x128 .bf16) (xs4 : Vec F S10x2x96x128 .f32)

/-- The keys and queries stored in case B. -/
theorem runB_kq :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.1 =
      kqList (inLoads arg1 harg1 arg2 harg2 arg3 harg3 arg4 harg4 arg5 harg5 arg6 harg6 arg7 harg7 x0 x1 x2 x3 x4 x5 x6) := by sl_kernel_rfl

/-- The parts of the inverses stored in case B. -/
theorem runB_t :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.1 =
      tList (inLoads arg1 harg1 arg2 harg2 arg3 harg3 arg4 harg4 arg5 harg5 arg6 harg6 arg7 harg7 x0 x1 x2 x3 x4 x5 x6) := by sl_kernel_rfl

/-- The parts of the scores stored in case B. -/
theorem runB_a :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.1 =
      aList (inLoads arg1 harg1 arg2 harg2 arg3 harg3 arg4 harg4 arg5 harg5 arg6 harg6 arg7 harg7 x0 x1 x2 x3 x4 x5 x6) := by sl_kernel_rfl

/-- The decayed keys stored in case B. -/
theorem runB_kd :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.2.1 =
      kdList (inLoads arg1 harg1 arg2 harg2 arg3 harg3 arg4 harg4 arg5 harg5 arg6 harg6 arg7 harg7 x0 x1 x2 x3 x4 x5 x6) := by sl_kernel_rfl

/-- The decays stored in case B. -/
theorem runB_dec :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.2.2.2.2.2.1 =
      decList (inLoads arg1 harg1 arg2 harg2 arg3 harg3 arg4 harg4 arg5 harg5 arg6 harg6 arg7 harg7 x0 x1 x2 x3 x4 x5 x6) := by sl_kernel_rfl

/-- The output rows stored in case B. -/
theorem runB_o :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).1 =
      oList (recLoads arg8 harg8 arg9 harg9 arg13 harg13 arg14 harg14 arg15 harg15 arg16 harg16 arg17 harg17 (fun h => arg12.view.readCov (hfList arg12.view (View.readAt (Elt F) arg10.view (Rect.unit (s := S1x10x96x128) ![0, 0, 0, 0] S1x10x96x128.size (by decide)).toLoadRect (harg10.unread x9)) (fun h s => (recLoads arg8 harg8 arg9 harg9 arg13 harg13 arg14 harg14 arg15 harg15 arg16 harg16 arg17 harg17 (fun _ => s) x7 x8 xs0 xs1 xs2 xs3 xs4).sS h) h.val) (Rect.unit (s := S1x10x96x128) ![0, h.val, 0, 0] S1x1x96x128.size (inbQ h)).toLoadRect) x7 x8 xs0 xs1 xs2 xs3 xs4) := by sl_kernel_rfl

/-- The states stored in case B. -/
theorem runB_s :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4).2.1 =
      hfList arg12.view (View.readAt (Elt F) arg10.view (Rect.unit (s := S1x10x96x128) ![0, 0, 0, 0] S1x10x96x128.size (by decide)).toLoadRect (harg10.unread x9)) (fun h s => (recLoads arg8 harg8 arg9 harg9 arg13 harg13 arg14 harg14 arg15 harg15 arg16 harg16 arg17 harg17 (fun _ => s) x7 x8 xs0 xs1 xs2 xs3 xs4).sS h) 10 := by sl_kernel_rfl

end Case

end Cert.KernelIdeal.Gen
-- ==== Proof.Kern.ListC.lean ====
/-
  The pieces each case of the kernel body stores, as the plain functions of the blocks it loads.
-/
module

public import proofs.«01_k».proof.Proof.Kern.RunC
public import proofs.«01_k».proof.Proof.Math.Model
public import proofs.«01_k».proof.Proof.Kern.Lists

@[expose] public section

set_option maxRecDepth 16384

noncomputable section

namespace Cert.KernelIdeal.Gen

open Idealize.ShloMosaic Idealize.ShloMosaic.TcCoe Idealize.ShloMosaic.Tactic
open Idealize.SL Idealize.SL.Sem Kda

variable {F : FTy → Type} [FloatOps F] [Named F]

section Case
variable (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : ¬cond0_0 i) (hc1 : ¬cond0_1 i)
  (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32) (xo11 : Vec F S1x10x96x128 .f32) (xs0 : Vec F S10x2x128x128 .bf16) (xs1 : Vec F S10x2x3x64x128 .bf16) (xs2 : Vec F S10x2x3x64x128 .bf16) (xs3 : Vec F S10x2x2x96x128 .bf16) (xs4 : Vec F S10x2x96x128 .f32)

/-- The keys and queries stored in case C. -/
theorem runC_kq :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.1 =
      kqList (inLoads arg1 harg1 arg2 harg2 arg3 harg3 arg4 harg4 arg5 harg5 arg6 harg6 arg7 harg7 x0 x1 x2 x3 x4 x5 x6) := by sl_kernel_rfl

/-- The parts of the inverses stored in case C. -/
theorem runC_t :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.1 =
      tList (inLoads arg1 harg1 arg2 harg2 arg3 harg3 arg4 harg4 arg5 harg5 arg6 harg6 arg7 harg7 x0 x1 x2 x3 x4 x5 x6) := by sl_kernel_rfl

/-- The parts of the scores stored in case C. -/
theorem runC_a :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.1 =
      aList (inLoads arg1 harg1 arg2 harg2 arg3 harg3 arg4 harg4 arg5 harg5 arg6 harg6 arg7 harg7 x0 x1 x2 x3 x4 x5 x6) := by sl_kernel_rfl

/-- The decayed keys stored in case C. -/
theorem runC_kd :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.2.1 =
      kdList (inLoads arg1 harg1 arg2 harg2 arg3 harg3 arg4 harg4 arg5 harg5 arg6 harg6 arg7 harg7 x0 x1 x2 x3 x4 x5 x6) := by sl_kernel_rfl

/-- The decays stored in case C. -/
theorem runC_dec :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.2.2.2.2.2.1 =
      decList (inLoads arg1 harg1 arg2 harg2 arg3 harg3 arg4 harg4 arg5 harg5 arg6 harg6 arg7 harg7 x0 x1 x2 x3 x4 x5 x6) := by sl_kernel_rfl

/-- The output rows stored in case C. -/
theorem runC_o :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).1 =
      oList (recLoads arg8 harg8 arg9 harg9 arg13 harg13 arg14 harg14 arg15 harg15 arg16 harg16 arg17 harg17 (fun h => View.readAt (Elt F) arg12.view (Rect.unit (s := S1x10x96x128) ![0, h.val, 0, 0] S1x1x96x128.size (inbQ h)).toLoadRect (harg12.unread xo11)) x7 x8 xs0 xs1 xs2 xs3 xs4) := by sl_kernel_rfl

/-- The states stored in case C. -/
theorem runC_s :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4).2.1 =
      sList (recLoads arg8 harg8 arg9 harg9 arg13 harg13 arg14 harg14 arg15 harg15 arg16 harg16 arg17 harg17 (fun h => View.readAt (Elt F) arg12.view (Rect.unit (s := S1x10x96x128) ![0, h.val, 0, 0] S1x1x96x128.size (inbQ h)).toLoadRect (harg12.unread xo11)) x7 x8 xs0 xs1 xs2 xs3 xs4) := by sl_kernel_rfl

end Case

end Cert.KernelIdeal.Gen
-- ==== Proof.Kern.Cases.lean ====
/-
  What each case of the kernel body leaves in its buffers, element by element, and so what a point leaves.
-/
module

public import proofs.«01_k».proof.Proof.Kern.Canon
public import proofs.«01_k».proof.Proof.Kern.ListA
public import proofs.«01_k».proof.Proof.Kern.ListB
public import proofs.«01_k».proof.Proof.Kern.ListC
public import proofs.«01_k».proof.Proof.Kern.Frame

@[expose] public section

set_option maxRecDepth 16384

noncomputable section

namespace Cert.KernelIdeal.Gen

open Idealize.ShloMosaic Idealize.ShloMosaic.TcCoe Idealize.ShloMosaic.Tactic
open Idealize.SL Idealize.SL.Sem Kda

variable {F : FTy → Type} [FloatOps F] [Named F]

/-- The scratch buffers hold the head data of a point's blocks. -/
structure Held (x : K.In F) (xs0 : Vec F S10x2x128x128 .bf16) (xs1 : Vec F S10x2x3x64x128 .bf16) (xs2 : Vec F S10x2x3x64x128 .bf16) (xs3 : Vec F S10x2x2x96x128 .bf16) (xs4 : Vec F S10x2x96x128 .f32) : Prop where
  e0 : ∀ h c i j, xs0 (ValueIdx.ix4 h c i j) = x.kqS h c (ValueIdx.ix4 0 0 i j)
  e1 : ∀ h c p i j, xs1 (ValueIdx.ix5 h c p i j) = x.tS h c p (ValueIdx.ix5 0 0 0 i j)
  e2 : ∀ h c p i j, xs2 (ValueIdx.ix5 h c p i j) = x.aS h c p (ValueIdx.ix5 0 0 0 i j)
  e3 : ∀ h c p i j, xs3 (ValueIdx.ix5 h c p i j) = x.kdS h c p (ValueIdx.ix5 0 0 0 i j)
  e4 : ∀ h c i j, xs4 (ValueIdx.ix4 h c i j) = x.decS h c (ValueIdx.ix4 0 0 i j)

/-- The output buffers hold the outputs and the states of a point's recurrence. -/
structure Outs (x : K.Rec F) (o : Vec F S1x128x1280 .bf16) (s : Vec F S1x10x96x128 .f32) : Prop where
  o : ∀ (h : Fin 10) (c : Fin 2) (i : Fin 64) (j : Fin 128) (y : Fin 128) (z : Fin 1280), y.val = 64 * c.val + i.val → z.val = 128 * h.val + j.val →
    o (ValueIdx.ix3 0 y z) = x.oS h c (ValueIdx.ix3 0 i j)
  s : ∀ h i j, s (ValueIdx.ix4 0 h i j) = x.sS h (ValueIdx.ix4 0 0 i j)

section CaseA
variable (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : cond0_0 i) (hc1 : cond0_1 i)
  (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32)

set_option maxHeartbeats 4000000 in
/-- Case A leaves the head data of its blocks in the scratch buffers. -/
theorem held_A : Held (inOf x0 x1 x2 x3 x4 x5 x6)
    (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)
    (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)
    (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)
    (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)
    (sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9) where
  e0 h c y z := by
    unfold sout0_A_0
    rw [View.read_writes_junk_apply_eq_canon, runA_kq, inLoads_eq]
    generalize List.drop _ _ = L
    exact kqList_at (inOf x0 x1 x2 x3 x4 x5 x6) _ h c y z
  e1 h c p y z := by
    unfold sout0_A_1
    rw [View.read_writes_junk_apply_eq_canon, runA_t, inLoads_eq]
    generalize List.drop _ _ = L
    exact tList_at (inOf x0 x1 x2 x3 x4 x5 x6) _ h c p y z
  e2 h c p y z := by
    unfold sout0_A_2
    rw [View.read_writes_junk_apply_eq_canon, runA_a, inLoads_eq]
    generalize List.drop _ _ = L
    exact aList_at (inOf x0 x1 x2 x3 x4 x5 x6) _ h c p y z
  e3 h c p y z := by
    unfold sout0_A_3
    rw [View.read_writes_junk_apply_eq_canon, runA_kd, inLoads_eq]
    generalize List.drop _ _ = L
    exact kdList_at (inOf x0 x1 x2 x3 x4 x5 x6) _ h c p y z
  e4 h c y z := by
    unfold sout0_A_4
    rw [View.read_writes_junk_apply_eq_canon, runA_dec, inLoads_eq]
    generalize List.drop _ _ = L
    exact decList_at (inOf x0 x1 x2 x3 x4 x5 x6) _ h c y z
end CaseA

section CaseB
variable (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : ¬cond0_0 i) (hc1 : cond0_1 i)
  (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32) (xs0 : Vec F S10x2x128x128 .bf16) (xs1 : Vec F S10x2x3x64x128 .bf16) (xs2 : Vec F S10x2x3x64x128 .bf16) (xs3 : Vec F S10x2x2x96x128 .bf16) (xs4 : Vec F S10x2x96x128 .f32)

set_option maxHeartbeats 4000000 in
/-- Case B leaves the head data of its blocks in the scratch buffers. -/
theorem held_B : Held (inOf x0 x1 x2 x3 x4 x5 x6)
    (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4)
    (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4)
    (sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4)
    (sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4)
    (sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4) where
  e0 h c y z := by
    unfold sout0_B_0
    rw [View.read_writes_junk_apply_eq_canon, runB_kq, inLoads_eq]
    rw [← List.append_nil (kqList _)]; exact kqList_at (inOf x0 x1 x2 x3 x4 x5 x6) _ h c y z
  e1 h c p y z := by
    unfold sout0_B_1
    rw [View.read_writes_junk_apply_eq_canon, runB_t, inLoads_eq]
    rw [← List.append_nil (tList _)]; exact tList_at (inOf x0 x1 x2 x3 x4 x5 x6) _ h c p y z
  e2 h c p y z := by
    unfold sout0_B_2
    rw [View.read_writes_junk_apply_eq_canon, runB_a, inLoads_eq]
    rw [← List.append_nil (aList _)]; exact aList_at (inOf x0 x1 x2 x3 x4 x5 x6) _ h c p y z
  e3 h c p y z := by
    unfold sout0_B_3
    rw [View.read_writes_junk_apply_eq_canon, runB_kd, inLoads_eq]
    rw [← List.append_nil (kdList _)]; exact kdList_at (inOf x0 x1 x2 x3 x4 x5 x6) _ h c p y z
  e4 h c y z := by
    unfold sout0_B_4
    rw [View.read_writes_junk_apply_eq_canon, runB_dec, inLoads_eq]
    rw [← List.append_nil (decList _)]; exact decList_at (inOf x0 x1 x2 x3 x4 x5 x6) _ h c y z

/-- Case B leaves the outputs and the states of the recurrence. -/
theorem outs_B : Outs (recOf (hfOf x9) x7 x8 xs0 xs1 xs2 xs3 xs4)
    (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4)
    (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 xs4) where
  o h k p q y z hy hz := by
    have e0 : View.readAt (Elt F) arg10.view (Rect.unit (s := S1x10x96x128) ![0, 0, 0, 0] S1x10x96x128.size (by decide)).toLoadRect (harg10.unread x9) = x9 := by
      rw [View.readAt_eq_ld, Memref.IsWhole.read_unread]; exact View.ld_unit_zero (by funext a; fin_cases a <;> rfl) _ x9
    unfold out0_B_10
    rw [View.read_writes_junk_apply_eq_canon, runB_o, e0]
    simp only [recLoads_eq]
    rw [show (fun h : Fin 10 => arg12.view.readCov (hfList arg12.view x9 (fun h s => (recOf (fun _ => s) x7 x8 xs0 xs1 xs2 xs3 xs4).sS h) h.val) (Rect.unit (s := S1x10x96x128) ![0, h.val, 0, 0] S1x1x96x128.size (inbQ h)).toLoadRect) = hfOf x9 from
      funext fun h => hfList_cov _ _ _ h h.val le_rfl, ← List.append_nil (oList _)]
    exact oList_at _ _ h k p q y z hy hz
  s h p q := by
    have e0 : View.readAt (Elt F) arg10.view (Rect.unit (s := S1x10x96x128) ![0, 0, 0, 0] S1x10x96x128.size (by decide)).toLoadRect (harg10.unread x9) = x9 := by
      rw [View.readAt_eq_ld, Memref.IsWhole.read_unread]; exact View.ld_unit_zero (by funext a; fin_cases a <;> rfl) _ x9
    unfold out0_B_11
    rw [View.read_writes_junk_apply_eq_canon, runB_s, e0]
    simp only [recLoads_eq]
    obtain ⟨L', e⟩ := hfList_eq arg12.view x9 (fun h s => (recOf (fun _ => s) x7 x8 xs0 xs1 xs2 xs3 xs4).sS h) (recOf (hfOf x9) x7 x8 xs0 xs1 xs2 xs3 xs4) fun h => rfl
    rw [e]
    exact sList_at _ _ h p q
end CaseB

section CaseC
variable (c : Dev nD) (i : grid0.Coords) (arg1 : Memref sig .tc .vmem S1x10x96x128 .fp8e4m3) (harg1 : arg1.IsWhole) (arg2 : Memref sig .tc .vmem S1x1x3x10x128 .i8) (harg2 : arg2.IsWhole) (arg3 : Memref sig .tc .vmem S1x10x96x128 .fp8e4m3) (harg3 : arg3.IsWhole) (arg4 : Memref sig .tc .vmem S1x1x3x10x128 .i8) (harg4 : arg4.IsWhole) (arg5 : Memref sig .tc .vmem S1x10x96x128 .f32) (harg5 : arg5.IsWhole) (arg6 : Memref sig .tc .vmem S1x1x10x128 .f32) (harg6 : arg6.IsWhole) (arg7 : Memref sig .tc .vmem S384x256 .bf16) (harg7 : arg7.IsWhole) (arg8 : Memref sig .tc .vmem S1x10x128x128 .bf16) (harg8 : arg8.IsWhole) (arg9 : Memref sig .tc .vmem S1x1x10x128 .f32) (harg9 : arg9.IsWhole) (arg10 : Memref sig .tc .vmem S1x10x96x128 .f32) (harg10 : arg10.IsWhole) (arg11 : Memref sig .tc .vmem S1x128x1280 .bf16) (harg11 : arg11.IsWhole) (arg12 : Memref sig .tc .vmem S1x10x96x128 .f32) (harg12 : arg12.IsWhole) (arg13 : Memref sig .tc .vmem S10x2x128x128 .bf16) (harg13 : arg13.IsWhole) (arg14 : Memref sig .tc .vmem S10x2x3x64x128 .bf16) (harg14 : arg14.IsWhole) (arg15 : Memref sig .tc .vmem S10x2x3x64x128 .bf16) (harg15 : arg15.IsWhole) (arg16 : Memref sig .tc .vmem S10x2x2x96x128 .bf16) (harg16 : arg16.IsWhole) (arg17 : Memref sig .tc .vmem S10x2x96x128 .f32) (harg17 : arg17.IsWhole) (hc0 : ¬cond0_0 i) (hc1 : ¬cond0_1 i)
  (x0 : Vec F S1x10x96x128 .fp8e4m3) (x1 : Vec F S1x1x3x10x128 .i8) (x2 : Vec F S1x10x96x128 .fp8e4m3) (x3 : Vec F S1x1x3x10x128 .i8) (x4 : Vec F S1x10x96x128 .f32) (x5 : Vec F S1x1x10x128 .f32) (x6 : Vec F S384x256 .bf16) (x7 : Vec F S1x10x128x128 .bf16) (x8 : Vec F S1x1x10x128 .f32) (x9 : Vec F S1x10x96x128 .f32) (xo11 : Vec F S1x10x96x128 .f32) (xs0 : Vec F S10x2x128x128 .bf16) (xs1 : Vec F S10x2x3x64x128 .bf16) (xs2 : Vec F S10x2x3x64x128 .bf16) (xs3 : Vec F S10x2x2x96x128 .bf16) (xs4 : Vec F S10x2x96x128 .f32)

set_option maxHeartbeats 4000000 in
/-- Case C leaves the head data of its blocks in the scratch buffers. -/
theorem held_C : Held (inOf x0 x1 x2 x3 x4 x5 x6)
    (sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4)
    (sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4)
    (sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4)
    (sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4)
    (sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4) where
  e0 h c y z := by
    unfold sout0_C_0
    rw [View.read_writes_junk_apply_eq_canon, runC_kq, inLoads_eq]
    rw [← List.append_nil (kqList _)]; exact kqList_at (inOf x0 x1 x2 x3 x4 x5 x6) _ h c y z
  e1 h c p y z := by
    unfold sout0_C_1
    rw [View.read_writes_junk_apply_eq_canon, runC_t, inLoads_eq]
    rw [← List.append_nil (tList _)]; exact tList_at (inOf x0 x1 x2 x3 x4 x5 x6) _ h c p y z
  e2 h c p y z := by
    unfold sout0_C_2
    rw [View.read_writes_junk_apply_eq_canon, runC_a, inLoads_eq]
    rw [← List.append_nil (aList _)]; exact aList_at (inOf x0 x1 x2 x3 x4 x5 x6) _ h c p y z
  e3 h c p y z := by
    unfold sout0_C_3
    rw [View.read_writes_junk_apply_eq_canon, runC_kd, inLoads_eq]
    rw [← List.append_nil (kdList _)]; exact kdList_at (inOf x0 x1 x2 x3 x4 x5 x6) _ h c p y z
  e4 h c y z := by
    unfold sout0_C_4
    rw [View.read_writes_junk_apply_eq_canon, runC_dec, inLoads_eq]
    rw [← List.append_nil (decList _)]; exact decList_at (inOf x0 x1 x2 x3 x4 x5 x6) _ h c y z

/-- Case C leaves the outputs and the states of the recurrence. -/
theorem outs_C : Outs (recOf (hfOf xo11) x7 x8 xs0 xs1 xs2 xs3 xs4)
    (out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4)
    (out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 xs1 xs2 xs3 xs4) where
  o h k p q y z hy hz := by
    have e : (fun h : Fin 10 => View.readAt (Elt F) arg12.view (Rect.unit (s := S1x10x96x128) ![0, h.val, 0, 0] S1x1x96x128.size (inbQ h)).toLoadRect (harg12.unread xo11)) = hfOf xo11 := by
      funext h; simp only [View.readAt_eq_ld, Memref.IsWhole.read_unread]; rfl
    unfold out0_C_10
    rw [View.read_writes_junk_apply_eq_canon, runC_o, e, recLoads_eq, ← List.append_nil (oList _)]
    exact oList_at _ _ h k p q y z hy hz
  s h p q := by
    have e : (fun h : Fin 10 => View.readAt (Elt F) arg12.view (Rect.unit (s := S1x10x96x128) ![0, h.val, 0, 0] S1x1x96x128.size (inbQ h)).toLoadRect (harg12.unread xo11)) = hfOf xo11 := by
      funext h; simp only [View.readAt_eq_ld, Memref.IsWhole.read_unread]; rfl
    unfold out0_C_11
    rw [View.read_writes_junk_apply_eq_canon, runC_s, e, recLoads_eq, ← List.append_nil (sList _)]
    exact sList_at _ _ h p q
end CaseC

variable (m : (ℓ : Loc nD τ sig) → Buf (Elt F) ℓ)

theorem Held.of {x : K.In F} {o : Vec F S1x128x1280 .bf16 × Vec F S1x10x96x128 .f32 × Vec F S10x2x128x128 .bf16 × Vec F S10x2x3x64x128 .bf16 × Vec F S10x2x3x64x128 .bf16 × Vec F S10x2x2x96x128 .bf16 × Vec F S10x2x96x128 .f32}
    {a0 a1 a2 a3 a4 a5 a6} (e : o = (a0, a1, a2, a3, a4, a5, a6)) (h : Held x a2 a3 a4 a5 a6) : Held x o.2.2.1 o.2.2.2.1 o.2.2.2.2.1 o.2.2.2.2.2.1 o.2.2.2.2.2.2 := by
  subst e; exact h
theorem Outs.of {x : K.Rec F} {o : Vec F S1x128x1280 .bf16 × Vec F S1x10x96x128 .f32 × Vec F S10x2x128x128 .bf16 × Vec F S10x2x3x64x128 .bf16 × Vec F S10x2x3x64x128 .bf16 × Vec F S10x2x2x96x128 .bf16 × Vec F S10x2x96x128 .f32}
    {a0 a1 a2 a3 a4 a5 a6} (e : o = (a0, a1, a2, a3, a4, a5, a6)) (h : Outs x a0 a1) : Outs x o.1 o.2.1 := by
  subst e; exact h

/-- After every point the scratch buffers hold the head data of its blocks. -/
theorem held_at (c : Dev nD) (t : Fin cfg0.N) : Held (inOf (iblk m c 0 t) (iblk m c 1 t) (iblk m c 2 t) (iblk m c 3 t) (iblk m c 4 t) (iblk m c 5 t) (iblk m c 6 t))
    ((outsAt0 m c t.val t.isLt).2.2.1) ((outsAt0 m c t.val t.isLt).2.2.2.1) ((outsAt0 m c t.val t.isLt).2.2.2.2.1) ((outsAt0 m c t.val t.isLt).2.2.2.2.2.1) ((outsAt0 m c t.val t.isLt).2.2.2.2.2.2) := by
  by_cases h0 : t.val % 481 = 0
  · exact Held.of (outsAt0_A m c t h0 (Or.inl h0)) (held_A ..)
  · by_cases h1 : t.val % 481 = 0 ∨ t.val % 24 = 1
    · exact Held.of (outsAt0_B m c t h0 h1) (held_B ..)
    · exact Held.of (outsAt0_C m c t h0 h1) (held_C ..)

/-- A point that starts a run of 24 leaves the recurrence from the initial states' block. -/
theorem outs_first (c : Dev nD) (t : Fin cfg0.N) (h1 : t.val % 24 = 1) : Outs (recOf (hfOf (iblk m c 9 t)) (iblk m c 7 t) (iblk m c 8 t)
      ((outsAt0 m c (t.val - 1) (Nat.lt_of_le_of_lt (Nat.sub_le _ _) t.isLt)).2.2.1) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2))
    (outsAt0 m c t.val t.isLt).1 (outsAt0 m c t.val t.isLt).2.1 := by
  have hN : t.val < 481 := lt_of_lt_of_eq t.isLt (show cfg0.N = 481 from N_0)
  exact Outs.of (outsAt0_B m c t (by omega) (Or.inr h1)) (outs_B ..)

/-- Any other point but the very first leaves the recurrence from the states before it. -/
theorem outs_next (c : Dev nD) (t : Fin cfg0.N) (h0 : t.val ≠ 0) (h1 : t.val % 24 ≠ 1) : Outs (recOf (hfOf (outsAt0 m c (t.val - 1) (Nat.lt_of_le_of_lt (Nat.sub_le _ _) t.isLt)).2.1) (iblk m c 7 t) (iblk m c 8 t)
      ((outsAt0 m c (t.val - 1) (Nat.lt_of_le_of_lt (Nat.sub_le _ _) t.isLt)).2.2.1) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2))
    (outsAt0 m c t.val t.isLt).1 (outsAt0 m c t.val t.isLt).2.1 := by
  have hN : t.val < 481 := lt_of_lt_of_eq t.isLt (show cfg0.N = 481 from N_0)
  exact Outs.of (outsAt0_C m c t (by omega) (by omega)) (outs_C ..)

end Cert.KernelIdeal.Gen
-- ==== Proof.Math.Pair.lean ====
/-
  What a point of the kernel leaves: the token recurrence over its 128 tokens.
-/
module

public import proofs.«01_k».proof.Proof.Math.Chunk
public import proofs.«01_k».proof.Proof.Kern.Cases

@[expose] public section

noncomputable section

namespace Kda

open Finset (range)
open Idealize.ShloMosaic Cert.KernelIdeal Cert.KernelIdeal.Gen

section
variable {xs0 : Vec Ideal S10x2x128x128 .bf16} {xs1 xs2 : Vec Ideal S10x2x3x64x128 .bf16} {xs3 : Vec Ideal S10x2x2x96x128 .bf16}
  {xs4 : Vec Ideal S10x2x96x128 .f32} {Q Kk G : ℕ → ℕ → ℕ → ℝ} {B : ℕ → ℕ → ℝ}
  {x7 : Vec Ideal S1x10x128x128 .bf16} {x8 : Vec Ideal S1x1x10x128 .f32} {V : ℕ → ℕ → ℕ → ℝ} {x9 : Vec Ideal S1x10x96x128 .f32} {S : ℕ → ℕ → ℕ → ℝ}
variable (H : ScrRep xs0 xs1 xs2 xs3 xs4 Q Kk G B) (hv : ∀ (h : Fin 10) (t v : Fin 128), x7 (ValueIdx.ix4 0 h t v) = ((V h t v : ℝ) : EReal))
  (hb : ∀ (h : Fin 10) (t : Fin 128), x8 (ValueIdx.ix4 0 0 h t) = ((B h t : ℝ) : EReal))
  (hs : ∀ (h : Fin 10) (d : Fin 96) (v : Fin 128), x9 (ValueIdx.ix4 0 h d v) = ((S h d v : ℝ) : EReal))
include H hv hb hs

/-- A head's state before its first chunk. -/
theorem pair_s0 (h : Fin 10) : R2 ((recOf (hfOf x9) x7 x8 xs0 xs1 xs2 xs3 xs4).s0 h) (S h) :=
  R2.of4 (n := 96) (m := 128) _ fun i j => (ld_at (F := Ideal) (e := .f32) x9 _ _ _ _ (ValueIdx.ix4 0 h i j) (by intro k; fin_cases k <;> simp)).trans (hs h i j)

/-- A head's state after a chunk, from the one before it. -/
theorem pair_nx (h : Fin 10) (c : Fin 2) {s : FVec Ideal S96x128 .f32} {T : ℕ → ℕ → ℝ} (hT : R2 s T) :
    R2 ((recOf (hfOf x9) x7 x8 xs0 xs1 xs2 xs3 xs4).nx h c s)
      (tokS (fun d t => Kk h d (64 * c + t)) (fun d t => G h d (64 * c + t)) (fun t v => V h (64 * c + t) v) (fun t => B h (64 * c + t)) T 64) :=
  ((H.chunk hv hb h c).nx hT).congr fun d _ v _ => chS_eq (Kk h) (G h) (V h) (B h) T c.val (by omega) d v

/-- A head's output rows in a chunk, from the state before it. -/
theorem pair_o (h : Fin 10) (c : Fin 2) {s : FVec Ideal S96x128 .f32} {T : ℕ → ℕ → ℝ} (hT : R2 s T) :
    R2 ((recOf (hfOf x9) x7 x8 xs0 xs1 xs2 xs3 xs4).o h c s)
      (tokO (fun d t => Q h d (64 * c + t)) (fun d t => Kk h d (64 * c + t)) (fun d t => G h d (64 * c + t)) (fun t v => V h (64 * c + t) v) (fun t => B h (64 * c + t)) T) :=
  ((H.chunk hv hb h c).o hT).congr fun i hi v _ => chO_eq (Q h) (Kk h) (G h) (V h) (B h) T c.val (by omega) i hi v

/-- A head's state between its chunks. -/
theorem pair_s1 (h : Fin 10) : R2 ((recOf (hfOf x9) x7 x8 xs0 xs1 xs2 xs3 xs4).s1 h) (tokS (Kk h) (G h) (V h) (B h) (S h) 64) := by
  have := pair_nx H hv hb hs h 0 (pair_s0 H hv hb hs h)
  refine R2.congr (x := (recOf (hfOf x9) x7 x8 xs0 xs1 xs2 xs3 xs4).s1 h) this fun d _ v _ => ?_
  simp

/-- What a point leaves, element by element. -/
theorem pair_outs {o : Vec Ideal S1x128x1280 .bf16} {s : Vec Ideal S1x10x96x128 .f32} (O : Outs (recOf (hfOf x9) x7 x8 xs0 xs1 xs2 xs3 xs4) o s) :
    (∀ (h : Fin 10) (y v : Fin 128) (z : Fin 1280), z.val = 128 * h.val + v.val →
      o (ValueIdx.ix3 0 y z) = ((tokO (Q h) (Kk h) (G h) (V h) (B h) (S h) y v : ℝ) : EReal)) ∧
    ∀ (h : Fin 10) (d : Fin 96) (v : Fin 128), s (ValueIdx.ix4 0 h d v) = ((tokS (Kk h) (G h) (V h) (B h) (S h) 128 d v : ℝ) : EReal) := by
  constructor
  · intro h y v z hz
    have e : ∀ (c : Fin 2) (i : Fin 64), y.val = 64 * c.val + i.val → o (ValueIdx.ix3 0 y z) = (recOf (hfOf x9) x7 x8 xs0 xs1 xs2 xs3 xs4).o h c
        (if c = 0 then (recOf (hfOf x9) x7 x8 xs0 xs1 xs2 xs3 xs4).s0 h else (recOf (hfOf x9) x7 x8 xs0 xs1 xs2 xs3 xs4).s1 h) (ValueIdx.ix2 i v) :=
      fun c i hy => (O.o h c i v y z hy hz).trans (uncast3 (n := 64) (m := 128) _ _ 0 i v)
    by_cases hy : y.val < 64
    · rw [e 0 ⟨y.val, hy⟩ (by simp)]
      refine (pair_o H hv hb hs h 0 (pair_s0 H hv hb hs h) ⟨y.val, hy⟩ v).trans ?_
      simp
    · have hy' : y.val - 64 < 64 := by omega
      rw [e 1 ⟨y.val - 64, hy'⟩ (by simp; omega)]
      refine (pair_o H hv hb hs h 1 (pair_s1 H hv hb hs h) ⟨y.val - 64, hy'⟩ v).trans ?_
      have := tokO_add (Q h) (Kk h) (G h) (V h) (B h) (S h) 64 (y.val - 64) v
      rw [Nat.add_sub_cancel' (by omega)] at this
      rw [this]; simp
  · intro h d v
    rw [O.s h d v]
    refine (uncast4 (n := 96) (m := 128) _ _ 0 0 d v).trans ?_
    refine (pair_nx H hv hb hs h 1 (pair_s1 H hv hb hs h) d v).trans ?_
    have e := tokS_add (Kk h) (G h) (V h) (B h) (S h) 64 64
    show _ = ((tokS (Kk h) (G h) (V h) (B h) (S h) (64 + 64) d v : ℝ) : EReal)
    rw [e]; simp
end

end Kda
-- ==== Proof.Kern.Value.lean ====
/-
  What a run of the idealized kernel leaves in its two results, block by block.
-/
module

public import proofs.«01_k».proof.Proof.Kern.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 10's array: the run's contents for that window after the body (`Gen.outsAt0`: its component 0), read through the window's block. -/
theorem flushed10 (c : Dev nD) (t : Fin cfg0.N) :
    (dats m 0 c).flushed 10 t = (cfg0.win 10).cut (grid0.coords t) ((outsAt0 m c t.val t.isLt).1) := by
  show (cfg0.win 10).cut (grid0.coords t) ((dats m 0 c).after 10 t) = _
  rw [after0_10]

/-- An index that no flushing point's block covers keeps output window 10's array contents at region entry. -/
theorem entry10 (c : Dev nD) (i : S10x3072x2560.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 1), read through the window's block. -/
theorem flushed11 (c : Dev nD) (t : Fin cfg0.N) :
    (dats m 0 c).flushed 11 t = (cfg0.win 11).cut (grid0.coords t) ((outsAt0 m c t.val t.isLt).2.1) := by
  show (cfg0.win 11).cut (grid0.coords t) ((dats m 0 c).after 11 t) = _
  rw [after0_11]

/-- An index that no flushing point's block covers keeps output window 11's array contents at region entry. -/
theorem entry11 (c : Dev nD) (i : S10x20x96x128.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v26_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v26_1) = (dats m 0 c).arrAt 11 cfg0.N :=
  (h c).1 11

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 9 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 9).trans (((dats m 0 c).arrAt_in 9 rfl _).trans ((A_eq m c 9).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v26_0) = (dats m 0 c).arrAt 10 cfg0.N
      ∧ r.2.mem ((c : Thread nD τ).loc main_v26_1) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post10 m r h c,
      post11 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Value

end
-- ==== Proof.Kern.Points.lean ====
/-
  The states and the outputs after every point, over the reals.
-/
module

public import proofs.«01_k».proof.Proof.Kern.Inputs
public import proofs.«01_k».proof.Proof.Math.Pair
public import proofs.«01_k».proof.Proof.Kern.Value

@[expose] public section

set_option maxRecDepth 16384

noncomputable section

namespace Kda

open Idealize.ShloMosaic Idealize.ShloMosaic.TcCoe Idealize.ShloMosaic.Tactic
open Idealize.SL Idealize.SL.Sem Cert.KernelIdeal Cert.KernelIdeal.Gen

/-- A head's decoded queries. -/
def Data.qd (D : Data) (b h : ℕ) : ℕ → ℕ → ℝ := deco (D.cq b h) (D.eq b h)
/-- A head's decoded keys. -/
def Data.kd (D : Data) (b h : ℕ) : ℕ → ℕ → ℝ := deco (D.ck b h) (D.ek b h)
/-- A head's state after its first tokens. -/
def Data.st (D : Data) (b h n : ℕ) : ℕ → ℕ → ℝ := tokS (D.kd b h) (D.g b h) (D.v b h) (D.b b h) (D.s b h) n
/-- A head's output at a token. -/
def Data.out (D : Data) (b h : ℕ) : ℕ → ℕ → ℝ := tokO (D.qd b h) (D.kd b h) (D.g b h) (D.v b h) (D.b b h) (D.s b h)

/-- A step's outputs, from the states before it. -/
theorem out_cut (D : Data) (u h y v : ℕ) : tokO (deco (cut D.cq u h) (cut D.eq u h)) (deco (cut D.ck u h) (cut D.ek u h)) (cut D.g u h) (cutV D.v u h) (cutB D.b u h)
    (D.st (u / 48) (10 * (u / 24 % 2) + h) (128 * (u % 24))) y v = D.out (u / 48) (10 * (u / 24 % 2) + h) (128 * (u % 24) + y) v :=
  (tokO_add (D.qd (u / 48) (10 * (u / 24 % 2) + h)) (D.kd (u / 48) (10 * (u / 24 % 2) + h)) (D.g (u / 48) (10 * (u / 24 % 2) + h)) (D.v (u / 48) (10 * (u / 24 % 2) + h))
      (D.b (u / 48) (10 * (u / 24 % 2) + h)) (D.s (u / 48) (10 * (u / 24 % 2) + h)) (128 * (u % 24)) y v).symm

/-- The states after a step, from the states before it. -/
theorem st_cut (D : Data) (u h d v : ℕ) : tokS (deco (cut D.ck u h) (cut D.ek u h)) (cut D.g u h) (cutV D.v u h) (cutB D.b u h)
    (D.st (u / 48) (10 * (u / 24 % 2) + h) (128 * (u % 24))) 128 d v = D.st (u / 48) (10 * (u / 24 % 2) + h) (128 * (u % 24) + 128) d v :=
  (congrFun (congrFun (tokS_add (D.kd (u / 48) (10 * (u / 24 % 2) + h)) (D.g (u / 48) (10 * (u / 24 % 2) + h)) (D.v (u / 48) (10 * (u / 24 % 2) + h))
      (D.b (u / 48) (10 * (u / 24 % 2) + h)) (D.s (u / 48) (10 * (u / 24 % 2) + h)) (128 * (u % 24)) 128) d) v).symm

variable {D : Data} (m : (ℓ : Loc nD τ sig) → Buf (Elt Ideal) ℓ) (c : Dev nD)
variable (R : D.Rep (arg m c main_arg0) (arg m c main_arg1) (arg m c main_arg2) (arg m c main_arg3) (arg m c main_arg4) (arg m c main_arg5) (arg m c main_arg6) (arg m c main_arg7))
include R

/-- What a point leaves, from the states before it. -/
theorem point (t : Fin cfg0.N) (h0 : t.val ≠ 0) {x9 : Vec Ideal S1x10x96x128 .f32}
    (hs : ∀ (h : Fin 10) (d : Fin 96) (v : Fin 128), x9 (ValueIdx.ix4 0 h d v)
      = ((D.st ((t.val - 1) / 48) (10 * ((t.val - 1) / 24 % 2) + h) (128 * ((t.val - 1) % 24)) d v : ℝ) : EReal))
    {o : Vec Ideal S1x128x1280 .bf16} {s : Vec Ideal S1x10x96x128 .f32}
    (O : Outs (recOf (hfOf x9) (iblk m c 7 t) (iblk m c 8 t) ((outsAt0 m c (t.val - 1) (Nat.lt_of_le_of_lt (Nat.sub_le _ _) t.isLt)).2.2.1) ((outsAt0 m c (t.val - 1) (Nat.lt_of_le_of_lt (Nat.sub_le _ _) t.isLt)).2.2.2.1)
      ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1)
      ((outsAt0 m c (t.val - 1) (Nat.lt_of_le_of_lt (Nat.sub_le _ _) t.isLt)).2.2.2.2.2.2)) o s) :
    (∀ (h : Fin 10) (y v : Fin 128) (z : Fin 1280), z.val = 128 * h.val + v.val → o (ValueIdx.ix3 0 y z)
      = ((D.out ((t.val - 1) / 48) (10 * ((t.val - 1) / 24 % 2) + h) (128 * ((t.val - 1) % 24) + y) v : ℝ) : EReal)) ∧
    ∀ (h : Fin 10) (d : Fin 96) (v : Fin 128), s (ValueIdx.ix4 0 h d v)
      = ((D.st ((t.val - 1) / 48) (10 * ((t.val - 1) / 24 % 2) + h) (128 * ((t.val - 1) % 24) + 128) d v : ℝ) : EReal) := by
  have hN : t.val < 481 := lt_of_lt_of_eq t.isLt (show cfg0.N = 481 from N_0)
  have hl := held_at m c ⟨t.val - 1, Nat.lt_of_le_of_lt (Nat.sub_le _ _) t.isLt⟩
  have hi := inBlk m c R ⟨t.val - 1, Nat.lt_of_le_of_lt (Nat.sub_le _ _) t.isLt⟩
  have hu : stepIn (t.val - 1) = t.val - 1 := by unfold stepIn; omega
  simp only [hu] at hi
  have H := hi.scr hl.e0 hl.e1 hl.e2 hl.e3 hl.e4
  have P := pair_outs H (V := cutV D.v (t.val - 1)) (vBlk m c R t) (bBlk m c R t)
    (S := fun h => D.st ((t.val - 1) / 48) (10 * ((t.val - 1) / 24 % 2) + h) (128 * ((t.val - 1) % 24))) hs O
  refine ⟨fun h y v z hz => (P.1 h y v z hz).trans (congrArg _ ?_), fun h d v => (P.2 h d v).trans (congrArg _ ?_)⟩
  · exact out_cut D (t.val - 1) h y v
  · exact st_cut D (t.val - 1) h d v

/-- What every point but the very first leaves. -/
theorem points : ∀ (t : ℕ) (ht : t < cfg0.N), t ≠ 0 →
    (∀ (h : Fin 10) (y v : Fin 128) (z : Fin 1280), z.val = 128 * h.val + v.val → (outsAt0 m c t ht).1 (ValueIdx.ix3 0 y z)
      = ((D.out ((t - 1) / 48) (10 * ((t - 1) / 24 % 2) + h) (128 * ((t - 1) % 24) + y) v : ℝ) : EReal)) ∧
    ∀ (h : Fin 10) (d : Fin 96) (v : Fin 128), (outsAt0 m c t ht).2.1 (ValueIdx.ix4 0 h d v)
      = ((D.st ((t - 1) / 48) (10 * ((t - 1) / 24 % 2) + h) (128 * ((t - 1) % 24) + 128) d v : ℝ) : EReal) := by
  intro t
  induction t with
  | zero => intro _ h; exact absurd rfl h
  | succ t ih =>
    intro ht h0
    by_cases h1 : (t + 1) % 24 = 1
    · refine point m c R ⟨t + 1, ht⟩ h0 (fun h d v => (sBlk m c R ⟨t + 1, ht⟩ h d v).trans ?_) (outs_first m c ⟨t + 1, ht⟩ h1)
      have : (t + 1 - 1) % 24 = 0 := by omega
      show _ = ((D.st ((t + 1 - 1) / 48) (10 * ((t + 1 - 1) / 24 % 2) + h) (128 * ((t + 1 - 1) % 24)) d v : ℝ) : EReal)
      rw [this]
      rfl
    · refine point m c R ⟨t + 1, ht⟩ h0 (fun h d v => ((ih (by omega) (by omega)).2 h d v).trans ?_) (outs_next m c ⟨t + 1, ht⟩ h0 h1)
      show _ = ((D.st ((t + 1 - 1) / 48) (10 * ((t + 1 - 1) / 24 % 2) + h) (128 * ((t + 1 - 1) % 24)) d v : ℝ) : EReal)
      rw [show (t - 1) / 48 = (t + 1 - 1) / 48 by omega, show (t - 1) / 24 = (t + 1 - 1) / 24 by omega, show 128 * ((t - 1) % 24) + 128 = 128 * ((t + 1 - 1) % 24) by omega]

/-! ### The two result arrays -/

omit R in
/-- The head a column of an output block belongs to. -/
theorem head_col (a y : ℕ) : (a * 1280 + y) / 128 = 10 * a + y / 128 := by
  rw [show a * 1280 + y = y + 128 * (10 * a) by ring, Nat.add_mul_div_left _ _ (by norm_num)]; ring

omit R in
/-- The column of its head. -/
theorem val_col (a y : ℕ) : (a * 1280 + y) % 128 = y % 128 := by
  rw [show a * 1280 + y = y + 128 * (10 * a) by ring, Nat.add_mul_mod_self_left]

omit R in
/-- Every point but the very first writes its output block back, and the very first does not. -/
theorem flush10 : ∀ t : Fin cfg0.N, (cfg0.win 10).flush t = true ↔ t.val ≠ 0 :=
  (by decide +kernel : ∀ t : Fin grid0.N, win0_10.flush t = true ↔ t.val ≠ 0)

omit R in
/-- Where an element of an output block sits. -/
theorem emb10 (t : Fin cfg0.N) (y : S1x128x1280.Idx) : ((win0_10.rect t).emb y 0).val = (t.val - 1) / 48 + (y 0).val ∧
    ((win0_10.rect t).emb y 1).val = (t.val - 1) % 24 * 128 + (y 1).val ∧ ((win0_10.rect t).emb y 2).val = (t.val - 1) / 24 % 2 * 1280 + (y 2).val := by
  have h := index_10 t
  exact ⟨(win0_10.rect_emb_val t y 0).trans ((congrArg (· * 1 + (y 0).val) h.1).trans (by simp)),
    (win0_10.rect_emb_val t y 1).trans (congrArg (· * 128 + (y 1).val) h.2.1), (win0_10.rect_emb_val t y 2).trans (congrArg (· * 1280 + (y 2).val) h.2.2)⟩

omit R in
/-- Where an element of a state block sits. -/
theorem emb11 (t : Fin cfg0.N) (y : S1x10x96x128.Idx) : ((win0_11.rect t).emb y 0).val = (t.val - 1) / 48 + (y 0).val ∧
    ((win0_11.rect t).emb y 1).val = (t.val - 1) / 24 % 2 * 10 + (y 1).val ∧ ((win0_11.rect t).emb y 2).val = (y 2).val ∧ ((win0_11.rect t).emb y 3).val = (y 3).val := by
  have h := index_11 t
  exact ⟨(win0_11.rect_emb_val t y 0).trans ((congrArg (· * 1 + (y 0).val) h.1).trans (by simp)),
    (win0_11.rect_emb_val t y 1).trans (congrArg (· * 10 + (y 1).val) h.2.1),
    (win0_11.rect_emb_val t y 2).trans ((congrArg (· * 96 + (y 2).val) h.2.2.1).trans (by simp)),
    (win0_11.rect_emb_val t y 3).trans ((congrArg (· * 128 + (y 3).val) h.2.2.2).trans (by simp))⟩

/-- The output array: every token of every head. -/
theorem out_arr (i : S10x3072x2560.Idx) : ((dats m 0 c).arrAt 10 cfg0.N : FVec Ideal S10x3072x2560 .bf16) i
    = ((D.out (i 0).val ((i 2).val / 128) (i 1).val ((i 2).val % 128) : ℝ) : EReal) := by
  refine (dats m 0 c).arrAt_forall_of_cover 10 (fun (i : S10x3072x2560.Idx) (v : EReal) => v = ((D.out (i 0).val ((i 2).val / 128) (i 1).val ((i 2).val % 128) : ℝ) : EReal)) ?_ ?_ i
  · intro t hf y
    have ht := (flush10 t).1 hf
    rw [Cert.KernelIdeal.Value.flushed10]
    change S1x128x1280.Idx at y
    have e := emb10 t y
    have hy0 : (y 0).val < 1 := (y 0).isLt
    have hy1 : (y 1).val < 128 := (y 1).isLt
    have hy2 : (y 2).val < 1280 := (y 2).isLt
    have hp := (points m c R t.val t.isLt ht).1 ⟨(y 2).val / 128, by omega⟩ ⟨(y 1).val, hy1⟩ ⟨(y 2).val % 128, Nat.mod_lt _ (by norm_num)⟩ ⟨(y 2).val, hy2⟩ (Nat.div_add_mod (y 2).val 128).symm
    show (outsAt0 m c t.val t.isLt).1 y = ((D.out ((win0_10.rect t).emb y 0).val (((win0_10.rect t).emb y 2).val / 128) ((win0_10.rect t).emb y 1).val (((win0_10.rect t).emb y 2).val % 128) : ℝ) : EReal)
    rw [e.1, e.2.1, e.2.2]
    have hy : y = ValueIdx.ix3 0 ⟨(y 1).val, hy1⟩ ⟨(y 2).val, hy2⟩ := by
      funext k; apply Fin.ext; fin_cases k
      · show (y 0).val = 0; omega
      · rfl
      · rfl
    rw [show (t.val - 1) / 48 + (y 0).val = (t.val - 1) / 48 by omega, head_col, val_col, Nat.mul_comm _ 128, ← hp]
    exact congrArg _ hy
  · intro i
    change S10x3072x2560.Idx at i
    have h0 : (i 0).val < 10 := (i 0).isLt
    have h1 : (i 1).val < 3072 := (i 1).isLt
    have h2 : (i 2).val < 2560 := (i 2).isLt
    have hN : cfg0.N = 481 := N_0
    let t : Fin cfg0.N := ⟨(i 0).val * 48 + (i 2).val / 1280 * 24 + (i 1).val / 128 + 1, by omega⟩
    refine ⟨t, (flush10 t).2 (by simp [t]), ?_⟩
    have e := emb10 t (ValueIdx.ix3 (0 : Fin 1) (⟨(i 1).val % 128, Nat.mod_lt _ (by norm_num)⟩ : Fin 128) (⟨(i 2).val % 1280, Nat.mod_lt _ (by norm_num)⟩ : Fin 1280))
    have : i = (win0_10.rect t).emb (ValueIdx.ix3 (0 : Fin 1) (⟨(i 1).val % 128, Nat.mod_lt _ (by norm_num)⟩ : Fin 128) (⟨(i 2).val % 1280, Nat.mod_lt _ (by norm_num)⟩ : Fin 1280)) := by
      funext k; apply Fin.ext; fin_cases k
      · refine Eq.trans ?_ e.1.symm; show (i 0).val = ((i 0).val * 48 + (i 2).val / 1280 * 24 + (i 1).val / 128 + 1 - 1) / 48 + 0; omega
      · refine Eq.trans ?_ e.2.1.symm; show (i 1).val = ((i 0).val * 48 + (i 2).val / 1280 * 24 + (i 1).val / 128 + 1 - 1) % 24 * 128 + (i 1).val % 128; omega
      · refine Eq.trans ?_ e.2.2.symm; show (i 2).val = ((i 0).val * 48 + (i 2).val / 1280 * 24 + (i 1).val / 128 + 1 - 1) / 24 % 2 * 1280 + (i 2).val % 1280; omega
    rw [this]
    exact View.emb_mem_set ((cfg0.win 10).blk t).view _

/-- The final states: every head after all its tokens. -/
theorem st_arr (i : S10x20x96x128.Idx) : ((dats m 0 c).arrAt 11 cfg0.N : FVec Ideal S10x20x96x128 .f32) i
    = ((D.st (i 0).val (i 1).val 3072 (i 2).val (i 3).val : ℝ) : EReal) := by
  refine (dats m 0 c).arrAt_forall_of_cover 11 (fun (i : S10x20x96x128.Idx) (v : EReal) => v = ((D.st (i 0).val (i 1).val 3072 (i 2).val (i 3).val : ℝ) : EReal)) ?_ ?_ i
  · intro t hf y
    have h24 := flush0_11 t hf
    have ht : t.val ≠ 0 := by
      intro h0
      exact absurd hf ((by decide +kernel : ∀ t : Fin grid0.N, t.val = 0 → ¬ win0_11.flush t = true) t h0)
    rw [Cert.KernelIdeal.Value.flushed11]
    change S1x10x96x128.Idx at y
    have e := emb11 t y
    have hy0 : (y 0).val < 1 := (y 0).isLt
    have hp := (points m c R t.val t.isLt ht).2 (y 1) (y 2) (y 3)
    show (outsAt0 m c t.val t.isLt).2.1 y = ((D.st ((win0_11.rect t).emb y 0).val ((win0_11.rect t).emb y 1).val 3072 ((win0_11.rect t).emb y 2).val ((win0_11.rect t).emb y 3).val : ℝ) : EReal)
    rw [e.1, e.2.1, e.2.2.1, e.2.2.2]
    have hy : y = ValueIdx.ix4 0 (y 1) (y 2) (y 3) := by
      funext k; apply Fin.ext; fin_cases k
      · show (y 0).val = 0; omega
      · rfl
      · rfl
      · rfl
    rw [show 128 * ((t.val - 1) % 24) + 128 = 3072 by omega] at hp
    rw [show (t.val - 1) / 48 + (y 0).val = (t.val - 1) / 48 by omega, Nat.mul_comm _ 10, ← hp]
    exact congrArg _ hy
  · intro i
    change S10x20x96x128.Idx at i
    have h0 : (i 0).val < 10 := (i 0).isLt
    have h1 : (i 1).val < 20 := (i 1).isLt
    have hN : cfg0.N = 481 := N_0
    let t : Fin cfg0.N := ⟨(i 0).val * 48 + (i 1).val / 10 * 24 + 24, by omega⟩
    refine ⟨t, flush0_11_of t (by simp [t]; omega) (by simp [t]), ?_⟩
    have e := emb11 t (ValueIdx.ix4 (0 : Fin 1) (⟨(i 1).val % 10, Nat.mod_lt _ (by norm_num)⟩ : Fin 10) (i 2) (i 3))
    have : i = (win0_11.rect t).emb (ValueIdx.ix4 (0 : Fin 1) (⟨(i 1).val % 10, Nat.mod_lt _ (by norm_num)⟩ : Fin 10) (i 2) (i 3)) := by
      funext k; apply Fin.ext; fin_cases k
      · refine Eq.trans ?_ e.1.symm; show (i 0).val = ((i 0).val * 48 + (i 1).val / 10 * 24 + 24 - 1) / 48 + 0; omega
      · refine Eq.trans ?_ e.2.1.symm; show (i 1).val = ((i 0).val * 48 + (i 1).val / 10 * 24 + 24 - 1) / 24 % 2 * 10 + (i 1).val % 10; omega
      · exact e.2.2.1.symm
      · exact e.2.2.2.symm
    rw [this]
    exact View.emb_mem_set ((cfg0.win 11).blk t).view _

end Kda
-- ==== Proof.Ref.Ops.lean ====
/-
  The reference's operations at an index, over the reals.
-/
module

public import proofs.«01_k».proof.Proof.Kern.Points
public import proofs.«01_k».proof.Proof.Gen.ReferenceIdeal.Step

@[expose] public section

set_option maxRecDepth 16384

noncomputable section

namespace Kda.Ref

open Idealize.ShloMosaic Idealize.ShloMosaic.TcCoe Idealize.ShloMosaic.Tactic
open Idealize.SL Idealize.SL.Sem Cert.ReferenceIdeal Cert.ReferenceIdeal.Gen Cert.ReferenceIdeal.Step
open Finset (range)

/-! ### The scales -/

theorem two_bits : Ideal.ofBits .f32 0x40000000#32 = ((2 : ℝ) : EReal) := by
  simp [Ideal.ofBits, Ideal.ieee, -EReal.coe_mul]; norm_num

/-- A biased byte read as a signed word. -/
theorem bias (a : BitVec 8) : (a.setWidth 32 - 127#32).toInt = (a.toNat : ℤ) - 127 := by
  have key : ∀ n : Fin 256, ((BitVec.ofNat 8 n.val).setWidth 32 - 127#32).toInt = ((BitVec.ofNat 8 n.val).toNat : ℤ) - 127 := by decide +kernel
  have := key ⟨a.toNat, a.isLt⟩
  simpa using this

/-- A group's scale. -/
theorem scale_at (a : IVec S10x3072x20x3 8) (h : 8 < 32) (i : S10x3072x20x3.Idx) (e : ℕ) (he : BitVec.toNat (w := 8) (a i) = e) :
    (Host.powf (K_main_v5 (F := Ideal)) (sitofp .f32 (subi (extui 32 a h) (K_main_v2 (F := Ideal)))) : FVec Ideal S10x3072x20x3 .f32) i = (((2 : ℝ) ^ ((e : ℝ) - 127) : ℝ) : EReal) := by
  have h1 : (sitofp .f32 (subi (extui 32 a h) (K_main_v2 (F := Ideal))) : FVec Ideal S10x3072x20x3 .f32) i = (((e : ℝ) - 127 : ℝ) : EReal) := by
    show ((((BitVec.setWidth 32 (a i)) - 127#32).toInt : ℝ) : EReal) = _
    rw [bias, he]; push_cast; rfl
  show Ideal.pow (Ideal.ofBits .f32 0x40000000#32) ((sitofp .f32 (subi (extui 32 a h) (K_main_v2 (F := Ideal))) : FVec Ideal S10x3072x20x3 .f32) i) = _
  rw [h1, two_bits, Ideal.pow_coe_coe]; rfl

/-- Scaled codes. -/
theorem dec_at (x : FVec Ideal S10x3072x20x96 .f32) (a : IVec S10x3072x20x3 8) (h : 8 < 32) (b : Fin 10) (t : Fin 3072) (hh : Fin 20) (d : Fin 96)
    (q : ℕ → ℕ → ℝ) (e : ℕ → ℕ → ℕ) (hx : x (ValueIdx.ix4 b t hh d) = ((q d t : ℝ) : EReal)) (ha : ∀ i : Fin 3, BitVec.toNat (w := 8) (a (ValueIdx.ix4 b t hh i)) = e i t)
    (s : FVec Ideal S10x3072x20x3 .f32) (hs : s = Host.powf (K_main_v5 (F := Ideal)) (sitofp .f32 (subi (extui 32 a h) (K_main_v2 (F := Ideal))))) :
    (extf .f32 (mulf (truncf .bf16 x bitsLt_bf16_f32) (shapeCast S10x3072x20x96 (broadcastInDim S10x3072x20x3x32 ![0, 1, 2, 3] bcast_S10x3072x20x3_S10x3072x20x3x32_0_1_2_3
      (truncf .bf16 s bitsLt_bf16_f32 : FVec Ideal S10x3072x20x3 .bf16)) shapeCasts_S10x3072x20x3x32_S10x3072x20x96)) bitsLt_bf16_f32 : FVec Ideal S10x3072x20x96 .f32)
      (ValueIdx.ix4 b t hh d) = ((deco q e d t : ℝ) : EReal) := by
  have hd := d.isLt
  have h1 : (shapeCast S10x3072x20x96 (broadcastInDim S10x3072x20x3x32 ![0, 1, 2, 3] bcast_S10x3072x20x3_S10x3072x20x3x32_0_1_2_3
      (truncf .bf16 s bitsLt_bf16_f32 : FVec Ideal S10x3072x20x3 .bf16)) shapeCasts_S10x3072x20x3x32_S10x3072x20x96 : FVec Ideal S10x3072x20x96 .bf16)
      (ValueIdx.ix4 b t hh d) = (((2 : ℝ) ^ ((e (d / 32) t : ℝ) - 127) : ℝ) : EReal) := by
    refine (shapeCast_apply _ _ _ (ValueIdx.ix5 b t hh (⟨d.val / 32, by omega⟩ : Fin 3) (⟨d.val % 32, by omega⟩ : Fin 32)) ?_).trans ?_
    · rw [Shape.rowMajor_val_five, Shape.rowMajor_val_four]
      show (((b.val * 3072 + t.val) * 20 + hh.val) * 3 + d.val / 32) * 32 + d.val % 32 = ((b.val * 3072 + t.val) * 20 + hh.val) * 96 + d.val
      omega
    · refine (broadcastInDim_apply _ _ _ _ (ValueIdx.ix4 b t hh (⟨d.val / 32, by omega⟩ : Fin 3)) (by intro k; fin_cases k <;> rfl)).trans ?_
      show s _ = _
      rw [hs]
      exact scale_at a h _ _ (ha ⟨d.val / 32, by omega⟩)
  show x (ValueIdx.ix4 b t hh d) * _ = _
  rw [hx, h1, ← EReal.coe_mul]
  rfl

/-! ### A token's slices -/

theorem word_int (j : ℕ) (hj : j < 3072) : (BitVec.ofNat 32 j).toInt = (j : ℤ) := by
  rw [BitVec.toInt_eq_toNat_of_lt] <;> simp <;> omega

theorem row4 {n : ℕ} (x : FVec Ideal ⟨4, ![3072, 10, 20, n]⟩ .f32) (start : Fin 4 → Int) (w : (⟨4, ![3072, 10, 20, n]⟩ : Shape).Slices (fun _ => 0) ⟨4, ![1, 10, 20, n]⟩)
    (wc : (⟨4, ![1, 10, 20, n]⟩ : Shape).ShapeCasts ⟨3, ![10, 20, n]⟩)
    (j : Fin 3072) (h0 : start 0 = (j.val : ℤ)) (h1 : start 1 = (0 : ℕ)) (h2 : start 2 = (0 : ℕ)) (h3 : start 3 = (0 : ℕ)) (b : Fin 10) (h : Fin 20) (d : Fin n) :
    (shapeCast ⟨3, ![10, 20, n]⟩ (Host.dynamicSlice ⟨4, ![1, 10, 20, n]⟩ x start w) wc : FVec Ideal ⟨3, ![10, 20, n]⟩ .f32) (ValueIdx.ix3 b h d) = x (ValueIdx.ix4 j b h d) := by
  refine (shapeCast_apply _ _ _ (ValueIdx.ix4 (0 : Fin 1) b h d) ?_).trans ?_
  · rw [Shape.rowMajor_val_three, Shape.rowMajor_val_four]
    show ((0 * 10 + b.val) * 20 + h.val) * n + d.val = (b.val * 20 + h.val) * n + d.val
    rw [Nat.zero_mul, Nat.zero_add]
  · rw [Host.dynamicSlice_apply]
    refine congrArg x (funext fun a => Fin.ext ?_)
    have hj := j.isLt
    match a with
    | ⟨0, _⟩ => exact (congrArg (· + 0) (Host.clampedStart_of_le w.1 start 0 j.val h0 (by show j.val + 1 ≤ 3072; omega)))
    | ⟨1, _⟩ => exact (congrArg (· + b.val) (Host.clampedStart_of_le w.1 start 1 0 h1 (by show 0 + 10 ≤ 10; omega))).trans (Nat.zero_add _)
    | ⟨2, _⟩ => exact (congrArg (· + h.val) (Host.clampedStart_of_le w.1 start 2 0 h2 (by show 0 + 20 ≤ 20; omega))).trans (Nat.zero_add _)
    | ⟨3, _⟩ => exact (congrArg (· + d.val) (Host.clampedStart_of_le w.1 start 3 0 h3 (by show 0 + n ≤ n; omega))).trans (Nat.zero_add _)

theorem row3 (x : FVec Ideal S3072x10x20 .f32) (start : Fin 3 → Int) (w : S3072x10x20.Slices (fun _ => 0) S1x10x20) (wc : S1x10x20.ShapeCasts S10x20)
    (j : Fin 3072) (h0 : start 0 = (j.val : ℤ)) (h1 : start 1 = (0 : ℕ)) (h2 : start 2 = (0 : ℕ)) (b : Fin 10) (h : Fin 20) :
    (shapeCast S10x20 (Host.dynamicSlice S1x10x20 x start w) wc : FVec Ideal S10x20 .f32) (ValueIdx.ix2 b h) = x (ValueIdx.ix3 j b h) := by
  refine (shapeCast_apply _ _ _ (ValueIdx.ix3 (0 : Fin 1) b h) ?_).trans ?_
  · rw [Shape.rowMajor_val_three, Shape.rowMajor_val_two]; simp
  · rw [Host.dynamicSlice_apply]
    refine congrArg x (funext fun a => Fin.ext ?_)
    have hj := j.isLt
    match a with
    | ⟨0, _⟩ => exact (congrArg (· + 0) (Host.clampedStart_of_le w.1 start 0 j.val h0 (by show j.val + 1 ≤ 3072; omega)))
    | ⟨1, _⟩ => exact (congrArg (· + b.val) (Host.clampedStart_of_le w.1 start 1 0 h1 (by show 0 + 10 ≤ 10; omega))).trans (Nat.zero_add _)
    | ⟨2, _⟩ => exact (congrArg (· + h.val) (Host.clampedStart_of_le w.1 start 2 0 h2 (by show 0 + 20 ≤ 20; omega))).trans (Nat.zero_add _)

/-- Writing one token's row. -/
theorem put4 (x : FVec Ideal S3072x10x20x128 .f32) (y : FVec Ideal S1x10x20x128 .f32) (start : Fin 4 → Int) (w : S3072x10x20x128.Slices (fun _ => 0) S1x10x20x128)
    (j : Fin 3072) (h0 : start 0 = (j.val : ℤ)) (h1 : start 1 = (0 : ℕ)) (h2 : start 2 = (0 : ℕ)) (h3 : start 3 = (0 : ℕ)) (t : Fin 3072) (b : Fin 10) (h : Fin 20) (d : Fin 128) :
    Host.dynamicUpdateSlice x y start w (ValueIdx.ix4 t b h d) = if t = j then y (ValueIdx.ix4 (0 : Fin 1) b h d) else x (ValueIdx.ix4 t b h d) := by
  have hj := j.isLt
  have c0 := Host.clampedStart_of_le w.1 start 0 j.val h0 (by show j.val + 1 ≤ 3072; omega)
  have c1 := Host.clampedStart_of_le w.1 start 1 0 h1 (by show 0 + 10 ≤ 10; omega)
  have c2 := Host.clampedStart_of_le w.1 start 2 0 h2 (by show 0 + 20 ≤ 20; omega)
  have c3 := Host.clampedStart_of_le w.1 start 3 0 h3 (by show 0 + 128 ≤ 128; omega)
  rw [Host.dynamicUpdateSlice_apply]
  by_cases e : t = j
  · rw [if_pos e, dif_pos]
    · refine congrArg y (funext fun a => Fin.ext ?_)
      match a with
      | ⟨0, _⟩ => exact (congrArg (t.val - ·) c0).trans (by rw [e]; exact Nat.sub_self _)
      | ⟨1, _⟩ => exact (congrArg (b.val - ·) c1).trans (Nat.sub_zero _)
      | ⟨2, _⟩ => exact (congrArg (h.val - ·) c2).trans (Nat.sub_zero _)
      | ⟨3, _⟩ => exact (congrArg (d.val - ·) c3).trans (Nat.sub_zero _)
    · intro a
      match a with
      | ⟨0, _⟩ => exact ⟨by rw [show (⟨0, _⟩ : Fin 4) = 0 from rfl, c0, e], by rw [show (⟨0, _⟩ : Fin 4) = 0 from rfl, c0, e]; exact Nat.lt_succ_self _⟩
      | ⟨1, _⟩ => exact ⟨by rw [show (⟨1, _⟩ : Fin 4) = 1 from rfl, c1]; exact Nat.zero_le _, by rw [show (⟨1, _⟩ : Fin 4) = 1 from rfl, c1]; exact lt_of_lt_of_eq b.isLt (Nat.zero_add _).symm⟩
      | ⟨2, _⟩ => exact ⟨by rw [show (⟨2, _⟩ : Fin 4) = 2 from rfl, c2]; exact Nat.zero_le _, by rw [show (⟨2, _⟩ : Fin 4) = 2 from rfl, c2]; exact lt_of_lt_of_eq h.isLt (Nat.zero_add _).symm⟩
      | ⟨3, _⟩ => exact ⟨by rw [show (⟨3, _⟩ : Fin 4) = 3 from rfl, c3]; exact Nat.zero_le _, by rw [show (⟨3, _⟩ : Fin 4) = 3 from rfl, c3]; exact lt_of_lt_of_eq d.isLt (Nat.zero_add _).symm⟩
  · rw [if_neg e, dif_neg]
    intro hin
    have := hin 0
    rw [c0] at this
    have l1 : j.val ≤ t.val := this.1
    have l2 : t.val < j.val + 1 := this.2
    exact e (Fin.ext (by omega))

/-! ### The contraction over the key channel -/

theorem dot_at (x : FVec Ideal S10x20x96 .f32) (y : FVec Ideal S10x20x96x128 .f32) (f : ℕ → ℝ) (g : ℕ → ℝ) (b : Fin 10) (h : Fin 20) (v : Fin 128)
    (hx : ∀ d : Fin 96, x (ValueIdx.ix3 b h d) = ((f d : ℝ) : EReal)) (hy : ∀ d : Fin 96, y (ValueIdx.ix4 b h d v) = ((g d : ℝ) : EReal)) :
    (Host.dotGeneral dot_S10x20x96_S10x20x96x128_S10x20x128_2_2_n_3_01_01 (some .fp32) x y : FVec Ideal S10x20x128 .f32) (ValueIdx.ix3 b h v)
      = ((∑ d ∈ range 96, f d * g d : ℝ) : EReal) := by
  show FloatOps.dotGeneral _ _ _ _ _ (ValueIdx.ix3 b h v) = _
  rw [Ideal.dotGeneral_apply, ← Equiv.sum_comp (ValueIdx.contrEquiv1 dot_S10x20x96_S10x20x96x128_S10x20x128_2_2_n_3_01_01 96 rfl rfl).symm, ← coe_sum_fin 96 (fun d => f d * g d)]
  refine Finset.sum_congr rfl fun k _ => ?_
  have c2 := ValueIdx.contrEquiv1_symm_val dot_S10x20x96_S10x20x96x128_S10x20x128_2_2_n_3_01_01 96 rfl rfl k
  have l2 : dot_S10x20x96_S10x20x96x128_S10x20x128_2_2_n_3_01_01.lhsIdx (ValueIdx.ix3 b h v) ((ValueIdx.contrEquiv1 _ 96 rfl rfl).symm k) = ValueIdx.ix3 b h k := by
    funext ax; apply Fin.ext
    match ax with
    | ⟨0, _⟩ => simp [DotDims.lhsIdx, dot_S10x20x96_S10x20x96x128_S10x20x128_2_2_n_3_01_01]; rfl
    | ⟨1, _⟩ => simp [DotDims.lhsIdx, dot_S10x20x96_S10x20x96x128_S10x20x128_2_2_n_3_01_01]; rfl
    | ⟨2, _⟩ => simp [DotDims.lhsIdx, dot_S10x20x96_S10x20x96x128_S10x20x128_2_2_n_3_01_01]; exact c2
  have r2 : dot_S10x20x96_S10x20x96x128_S10x20x128_2_2_n_3_01_01.rhsIdx (ValueIdx.ix3 b h v) ((ValueIdx.contrEquiv1 _ 96 rfl rfl).symm k) = ValueIdx.ix4 b h k v := by
    funext ax; apply Fin.ext
    match ax with
    | ⟨0, _⟩ => simp [DotDims.rhsIdx, dot_S10x20x96_S10x20x96x128_S10x20x128_2_2_n_3_01_01]; rfl
    | ⟨1, _⟩ => simp [DotDims.rhsIdx, dot_S10x20x96_S10x20x96x128_S10x20x128_2_2_n_3_01_01]; rfl
    | ⟨2, _⟩ => simp [DotDims.rhsIdx, dot_S10x20x96_S10x20x96x128_S10x20x128_2_2_n_3_01_01]; exact c2
    | ⟨3, _⟩ => simp [DotDims.rhsIdx, dot_S10x20x96_S10x20x96x128_S10x20x128_2_2_n_3_01_01]; rfl
  rw [l2, r2, hx k, hy k, ← EReal.coe_mul]

end Kda.Ref
-- ==== Proof.Ref.StepRun.lean ====
/-
  The reference's token loop, run: after k trips the carried values are the k-th state of `Step.step`.
-/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v31_6) = s.main_v31_6
  f_7 : V0 (Proc.devRef .tc main_v31_7) = s.main_v31_7
  f_0 : V0 (Proc.devRef .tc main_v31_0) = s.main_v31_0
  f_1 : V0 (Proc.devRef .tc main_v31_1) = s.main_v31_1
  f_2 : V0 (Proc.devRef .tc main_v31_2) = s.main_v31_2
  f_3 : V0 (Proc.devRef .tc main_v31_3) = s.main_v31_3
  f_4 : V0 (Proc.devRef .tc main_v31_4) = s.main_v31_4
  n_5 : V0 (Proc.devRef .tc main_v31_5) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x10x20x96 (V0 (Proc.devRef .tc main_v31_0)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_5]
  try rfl
set_option maxRecDepth 8192 in
theorem al_4 (h : Holds V0 s j) : (shapeCast S10x20x96 (Host.dynamicSlice S1x10x20x96 (V0 (Proc.devRef .tc main_v31_0)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96) shapeCasts_S1x10x20x96_S10x20x96 : (Proc.devRef .tc main_while0b_v35 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x10x20x96 (V0 (Proc.devRef .tc main_v31_1)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_5]
  try rfl
set_option maxRecDepth 8192 in
theorem al_9 (h : Holds V0 s j) : (res_main_while0b_v36 V0 : (Proc.devRef .tc main_while0b_v36 : DevRef τ sig).ty.Contents (Elt F)) = Cert.ReferenceIdeal.Step.b9 j s := by
  unfold res_main_while0b_v36 Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x10x20x128 (V0 (Proc.devRef .tc main_v31_2)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x128_S1x10x20x128 : (Proc.devRef .tc main_while0b_call2_v0 : DevRef τ sig).ty.Contents (Elt F)) = Cert.ReferenceIdeal.Step.b13 j s := by
  unfold Cert.ReferenceIdeal.Step.b13
  rw [← al_10 h, ← al_11 h, ← al_12 h, h.f_2, h.n_5]
  try rfl
set_option maxRecDepth 8192 in
theorem al_14 (h : Holds V0 s j) : (shapeCast S10x20x128 (Host.dynamicSlice S1x10x20x128 (V0 (Proc.devRef .tc main_v31_2)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x128_S1x10x20x128) shapeCasts_S1x10x20x128_S10x20x128 : (Proc.devRef .tc main_while0b_v37 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call3_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x10x20x96 (V0 (Proc.devRef .tc main_v31_3)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96 : (Proc.devRef .tc main_while0b_call3_v0 : DevRef τ sig).ty.Contents (Elt F)) = Cert.ReferenceIdeal.Step.b18 j s := by
  unfold Cert.ReferenceIdeal.Step.b18
  rw [← al_15 h, ← al_16 h, ← al_17 h, h.f_3, h.n_5]
  try rfl
set_option maxRecDepth 8192 in
theorem al_19 (h : Holds V0 s j) : (shapeCast S10x20x96 (Host.dynamicSlice S1x10x20x96 (V0 (Proc.devRef .tc main_v31_3)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96) shapeCasts_S1x10x20x96_S10x20x96 : (Proc.devRef .tc main_while0b_v38 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constantI S_ 32 0#32 : (Proc.devRef .tc main_while0b_call4_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_0 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x10x20 (V0 (Proc.devRef .tc main_v31_4)) (fun k => (((![V0 (Proc.devRef .tc main_v31_5), constantI S_ 32 0#32, constantI S_ 32 0#32] : Fin 3 → (⟨S_, .i32⟩ : BufTy).Contents (Elt F))) k (Shape.Idx.first h_S_)).toInt) sliceFits_S3072x10x20_S1x10x20 : (Proc.devRef .tc main_while0b_call4_v0 : DevRef τ sig).ty.Contents (Elt F)) = Cert.ReferenceIdeal.Step.b22 j s := by
  unfold Cert.ReferenceIdeal.Step.b22
  rw [← al_20 h, ← al_21 h, h.f_4, h.n_5]
  try rfl
set_option maxRecDepth 8192 in
theorem al_23 (h : Holds V0 s j) : (shapeCast S10x20 (Host.dynamicSlice S1x10x20 (V0 (Proc.devRef .tc main_v31_4)) (fun k => (((![V0 (Proc.devRef .tc main_v31_5), constantI S_ 32 0#32, constantI S_ 32 0#32] : Fin 3 → (⟨S_, .i32⟩ : BufTy).Contents (Elt F))) k (Shape.Idx.first h_S_)).toInt) sliceFits_S3072x10x20_S1x10x20) shapeCasts_S1x10x20_S10x20 : (Proc.devRef .tc main_while0b_v39 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (Host.exp (shapeCast S10x20x96 (Host.dynamicSlice S1x10x20x96 (V0 (Proc.devRef .tc main_v31_3)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96) shapeCasts_S1x10x20x96_S10x20x96) : (Proc.devRef .tc main_while0b_v40 : DevRef τ sig).ty.Contents (Elt F)) = Cert.ReferenceIdeal.Step.b24 j s := by
  unfold Cert.ReferenceIdeal.Step.b24
  rw [← al_19 h]
  try rfl
set_option maxRecDepth 8192 in
theorem al_25 (h : Holds V0 s j) : (broadcastInDim S10x20x96x1 ![0, 1, 2] bcast_S10x20x96_S10x20x96x1_0_1_2 (Host.exp (shapeCast S10x20x96 (Host.dynamicSlice S1x10x20x96 (V0 (Proc.devRef .tc main_v31_3)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96) shapeCasts_S1x10x20x96_S10x20x96)) : (Proc.devRef .tc main_while0b_v41 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (broadcastInDim S10x20x96x128 ![0, 1, 2, 3] bcast_S10x20x96x1_S10x20x96x128_0_1_2_3 (broadcastInDim S10x20x96x1 ![0, 1, 2] bcast_S10x20x96_S10x20x96x1_0_1_2 (Host.exp (shapeCast S10x20x96 (Host.dynamicSlice S1x10x20x96 (V0 (Proc.devRef .tc main_v31_3)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96) shapeCasts_S1x10x20x96_S10x20x96))) : (Proc.devRef .tc main_while0b_v42 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (res_main_while0b_v43 V0 : (Proc.devRef .tc main_while0b_v43 : DevRef τ sig).ty.Contents (Elt F)) = Cert.ReferenceIdeal.Step.b27 j s := by
  unfold res_main_while0b_v43 Cert.ReferenceIdeal.Step.b27
  rw [← al_26 h, h.f_6]
  try rfl
set_option maxRecDepth 8192 in
theorem al_28 (h : Holds V0 s j) : (broadcastInDim S10x20x1 ![0, 1] bcast_S10x20_S10x20x1_0_1 (shapeCast S10x20 (Host.dynamicSlice S1x10x20 (V0 (Proc.devRef .tc main_v31_4)) (fun k => (((![V0 (Proc.devRef .tc main_v31_5), constantI S_ 32 0#32, constantI S_ 32 0#32] : Fin 3 → (⟨S_, .i32⟩ : BufTy).Contents (Elt F))) k (Shape.Idx.first h_S_)).toInt) sliceFits_S3072x10x20_S1x10x20) shapeCasts_S1x10x20_S10x20) : (Proc.devRef .tc main_while0b_v44 : DevRef τ sig).ty.Contents (Elt F)) = Cert.ReferenceIdeal.Step.b28 j s := by
  unfold Cert.ReferenceIdeal.Step.b28
  rw [← al_23 h]
  try rfl
set_option maxRecDepth 8192 in
theorem al_29 (h : Holds V0 s j) : (Host.dotGeneral dot_S10x20x96_S10x20x96x128_S10x20x128_2_2_n_3_01_01 (some .fp32) (res_main_while0b_v36 V0) (res_main_while0b_v43 V0) : (Proc.devRef .tc main_while0b_v45 : DevRef τ sig).ty.Contents (Elt F)) = Cert.ReferenceIdeal.Step.b29 j s := by
  unfold Cert.ReferenceIdeal.Step.b29
  rw [← al_9 h, ← al_27 h]
  try rfl
set_option maxRecDepth 8192 in
theorem al_30 (h : Holds V0 s j) : (subf (shapeCast S10x20x128 (Host.dynamicSlice S1x10x20x128 (V0 (Proc.devRef .tc main_v31_2)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x128_S1x10x20x128) shapeCasts_S1x10x20x128_S10x20x128) (Host.dotGeneral dot_S10x20x96_S10x20x96x128_S10x20x128_2_2_n_3_01_01 (some .fp32) (res_main_while0b_v36 V0) (res_main_while0b_v43 V0)) : (Proc.devRef .tc main_while0b_v46 : DevRef τ sig).ty.Contents (Elt F)) = Cert.ReferenceIdeal.Step.b30 j s := by
  unfold Cert.ReferenceIdeal.Step.b30
  rw [← al_14 h, ← al_29 h]
  try rfl
set_option maxRecDepth 8192 in
theorem al_31 (h : Holds V0 s j) : (broadcastInDim S10x20x128 ![0, 1, 2] bcast_S10x20x1_S10x20x128_0_1_2 (broadcastInDim S10x20x1 ![0, 1] bcast_S10x20_S10x20x1_0_1 (shapeCast S10x20 (Host.dynamicSlice S1x10x20 (V0 (Proc.devRef .tc main_v31_4)) (fun k => (((![V0 (Proc.devRef .tc main_v31_5), constantI S_ 32 0#32, constantI S_ 32 0#32] : Fin 3 → (⟨S_, .i32⟩ : BufTy).Contents (Elt F))) k (Shape.Idx.first h_S_)).toInt) sliceFits_S3072x10x20_S1x10x20) shapeCasts_S1x10x20_S10x20)) : (Proc.devRef .tc main_while0b_v47 : DevRef τ sig).ty.Contents (Elt F)) = Cert.ReferenceIdeal.Step.b31 j s := by
  unfold Cert.ReferenceIdeal.Step.b31
  rw [← al_28 h]
  try rfl
set_option maxRecDepth 8192 in
theorem al_32 (h : Holds V0 s j) : (mulf (broadcastInDim S10x20x128 ![0, 1, 2] bcast_S10x20x1_S10x20x128_0_1_2 (broadcastInDim S10x20x1 ![0, 1] bcast_S10x20_S10x20x1_0_1 (shapeCast S10x20 (Host.dynamicSlice S1x10x20 (V0 (Proc.devRef .tc main_v31_4)) (fun k => (((![V0 (Proc.devRef .tc main_v31_5), constantI S_ 32 0#32, constantI S_ 32 0#32] : Fin 3 → (⟨S_, .i32⟩ : BufTy).Contents (Elt F))) k (Shape.Idx.first h_S_)).toInt) sliceFits_S3072x10x20_S1x10x20) shapeCasts_S1x10x20_S10x20))) (subf (shapeCast S10x20x128 (Host.dynamicSlice S1x10x20x128 (V0 (Proc.devRef .tc main_v31_2)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x128_S1x10x20x128) shapeCasts_S1x10x20x128_S10x20x128) (Host.dotGeneral dot_S10x20x96_S10x20x96x128_S10x20x128_2_2_n_3_01_01 (some .fp32) (res_main_while0b_v36 V0) (res_main_while0b_v43 V0))) : (Proc.devRef .tc main_while0b_v48 : DevRef τ sig).ty.Contents (Elt F)) = Cert.ReferenceIdeal.Step.b32 j s := by
  unfold Cert.ReferenceIdeal.Step.b32
  rw [← al_31 h, ← al_30 h]
  try rfl
set_option maxRecDepth 8192 in
theorem al_33 (h : Holds V0 s j) : (broadcastInDim S10x20x96x1 ![0, 1, 2] bcast_S10x20x96_S10x20x96x1_0_1_2 (res_main_while0b_v36 V0) : (Proc.devRef .tc main_while0b_v49 : DevRef τ sig).ty.Contents (Elt F)) = Cert.ReferenceIdeal.Step.b33 j s := by
  unfold Cert.ReferenceIdeal.Step.b33
  rw [← al_9 h]
  try rfl
set_option maxRecDepth 8192 in
theorem al_34 (h : Holds V0 s j) : (broadcastInDim S10x20x1x128 ![0, 1, 3] bcast_S10x20x128_S10x20x1x128_0_1_3 (mulf (broadcastInDim S10x20x128 ![0, 1, 2] bcast_S10x20x1_S10x20x128_0_1_2 (broadcastInDim S10x20x1 ![0, 1] bcast_S10x20_S10x20x1_0_1 (shapeCast S10x20 (Host.dynamicSlice S1x10x20 (V0 (Proc.devRef .tc main_v31_4)) (fun k => (((![V0 (Proc.devRef .tc main_v31_5), constantI S_ 32 0#32, constantI S_ 32 0#32] : Fin 3 → (⟨S_, .i32⟩ : BufTy).Contents (Elt F))) k (Shape.Idx.first h_S_)).toInt) sliceFits_S3072x10x20_S1x10x20) shapeCasts_S1x10x20_S10x20))) (subf (shapeCast S10x20x128 (Host.dynamicSlice S1x10x20x128 (V0 (Proc.devRef .tc main_v31_2)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x128_S1x10x20x128) shapeCasts_S1x10x20x128_S10x20x128) (Host.dotGeneral dot_S10x20x96_S10x20x96x128_S10x20x128_2_2_n_3_01_01 (some .fp32) (res_main_while0b_v36 V0) (res_main_while0b_v43 V0)))) : (Proc.devRef .tc main_while0b_v50 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (broadcastInDim S10x20x96x128 ![0, 1, 2, 3] bcast_S10x20x96x1_S10x20x96x128_0_1_2_3 (broadcastInDim S10x20x96x1 ![0, 1, 2] bcast_S10x20x96_S10x20x96x1_0_1_2 (res_main_while0b_v36 V0)) : (Proc.devRef .tc main_while0b_v51 : DevRef τ sig).ty.Contents (Elt F)) = Cert.ReferenceIdeal.Step.b35 j s := by
  unfold Cert.ReferenceIdeal.Step.b35
  rw [← al_33 h]
  try rfl
set_option maxRecDepth 8192 in
theorem al_36 (h : Holds V0 s j) : (broadcastInDim S10x20x96x128 ![0, 1, 2, 3] bcast_S10x20x1x128_S10x20x96x128_0_1_2_3 (broadcastInDim S10x20x1x128 ![0, 1, 3] bcast_S10x20x128_S10x20x1x128_0_1_3 (mulf (broadcastInDim S10x20x128 ![0, 1, 2] bcast_S10x20x1_S10x20x128_0_1_2 (broadcastInDim S10x20x1 ![0, 1] bcast_S10x20_S10x20x1_0_1 (shapeCast S10x20 (Host.dynamicSlice S1x10x20 (V0 (Proc.devRef .tc main_v31_4)) (fun k => (((![V0 (Proc.devRef .tc main_v31_5), constantI S_ 32 0#32, constantI S_ 32 0#32] : Fin 3 → (⟨S_, .i32⟩ : BufTy).Contents (Elt F))) k (Shape.Idx.first h_S_)).toInt) sliceFits_S3072x10x20_S1x10x20) shapeCasts_S1x10x20_S10x20))) (subf (shapeCast S10x20x128 (Host.dynamicSlice S1x10x20x128 (V0 (Proc.devRef .tc main_v31_2)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x128_S1x10x20x128) shapeCasts_S1x10x20x128_S10x20x128) (Host.dotGeneral dot_S10x20x96_S10x20x96x128_S10x20x128_2_2_n_3_01_01 (some .fp32) (res_main_while0b_v36 V0) (res_main_while0b_v43 V0))))) : (Proc.devRef .tc main_while0b_v52 : DevRef τ sig).ty.Contents (Elt F)) = Cert.ReferenceIdeal.Step.b36 j s := by
  unfold Cert.ReferenceIdeal.Step.b36
  rw [← al_34 h]
  try rfl
set_option maxRecDepth 8192 in
theorem al_37 (h : Holds V0 s j) : (mulf (broadcastInDim S10x20x96x128 ![0, 1, 2, 3] bcast_S10x20x96x1_S10x20x96x128_0_1_2_3 (broadcastInDim S10x20x96x1 ![0, 1, 2] bcast_S10x20x96_S10x20x96x1_0_1_2 (res_main_while0b_v36 V0))) (broadcastInDim S10x20x96x128 ![0, 1, 2, 3] bcast_S10x20x1x128_S10x20x96x128_0_1_2_3 (broadcastInDim S10x20x1x128 ![0, 1, 3] bcast_S10x20x128_S10x20x1x128_0_1_3 (mulf (broadcastInDim S10x20x128 ![0, 1, 2] bcast_S10x20x1_S10x20x128_0_1_2 (broadcastInDim S10x20x1 ![0, 1] bcast_S10x20_S10x20x1_0_1 (shapeCast S10x20 (Host.dynamicSlice S1x10x20 (V0 (Proc.devRef .tc main_v31_4)) (fun k => (((![V0 (Proc.devRef .tc main_v31_5), constantI S_ 32 0#32, constantI S_ 32 0#32] : Fin 3 → (⟨S_, .i32⟩ : BufTy).Contents (Elt F))) k (Shape.Idx.first h_S_)).toInt) sliceFits_S3072x10x20_S1x10x20) shapeCasts_S1x10x20_S10x20))) (subf (shapeCast S10x20x128 (Host.dynamicSlice S1x10x20x128 (V0 (Proc.devRef .tc main_v31_2)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x128_S1x10x20x128) shapeCasts_S1x10x20x128_S10x20x128) (Host.dotGeneral dot_S10x20x96_S10x20x96x128_S10x20x128_2_2_n_3_01_01 (some .fp32) (res_main_while0b_v36 V0) (res_main_while0b_v43 V0)))))) : (Proc.devRef .tc main_while0b_v53 : DevRef τ sig).ty.Contents (Elt F)) = Cert.ReferenceIdeal.Step.b37 j s := by
  unfold Cert.ReferenceIdeal.Step.b37
  rw [← al_35 h, ← al_36 h]
  try rfl
set_option maxRecDepth 8192 in
theorem al_38 (h : Holds V0 s j) : (res_main_while0b_v54 V0 : (Proc.devRef .tc main_while0b_v54 : DevRef τ sig).ty.Contents (Elt F)) = Cert.ReferenceIdeal.Step.b38 j s := by
  unfold res_main_while0b_v54 Cert.ReferenceIdeal.Step.b38
  rw [← al_27 h, ← al_37 h]
  try rfl
set_option maxRecDepth 8192 in
theorem al_39 (h : Holds V0 s j) : (Host.dotGeneral dot_S10x20x96_S10x20x96x128_S10x20x128_2_2_n_3_01_01 (some .fp32) (shapeCast S10x20x96 (Host.dynamicSlice S1x10x20x96 (V0 (Proc.devRef .tc main_v31_0)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96) shapeCasts_S1x10x20x96_S10x20x96) (res_main_while0b_v54 V0) : (Proc.devRef .tc main_while0b_v55 : DevRef τ sig).ty.Contents (Elt F)) = Cert.ReferenceIdeal.Step.b39 j s := by
  unfold Cert.ReferenceIdeal.Step.b39
  rw [← al_4 h, ← al_38 h]
  try rfl
set_option maxRecDepth 8192 in
theorem al_40 (h : Holds V0 s j) : (constant S_ .f32 0x3DD105EC#32 : (Proc.devRef .tc main_while0b_cst_11 : DevRef τ sig).ty.Contents (Elt F)) = Cert.ReferenceIdeal.Step.b40 j s := by
  unfold Cert.ReferenceIdeal.Step.b40
  rfl
set_option maxRecDepth 8192 in
theorem al_41 (h : Holds V0 s j) : (broadcastInDim S10x20x128 ![] bcast_S_S10x20x128 (constant S_ .f32 0x3DD105EC#32) : (Proc.devRef .tc main_while0b_v56 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (mulf (broadcastInDim S10x20x128 ![] bcast_S_S10x20x128 (constant S_ .f32 0x3DD105EC#32)) (Host.dotGeneral dot_S10x20x96_S10x20x96x128_S10x20x128_2_2_n_3_01_01 (some .fp32) (shapeCast S10x20x96 (Host.dynamicSlice S1x10x20x96 (V0 (Proc.devRef .tc main_v31_0)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96) shapeCasts_S1x10x20x96_S10x20x96) (res_main_while0b_v54 V0)) : (Proc.devRef .tc main_while0b_v57 : DevRef τ sig).ty.Contents (Elt F)) = Cert.ReferenceIdeal.Step.b42 j s := by
  unfold Cert.ReferenceIdeal.Step.b42
  rw [← al_41 h, ← al_39 h]
  try rfl
set_option maxRecDepth 8192 in
theorem al_43 (h : Holds V0 s j) : (broadcastInDim S1x10x20x128 ![1, 2, 3] bcast_S10x20x128_S1x10x20x128_1_2_3 (mulf (broadcastInDim S10x20x128 ![] bcast_S_S10x20x128 (constant S_ .f32 0x3DD105EC#32)) (Host.dotGeneral dot_S10x20x96_S10x20x96x128_S10x20x128_2_2_n_3_01_01 (some .fp32) (shapeCast S10x20x96 (Host.dynamicSlice S1x10x20x96 (V0 (Proc.devRef .tc main_v31_0)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96) shapeCasts_S1x10x20x96_S10x20x96) (res_main_while0b_v54 V0))) : (Proc.devRef .tc main_while0b_call5_v0 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (constantI S_ 32 0#32 : (Proc.devRef .tc main_while0b_call5_c : DevRef τ sig).ty.Contents (Elt F)) = Cert.ReferenceIdeal.Step.b44 j s := by
  unfold Cert.ReferenceIdeal.Step.b44
  rfl
set_option maxRecDepth 8192 in
theorem al_45 (h : Holds V0 s j) : (constantI S_ 32 0#32 : (Proc.devRef .tc main_while0b_call5_c_0 : DevRef τ sig).ty.Contents (Elt F)) = Cert.ReferenceIdeal.Step.b45 j s := by
  unfold Cert.ReferenceIdeal.Step.b45
  rfl
set_option maxRecDepth 8192 in
theorem al_46 (h : Holds V0 s j) : (constantI S_ 32 0#32 : (Proc.devRef .tc main_while0b_call5_c_1 : DevRef τ sig).ty.Contents (Elt F)) = Cert.ReferenceIdeal.Step.b46 j s := by
  unfold Cert.ReferenceIdeal.Step.b46
  rfl
set_option maxRecDepth 8192 in
theorem al_47 (h : Holds V0 s j) : (Host.dynamicUpdateSlice (V0 (Proc.devRef .tc main_v31_7)) (broadcastInDim S1x10x20x128 ![1, 2, 3] bcast_S10x20x128_S1x10x20x128_1_2_3 (mulf (broadcastInDim S10x20x128 ![] bcast_S_S10x20x128 (constant S_ .f32 0x3DD105EC#32)) (Host.dotGeneral dot_S10x20x96_S10x20x96x128_S10x20x128_2_2_n_3_01_01 (some .fp32) (shapeCast S10x20x96 (Host.dynamicSlice S1x10x20x96 (V0 (Proc.devRef .tc main_v31_0)) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) sliceFits_S3072x10x20x96_S1x10x20x96) shapeCasts_S1x10x20x96_S10x20x96) (res_main_while0b_v54 V0)))) (fun k => (((![V0 (Proc.devRef .tc main_v31_5), constantI S_ 32 0#32, constantI S_ 32 0#32, constantI S_ 32 0#32] : Fin 4 → (⟨S_, .i32⟩ : BufTy).Contents (Elt F))) k (Shape.Idx.first h_S_)).toInt) updateFits_S3072x10x20x128_S1x10x20x128 : (Proc.devRef .tc main_while0b_v58 : DevRef τ sig).ty.Contents (Elt F)) = Cert.ReferenceIdeal.Step.b47 j s := by
  unfold Cert.ReferenceIdeal.Step.b47
  rw [← al_43 h, ← al_44 h, ← al_45 h, ← al_46 h, h.f_7, h.n_5]
  try rfl

/-! One trip's step of the carried values is `step`, field by field; a counter steps to the next number. -/

theorem step_6 (h : Holds V0 s j) : step_main_v31_6 V0 = (step j s).main_v31_6 := by
  unfold step_main_v31_6 Cert.ReferenceIdeal.Step.step
  show id (res_main_while0b_v54 V0) = _
  rw [al_38 h]
  try rfl
set_option maxRecDepth 8192 in
theorem step_7 (h : Holds V0 s j) : step_main_v31_7 V0 = (step j s).main_v31_7 := by
  unfold step_main_v31_7 Cert.ReferenceIdeal.Step.step
  exact al_47 h
theorem step_5 (h : Holds V0 s j) : step_main_v31_5 V0 = constantI S_ 32 (BitVec.ofNat 32 (j + 1)) := by
  unfold step_main_v31_5
  rw [h.n_5]
  funext i
  show BitVec.ofNat 32 j + 1#32 = BitVec.ofNat 32 (j + 1)
  simp only [BitVec.ofNat_add]

set_option maxRecDepth 8192 in
theorem out_main_v34_holds (h : Holds V0 s j) : out_main_v34 V0 = Cert.ReferenceIdeal.Step.R_main_v34 s := by
  unfold out_main_v34 Cert.ReferenceIdeal.Step.R_main_v34
  rw [h.f_7]
  try rfl

/-- One trip keeps the valuation holding: `step` of the state, the same set-up values, the next number. -/
theorem holds_step (h : Holds V0 s j) : Holds (STEP V0) (step j s) (j + 1) where
  f_6 := (STEP_main_v31_6 V0).trans (step_6 h)
  f_7 := (STEP_main_v31_7 V0).trans (step_7 h)
  n_5 := (STEP_main_v31_5 V0).trans (step_5 h)
  f_0 := (STEP_main_v31_0 V0).trans h.f_0
  f_1 := (STEP_main_v31_1 V0).trans h.f_1
  f_2 := (STEP_main_v31_2 V0).trans h.f_2
  f_3 := (STEP_main_v31_3 V0).trans h.f_3
  f_4 := (STEP_main_v31_4 V0).trans h.f_4

/-- The state the first trip starts from, of the memory the run starts from. -/
abbrev initState (m : (ℓ : Loc nD τ sig) → Buf (Elt F) ℓ) (c : Dev nD) : State F :=
  init (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 3072 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v34) = Cert.ReferenceIdeal.Step.R_main_v34 (it c 3072)
      ∧ r.2.mem ((c.tc : Thread nD τ).loc main_v31_6) = (it c 3072).main_v31_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 3072
    ⟨(h c).1.trans (out_main_v34_holds hk), (h c).2.1.trans hk.f_6, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.StepRun

end
-- ==== Proof.Ref.Value.lean ====
/-
  The reference's results over the reals: its token loop computes the token recurrence.
-/
module

public import proofs.«01_k».proof.Proof.Ref.Ops
public import proofs.«01_k».proof.Proof.Ref.StepRun

@[expose] public section

set_option maxRecDepth 16384

noncomputable section

namespace Kda.Ref

open Idealize.ShloMosaic Idealize.ShloMosaic.TcCoe Idealize.ShloMosaic.Tactic
open Idealize.SL Idealize.SL.Sem Cert.ReferenceIdeal Cert.ReferenceIdeal.Gen Cert.ReferenceIdeal.Step
open Finset (range)

/-- What the loop's state holds after some tokens. -/
structure Inv (D : Data) (n : ℕ) (s : State Ideal) : Prop where
  q : ∀ (t : Fin 3072) (b : Fin 10) (h : Fin 20) (d : Fin 96), s.main_v31_0 (ValueIdx.ix4 t b h d) = ((D.qd b h d t : ℝ) : EReal)
  k : ∀ (t : Fin 3072) (b : Fin 10) (h : Fin 20) (d : Fin 96), s.main_v31_1 (ValueIdx.ix4 t b h d) = ((D.kd b h d t : ℝ) : EReal)
  v : ∀ (t : Fin 3072) (b : Fin 10) (h : Fin 20) (v : Fin 128), s.main_v31_2 (ValueIdx.ix4 t b h v) = ((D.v b h t v : ℝ) : EReal)
  g : ∀ (t : Fin 3072) (b : Fin 10) (h : Fin 20) (d : Fin 96), s.main_v31_3 (ValueIdx.ix4 t b h d) = ((D.g b h d t : ℝ) : EReal)
  b : ∀ (t : Fin 3072) (b : Fin 10) (h : Fin 20), s.main_v31_4 (ValueIdx.ix3 t b h) = ((D.b b h t : ℝ) : EReal)
  st : ∀ (b : Fin 10) (h : Fin 20) (d : Fin 96) (v : Fin 128), s.main_v31_6 (ValueIdx.ix4 b h d v) = ((D.st b h n d v : ℝ) : EReal)
  o : ∀ (t : Fin 3072) (b : Fin 10) (h : Fin 20) (v : Fin 128), t.val < n → s.main_v31_7 (ValueIdx.ix4 t b h v) = ((D.out b h t v : ℝ) : EReal)

section Trip
variable {D : Data} {s : State Ideal} (j : Fin 3072) (I : Inv D j s)
include I

theorem b4_at (b : Fin 10) (h : Fin 20) (d : Fin 96) : b4 (F := Ideal) j s (ValueIdx.ix3 b h d) = ((D.qd b h d j : ℝ) : EReal) :=
  (row4 _ _ _ _ j (word_int j j.isLt) rfl rfl rfl b h d).trans (I.q j b h d)
theorem b9_at (b : Fin 10) (h : Fin 20) (d : Fin 96) : b9 (F := Ideal) j s (ValueIdx.ix3 b h d) = ((D.kd b h d j : ℝ) : EReal) :=
  (row4 _ _ _ _ j (word_int j j.isLt) rfl rfl rfl b h d).trans (I.k j b h d)
theorem b14_at (b : Fin 10) (h : Fin 20) (v : Fin 128) : b14 (F := Ideal) j s (ValueIdx.ix3 b h v) = ((D.v b h j v : ℝ) : EReal) :=
  (row4 _ _ _ _ j (word_int j j.isLt) rfl rfl rfl b h v).trans (I.v j b h v)
theorem b19_at (b : Fin 10) (h : Fin 20) (d : Fin 96) : b19 (F := Ideal) j s (ValueIdx.ix3 b h d) = ((D.g b h d j : ℝ) : EReal) :=
  (row4 _ _ _ _ j (word_int j j.isLt) rfl rfl rfl b h d).trans (I.g j b h d)
theorem b23_at (b : Fin 10) (h : Fin 20) : b23 (F := Ideal) j s (ValueIdx.ix2 b h) = ((D.b b h j : ℝ) : EReal) :=
  (row3 _ _ _ _ j (word_int j j.isLt) rfl rfl b h).trans (I.b j b h)

/-- The decayed state. -/
theorem b27_at (b : Fin 10) (h : Fin 20) (d : Fin 96) (v : Fin 128) : b27 (F := Ideal) j s (ValueIdx.ix4 b h d v) = ((Real.exp (D.g b h d j) * D.st b h j d v : ℝ) : EReal) := by
  have e : b26 (F := Ideal) j s (ValueIdx.ix4 b h d v) = ((Real.exp (D.g b h d j) : ℝ) : EReal) := by
    refine (broadcastInDim_apply _ _ _ _ (ValueIdx.ix4 b h d (0 : Fin 1)) (by intro k; fin_cases k <;> rfl)).trans ?_
    refine (broadcastInDim_apply _ _ _ _ (ValueIdx.ix3 b h d) (by intro k; fin_cases k <;> rfl)).trans ?_
    show Ideal.exp (b19 (F := Ideal) j s (ValueIdx.ix3 b h d)) = _
    rw [b19_at j I]; rfl
  show b26 (F := Ideal) j s (ValueIdx.ix4 b h d v) * s.main_v31_6 (ValueIdx.ix4 b h d v) = _
  rw [e, I.st, ← EReal.coe_mul]

/-- The written row. -/
theorem b32_at (b : Fin 10) (h : Fin 20) (v : Fin 128) : b32 (F := Ideal) j s (ValueIdx.ix3 b h v)
    = ((tokU (D.kd b h) (D.g b h) (D.v b h) (D.b b h) (D.st b h j) j v : ℝ) : EReal) := by
  have e29 : b29 (F := Ideal) j s (ValueIdx.ix3 b h v) = ((∑ d ∈ range 96, D.kd b h d j * (Real.exp (D.g b h d j) * D.st b h j d v) : ℝ) : EReal) :=
    dot_at _ _ (fun d => D.kd b h d j) (fun d => Real.exp (D.g b h d j) * D.st b h j d v) b h v (b9_at j I b h) (fun d => b27_at j I b h d v)
  have e31 : b31 (F := Ideal) j s (ValueIdx.ix3 b h v) = ((D.b b h j : ℝ) : EReal) := by
    refine (broadcastInDim_apply _ _ _ _ (ValueIdx.ix3 b h (0 : Fin 1)) (by intro k; fin_cases k <;> rfl)).trans ?_
    exact (broadcastInDim_apply _ _ _ _ (ValueIdx.ix2 b h) (by intro k; fin_cases k <;> rfl)).trans (b23_at j I b h)
  show b31 (F := Ideal) j s (ValueIdx.ix3 b h v) * (b14 (F := Ideal) j s (ValueIdx.ix3 b h v) - b29 (F := Ideal) j s (ValueIdx.ix3 b h v)) = _
  rw [e31, b14_at j I, e29, ← EReal.coe_sub, ← EReal.coe_mul]
  rfl

/-- The new state. -/
theorem b38_at (b : Fin 10) (h : Fin 20) (d : Fin 96) (v : Fin 128) : b38 (F := Ideal) j s (ValueIdx.ix4 b h d v) = ((D.st b h (j + 1) d v : ℝ) : EReal) := by
  have e35 : b35 (F := Ideal) j s (ValueIdx.ix4 b h d v) = ((D.kd b h d j : ℝ) : EReal) := by
    refine (broadcastInDim_apply _ _ _ _ (ValueIdx.ix4 b h d (0 : Fin 1)) (by intro k; fin_cases k <;> rfl)).trans ?_
    exact (broadcastInDim_apply _ _ _ _ (ValueIdx.ix3 b h d) (by intro k; fin_cases k <;> rfl)).trans (b9_at j I b h d)
  have e36 : b36 (F := Ideal) j s (ValueIdx.ix4 b h d v) = ((tokU (D.kd b h) (D.g b h) (D.v b h) (D.b b h) (D.st b h j) j v : ℝ) : EReal) := by
    refine (broadcastInDim_apply _ _ _ _ (ValueIdx.ix4 b h (0 : Fin 1) v) (by intro k; fin_cases k <;> rfl)).trans ?_
    exact (broadcastInDim_apply _ _ _ _ (ValueIdx.ix3 b h v) (by intro k; fin_cases k <;> rfl)).trans (b32_at j I b h v)
  show b27 (F := Ideal) j s (ValueIdx.ix4 b h d v) + b35 (F := Ideal) j s (ValueIdx.ix4 b h d v) * b36 (F := Ideal) j s (ValueIdx.ix4 b h d v) = _
  rw [b27_at j I, e35, e36, ← EReal.coe_mul, ← EReal.coe_add]
  rfl

/-- The token's output. -/
theorem b43_at (b : Fin 10) (h : Fin 20) (v : Fin 128) : b43 (F := Ideal) j s (ValueIdx.ix4 (0 : Fin 1) b h v) = ((D.out b h j v : ℝ) : EReal) := by
  refine (broadcastInDim_apply _ _ _ _ (ValueIdx.ix3 b h v) (by intro k; fin_cases k <;> rfl)).trans ?_
  have e39 : b39 (F := Ideal) j s (ValueIdx.ix3 b h v) = ((∑ d ∈ range 96, D.qd b h d j * D.st b h (j + 1) d v : ℝ) : EReal) :=
    dot_at _ _ (fun d => D.qd b h d j) (fun d => D.st b h (j + 1) d v) b h v (b4_at j I b h) (fun d => b38_at j I b h d v)
  show Ideal.ofBits .f32 0x3DD105EC#32 * b39 (F := Ideal) j s (ValueIdx.ix3 b h v) = _
  rw [scl_bits, e39, ← EReal.coe_mul]
  rfl

/-- One token. -/
theorem inv_step : Inv D (j + 1) (step j s) where
  q := I.q
  k := I.k
  v := I.v
  g := I.g
  b := I.b
  st := b38_at j I
  o t b h v ht := by
    show b47 (F := Ideal) j s (ValueIdx.ix4 t b h v) = _
    refine (put4 _ _ _ _ j (word_int j j.isLt) rfl rfl rfl t b h v).trans ?_
    by_cases e : t = j
    · rw [if_pos e, b43_at j I, e]
    · rw [if_neg e]
      exact I.o t b h v (lt_of_le_of_ne (Nat.lt_succ_iff.mp ht) fun h => e (Fin.ext h))

end Trip

variable {D : Data} {a0 : FVec Ideal S10x3072x20x96 .f32} {a1 : IVec S10x3072x20x3 8} {a2 : FVec Ideal S10x3072x20x96 .f32} {a3 : IVec S10x3072x20x3 8}
  {a4 : FVec Ideal S10x3072x20x128 .bf16} {a5 : FVec Ideal S10x3072x20x96 .f32} {a6 : FVec Ideal S10x3072x20 .f32} {a7 : FVec Ideal S10x20x96x128 .f32}

/-- The state the loop starts from. -/
theorem inv_init (R : D.Rep a0 a1 a2 a3 a4 a5 a6 a7) : Inv D 0 (init (F := Ideal) a7 a0 a1 a2 a3 a4 a5 a6) where
  q t b h d := by
    show A_main_v25 (F := Ideal) a0 a1 a2 a3 a4 a5 a6 (ValueIdx.ix4 t b h d) = _
    unfold A_main_v25
    refine (transpose_apply _ _ _ _ (ValueIdx.ix4 b t h d) (by intro k; fin_cases k <;> rfl)).trans ?_
    exact dec_at a0 a1 natLt_8_32 b t h d (D.cq b h) (D.eq b h) (R.cq b t h d) (fun i => (R.eq b t h i).1) _ rfl
  k t b h d := by
    show A_main_v26 (F := Ideal) a0 a1 a2 a3 a4 a5 a6 (ValueIdx.ix4 t b h d) = _
    unfold A_main_v26
    refine (transpose_apply _ _ _ _ (ValueIdx.ix4 b t h d) (by intro k; fin_cases k <;> rfl)).trans ?_
    exact dec_at a2 a3 natLt_8_32 b t h d (D.ck b h) (D.ek b h) (R.ck b t h d) (fun i => (R.ek b t h i).1) _ rfl
  v t b h v := (transpose_apply _ _ _ _ (ValueIdx.ix4 b t h v) (by intro k; fin_cases k <;> rfl)).trans (R.v b t h v)
  g t b h d := (transpose_apply _ _ _ _ (ValueIdx.ix4 b t h d) (by intro k; fin_cases k <;> rfl)).trans (R.g b t h d)
  b t b h := (transpose_apply _ _ _ _ (ValueIdx.ix3 b t h) (by intro k; fin_cases k <;> rfl)).trans (R.b b t h)
  st := R.s
  o t b h v ht := absurd ht (Nat.not_lt_zero _)

/-- The states of the loop. -/
def iter (s0 : State Ideal) : ℕ → State Ideal
  | 0 => s0
  | n + 1 => step n (iter s0 n)

theorem inv_iter {s0 : State Ideal} (I : Inv D 0 s0) : ∀ n ≤ 3072, Inv D n (iter s0 n)
  | 0, _ => I
  | n + 1, h => inv_step ⟨n, h⟩ (inv_iter I n (Nat.le_of_succ_le h))

/-- The reference's outputs. -/
theorem out_at {s : State Ideal} (I : Inv D 3072 s) (i : S10x3072x2560.Idx) :
    R_main_v34 s i = ((D.out (i 0).val ((i 2).val / 128) (i 1).val ((i 2).val % 128) : ℝ) : EReal) := by
  obtain ⟨b, t, x, rfl⟩ : ∃ (b : Fin 10) (t : Fin 3072) (x : Fin 2560), i = ValueIdx.ix3 b t x := ⟨i 0, i 1, i 2, ValueIdx.eq_ix3 i⟩
  have hx := x.isLt
  show (shapeCast S10x3072x2560 (transpose S10x3072x20x128 [1, 0, 2, 3] (s.main_v31_7) transposes_S3072x10x20x128_S10x3072x20x128_1_0_2_3)
    shapeCasts_S10x3072x20x128_S10x3072x2560 : FVec Ideal S10x3072x2560 .f32) (ValueIdx.ix3 b t x) = _
  refine (shapeCast_apply _ _ _ (ValueIdx.ix4 b t (⟨x.val / 128, by omega⟩ : Fin 20) (⟨x.val % 128, by omega⟩ : Fin 128)) ?_).trans ?_
  · rw [Shape.rowMajor_val_three, Shape.rowMajor_val_four]
    show ((b.val * 3072 + t.val) * 20 + x.val / 128) * 128 + x.val % 128 = (b.val * 3072 + t.val) * 2560 + x.val
    omega
  · exact (transpose_apply _ _ _ _ (ValueIdx.ix4 t b (⟨x.val / 128, by omega⟩ : Fin 20) (⟨x.val % 128, by omega⟩ : Fin 128)) (by intro k; fin_cases k <;> rfl)).trans
      (I.o t b _ _ t.isLt)

/-- The reference's final states. -/
theorem st_at {s : State Ideal} (I : Inv D 3072 s) (i : S10x20x96x128.Idx) :
    s.main_v31_6 i = ((D.st (i 0).val (i 1).val 3072 (i 2).val (i 3).val : ℝ) : EReal) := by
  rw [ValueIdx.eq_ix4 i]
  exact I.st _ _ _ _

end Kda.Ref
-- ==== Proof.Ref.Pre.lean ====
/-
  The precondition: every real argument is finite and every scale byte is a power of two's exponent.
-/
module

public import proofs.«01_k».proof.Proof.Kern.Inputs
public import proofs.«01_k».proof.Proof.Gen.Pre_finite_inputs
public import Idealize.ShloMosaic.Lib.ReduceAll

@[expose] public section

set_option maxRecDepth 16384

noncomputable section

namespace Kda.Pre

open Idealize.ShloMosaic Cert.Pre_finite_inputs Cert.Pre_finite_inputs.Gen

theorem top32 : Ideal.ofBits .f32 0x7F800000#32 = (⊤ : EReal) := by simp [Ideal.ofBits, Ideal.ieee]
theorem top16 : Ideal.ofBits .bf16 0x7F80#16 = (⊤ : EReal) := by simp [Ideal.ofBits, Ideal.ieee]

/-- An element below infinity in absolute value is a real. -/
theorem real_of_bit (x y : EReal) (hy : y = ⊤) (h : Ideal.cmp .olt (max x (-x)) y = 1#1) : x = ((x.toReal : ℝ) : EReal) := by
  subst hy
  have hl : max x (-x) < ⊤ := by
    by_contra hn
    rw [Ideal.cmp] at h
    simp [hn] at h
  refine (EReal.coe_toReal ?_ ?_).symm
  · rintro rfl; simp at hl
  · rintro rfl; simp at hl

/-- Every element of an array below infinity in absolute value is a real. -/
theorem real32 {s : Shape} (x : FVec Ideal s .f32) (w : S_.BroadcastsInDim s ![]) (axes : List (Fin s.rank)) (r : s.ReducesTo axes S_) (j : S_.Idx)
    (h : Host.reduce IntOp.andi (cmpf .olt (Host.absf x) (broadcastInDim s ![] w (constant (F := Ideal) S_ .f32 0x7F800000#32))) (constantI S_ 1 1#1) r h_S_ j = 1#1) (i : s.Idx) :
    x i = (((x i).toReal : ℝ) : EReal) :=
  haveI : Subsingleton S_.Idx := ⟨fun a b => funext fun k => k.elim0⟩
  real_of_bit _ _ top32 (Host.reduce_andi_all _ _ _ _ _ h i)

theorem real16 {s : Shape} (x : FVec Ideal s .bf16) (w : S_.BroadcastsInDim s ![]) (axes : List (Fin s.rank)) (r : s.ReducesTo axes S_) (j : S_.Idx)
    (h : Host.reduce IntOp.andi (cmpf .olt (Host.absf x) (broadcastInDim s ![] w (constant (F := Ideal) S_ .bf16 0x7F80#16))) (constantI S_ 1 1#1) r h_S_ j = 1#1) (i : s.Idx) :
    x i = (((x i).toReal : ℝ) : EReal) :=
  haveI : Subsingleton S_.Idx := ⟨fun a b => funext fun k => k.elim0⟩
  real_of_bit _ _ top16 (Host.reduce_andi_all _ _ _ _ _ h i)

/-- Every scale byte is between 1 and 254. -/
theorem byte {s : Shape} (x : IVec s 8) (w : S_.BroadcastsInDim s ![]) (axes : List (Fin s.rank)) (r : s.ReducesTo axes S_) (j : S_.Idx)
    (h : Host.reduce IntOp.andi (andi (cmpi .uge x (broadcastInDim s ![] w (constantI S_ 8 1#8))) (cmpi .ule x (broadcastInDim s ![] w (constantI S_ 8 254#8)))) (constantI S_ 1 1#1) r h_S_ j = 1#1) (i : s.Idx) :
    1 ≤ BitVec.toNat (w := 8) (x i) ∧ BitVec.toNat (w := 8) (x i) ≤ 254 := by
  haveI : Subsingleton S_.Idx := ⟨fun a b => funext fun k => k.elim0⟩
  have := IntOp.andi_eq_one.1 (Host.reduce_andi_all _ _ _ _ _ h i)
  exact ⟨IntOp.cmpi_uge.1 this.1, IntOp.cmpi_ule.1 this.2⟩

variable (a0 : FVec Ideal S10x3072x20x96 .f32) (a1 : IVec S10x3072x20x3 8) (a2 : FVec Ideal S10x3072x20x96 .f32) (a3 : IVec S10x3072x20x3 8)
  (a4 : FVec Ideal S10x3072x20x128 .bf16) (a5 : FVec Ideal S10x3072x20x96 .f32) (a6 : FVec Ideal S10x3072x20 .f32) (a7 : FVec Ideal S10x20x96x128 .f32)

/-- The reals the arrays hold. -/
def data : Data where
  cq b h d t := (a0 (ValueIdx.ix4 (Fin.ofNat 10 b) (Fin.ofNat 3072 t) (Fin.ofNat 20 h) (Fin.ofNat 96 d))).toReal
  eq b h i t := BitVec.toNat (w := 8) (a1 (ValueIdx.ix4 (Fin.ofNat 10 b) (Fin.ofNat 3072 t) (Fin.ofNat 20 h) (Fin.ofNat 3 i)))
  ck b h d t := (a2 (ValueIdx.ix4 (Fin.ofNat 10 b) (Fin.ofNat 3072 t) (Fin.ofNat 20 h) (Fin.ofNat 96 d))).toReal
  ek b h i t := BitVec.toNat (w := 8) (a3 (ValueIdx.ix4 (Fin.ofNat 10 b) (Fin.ofNat 3072 t) (Fin.ofNat 20 h) (Fin.ofNat 3 i)))
  v b h t v := (a4 (ValueIdx.ix4 (Fin.ofNat 10 b) (Fin.ofNat 3072 t) (Fin.ofNat 20 h) (Fin.ofNat 128 v))).toReal
  g b h d t := (a5 (ValueIdx.ix4 (Fin.ofNat 10 b) (Fin.ofNat 3072 t) (Fin.ofNat 20 h) (Fin.ofNat 96 d))).toReal
  b b h t := (a6 (ValueIdx.ix3 (Fin.ofNat 10 b) (Fin.ofNat 3072 t) (Fin.ofNat 20 h))).toReal
  s b h d v := (a7 (ValueIdx.ix4 (Fin.ofNat 10 b) (Fin.ofNat 20 h) (Fin.ofNat 96 d) (Fin.ofNat 128 v))).toReal

theorem ofNat_val {n : ℕ} [NeZero n] (i : Fin n) : Fin.ofNat n i.val = i := Fin.ext (Nat.mod_eq_of_lt i.isLt)

/-- Arrays the precondition allows hold reals. -/
theorem data_rep (h : fn (F := Ideal) a0 a1 a2 a3 a4 a5 a6 a7 = fun _ => 1#1) : (data a0 a1 a2 a3 a4 a5 a6 a7).Rep a0 a1 a2 a3 a4 a5 a6 a7 := by
  have h0 := congrFun h (fun k => k.elim0)
  unfold fn fn_part1 fn_part2 at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  constructor
  · intro b t h d; simp only [data, ofNat_val]; exact real32 a0 _ _ _ _ e0 _
  · intro b t h i; simp only [data, ofNat_val]; exact ⟨trivial, byte a1 _ _ _ _ e1 _⟩
  · intro b t h d; simp only [data, ofNat_val]; exact real32 a2 _ _ _ _ e2 _
  · intro b t h i; simp only [data, ofNat_val]; exact ⟨trivial, byte a3 _ _ _ _ e3 _⟩
  · intro b t h v; simp only [data, ofNat_val]; exact real16 a4 _ _ _ _ e4 _
  · intro b t h d; simp only [data, ofNat_val]; exact real32 a5 _ _ _ _ e5 _
  · intro b t h; simp only [data, ofNat_val]; exact real32 a6 _ _ _ _ e6 _
  · intro b h d v; simp only [data, ofNat_val]; exact real32 a7 _ _ _ _ e7 _

end Kda.Pre
-- ==== Proof.Kern.Claims.lean ====
/-
  The claims: the frames, the named constant, and the equality with the reference.
-/
module

public import proofs.«01_k».proof.Proof.Kern.Bits
public import proofs.«01_k».proof.Proof.Ref.Value
public import proofs.«01_k».proof.Proof.Ref.Pre

@[expose] public section

set_option maxRecDepth 16384

noncomputable section

namespace Cert.Proof

open Idealize.ShloMosaic Idealize.ShloMosaic.TcCoe Idealize.SL Idealize.SL.Sem

/-- The frame of the idealized kernel. -/
theorem ideal_frame : Cert.quiescent_KernelIdeal := fun m ρ _ => Cert.KernelIdeal.Gen.frame m ρ

/-- The frame of the idealized kernel from finite inputs. -/
theorem ideal_frame_pre : Cert.quiescent_KernelIdeal_pre_finite_inputs := fun m ρ _ => Cert.KernelIdeal.Gen.frame m ρ

/-- The frame of the reference. -/
theorem reference_frame : Cert.quiescent_ReferenceIdeal := fun m ρ _ =>
  (θ_run Cert.ReferenceIdeal.defs _ _).mono (fun r h => ⟨fun c => (h c).2.2, sem_eq_zero_of_no_sems (by decide) r.2⟩) (Cert.ReferenceIdeal.Value.run (F := Ideal) m ρ)

/-- The frame of the reference from finite inputs. -/
theorem reference_frame_pre : Cert.quiescent_ReferenceIdeal_pre_finite_inputs := fun m ρ _ => reference_frame m ρ trivial

/-- The named constant is the real it is named for. -/
theorem preserves : Cert.preserves_Kernel_KernelIdeal :=
  IdealRules.named_const.statement Cert.KernelIdeal.κ "log2_e" .f32 0x3FB8AA3B#32 (((Real.log 2)⁻¹ : ℝ) : EReal) rfl

/-- From finite inputs the kernel's two results are the reference's, element by element: both are the token recurrence over the reals. -/
theorem algebraic : Cert.algebraic_KernelIdeal_ReferenceIdeal_pre_finite_inputs := by
  intro m ρ m' ρ' hpre hagree
  refine ⟨_, _, Cert.KernelIdeal.Value.run_blocks m ρ, ?_⟩
  refine (θ_run Cert.ReferenceIdeal.defs _ _).mono (fun _ h c => ?_)
    (Cert.ReferenceIdeal.StepRun.run_iter m' ρ' (fun c n => Kda.Ref.iter (Cert.ReferenceIdeal.StepRun.initState m' c) n) (fun _ => rfl) (fun _ _ => rfl))
  obtain ⟨D, R⟩ : ∃ D : Kda.Data, D.Rep (Cert.KernelIdeal.Gen.arg m c Cert.KernelIdeal.main_arg0) (Cert.KernelIdeal.Gen.arg m c Cert.KernelIdeal.main_arg1) (Cert.KernelIdeal.Gen.arg m c Cert.KernelIdeal.main_arg2) (Cert.KernelIdeal.Gen.arg m c Cert.KernelIdeal.main_arg3) (Cert.KernelIdeal.Gen.arg m c Cert.KernelIdeal.main_arg4) (Cert.KernelIdeal.Gen.arg m c Cert.KernelIdeal.main_arg5) (Cert.KernelIdeal.Gen.arg m c Cert.KernelIdeal.main_arg6) (Cert.KernelIdeal.Gen.arg m c Cert.KernelIdeal.main_arg7) :=
    ⟨_, Kda.Pre.data_rep _ _ _ _ _ _ _ _ (hpre c)⟩
  obtain ⟨g0, g1, g2, g3, g4, g5, g6, g7⟩ := hagree c
  have I0 : Kda.Ref.Inv D 0 (Cert.ReferenceIdeal.StepRun.initState m' c) := by
    unfold Cert.ReferenceIdeal.StepRun.initState
    rw [g0, g1, g2, g3, g4, g5, g6, g7]
    exact Kda.Ref.inv_init R
  have I := Kda.Ref.inv_iter I0 3072 le_rfl
  refine ⟨(h c).1.trans (funext fun i => ?_), (h c).2.1.trans (funext fun i => ?_), (h c).2.2⟩
  · exact (Kda.Ref.out_at I i).trans (Kda.out_arr m c R i).symm
  · exact (Kda.Ref.st_at I i).trans (Kda.st_arr m c R i).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.ReferenceIdeal.Run
public import proofs.«01_k».proof.Proof.Gen.ReferenceIdeal.Step
public import proofs.«01_k».proof.Proof.Kern.Claims
public import Idealize.ShloMosaic.Adequacy
public import Idealize.ShloMosaic.Init

@[expose] public section

noncomputable section

namespace Cert.Proof

open Idealize.ShloMosaic Idealize.SL.Sem Cert.Kernel

/-- All the claims: the frames of the kernel, of its idealization and of the reference, the named constant, and the equality of the two programs' results over the reals. -/
theorem claim : Cert.Claim := ⟨Cert.Kernel.Gen.facts, Cert.KernelIdeal.Gen.facts, Cert.ReferenceIdeal.Gen.facts, Cert.Pre_finite_inputs.Gen.facts,
  kernel_frame, ideal_frame, ideal_frame_pre, reference_frame, reference_frame_pre, preserves, algebraic⟩

end Cert.Proof

end
